-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 512]⟩ ⟨2, ![4096, 4096]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 2048]⟩ ⟨2, ![4096, 2048]⟩ 0 8 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v14) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x512 : Shape := ⟨2, ![4096, 512]⟩
abbrev S512x2048 : Shape := ⟨2, ![512, 2048]⟩
abbrev S4096x2048 : Shape := ⟨2, ![4096, 2048]⟩
abbrev S4x3x512x512 : Shape := ⟨4, ![4, 3, 512, 512]⟩
abbrev S4x2x3 : Shape := ⟨3, ![4, 2, 3]⟩
abbrev S_ : Shape := ⟨0, ![]⟩
abbrev S512x512 : Shape := ⟨2, ![512, 512]⟩
abbrev S1x1x512x512 : Shape := ⟨4, ![1, 1, 512, 512]⟩
abbrev S1x1x1 : Shape := ⟨3, ![1, 1, 1]⟩

abbrev nBuf : Space → Nat
  | .hbm => 3
  | .vmem => 6
  | .smem => 0
  | _ => 0

abbrev bufTy : (tb : Table) → Fin (tcTables nBuf tb) → BufTy
  | .hbm, ⟨0, _⟩ => ⟨S4096x512, .bf16⟩
  | .hbm, ⟨1, _⟩ => ⟨S512x2048, .bf16⟩
  | .hbm, ⟨2, _⟩ => ⟨S4096x2048, .bf16⟩
  | .local _ .vmem, ⟨0, _⟩ => ⟨S4096x512, .bf16⟩
  | .local _ .vmem, ⟨1, _⟩ => ⟨S512x2048, .bf16⟩
  | .local _ .vmem, ⟨2, _⟩ => ⟨S4096x2048, .bf16⟩
  | .local _ .vmem, ⟨3, _⟩ => ⟨S4x3x512x512, .bf16⟩
  | .local _ .vmem, ⟨4, _⟩ => ⟨S4096x512, .bf16⟩
  | .local _ .vmem, ⟨5, _⟩ => ⟨S512x2048, .bf16⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  (ofTc nBuf bufTy 1 27 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_sem0_0 : DmaSem sig := 0
abbrev cc0_sem1_0 : DmaSem sig := 1
abbrev cc0_sem2_0 : DmaSem sig := 2
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_8 : BitVec 32 := 1#32
  let v11 : BitVec 32 := Scalar.muli v7 c1_i32_8
  let v12 : BitVec 32 := Scalar.addi c0_i32_9 v11
  v12.toNat
def k0_off1 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32 : BitVec 32 := 512#32
  let v18 : BitVec 32 := Scalar.muli v2 c512_i32
  let v19 : Index := Scalar.indexCast v18
  let c0_13 : Index := 0#32
  ![v19.toNat, 0]
def k0_dev3 (d0 : Dev nD) : Nat :=
  let c0_i32_34 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_33 : BitVec 32 := 1#32
  let v35 : BitVec 32 := Scalar.muli v7 c1_i32_33
  let v36 : BitVec 32 := Scalar.addi c0_i32_34 v35
  v36.toNat
def k0_dev4 (d0 : Dev nD) : Nat :=
  let c0_i32_57 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_56 : BitVec 32 := 1#32
  let v54 : BitVec 32 := Scalar.muli v5 c1_i32_56
  let v55 : BitVec 32 := Scalar.addi c0_i32_57 v54
  v55.toNat
def k0_dev5 (d0 : Dev nD) : Nat :=
  let c0_i32_106 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_105 : BitVec 32 := 1#32
  let v93 : BitVec 32 := Scalar.muli v7 c1_i32_105
  let v94 : BitVec 32 := Scalar.addi c0_i32_106 v93
  v94.toNat
def k0_dev6 (d0 : Dev nD) : Nat :=
  let c0_i32_136 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_135 : BitVec 32 := 1#32
  let v109 : BitVec 32 := Scalar.muli v5 c1_i32_135
  let v110 : BitVec 32 := Scalar.addi c0_i32_136 v109
  v110.toNat
def k0_off2 (d0 : Dev nD) (c0_i32_141 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c16_i32 : BitVec 32 := 16#32
  let v119 : BitVec 32 := Scalar.addi v2 c16_i32
  let v120 : BitVec 32 := Scalar.subi v119 c0_i32_141
  let c1_i32_142 : BitVec 32 := 1#32
  let v121 : BitVec 32 := Scalar.subi v120 c1_i32_142
  let c8_i32_143 : BitVec 32 := 8#32
  let v122 : BitVec 32 := Scalar.remsi v121 c8_i32_143
  let c512_i32_167 : BitVec 32 := 512#32
  let v137 : BitVec 32 := Scalar.muli v122 c512_i32_167
  let v138 : Index := Scalar.indexCast v137
  let c0_168 : Index := 0#32
  ![v138.toNat, 0]
def k0_dev7 (d0 : Dev nD) : Nat :=
  let c0_i32_202 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_201 : BitVec 32 := 1#32
  let v153 : BitVec 32 := Scalar.muli v7 c1_i32_201
  let v154 : BitVec 32 := Scalar.addi c0_i32_202 v153
  v154.toNat
def k0_off3 (d0 : Dev nD) (c0_i32_144 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v123 : BitVec 32 := Scalar.addi v2 c0_i32_144
  let c1_i32_145 : BitVec 32 := 1#32
  let v124 : BitVec 32 := Scalar.addi v123 c1_i32_145
  let c8_i32_146 : BitVec 32 := 8#32
  let v125 : BitVec 32 := Scalar.remsi v124 c8_i32_146
  let c512_i32_227 : BitVec 32 := 512#32
  let v174 : BitVec 32 := Scalar.muli v125 c512_i32_227
  let v175 : Index := Scalar.indexCast v174
  let c0_228 : Index := 0#32
  ![v175.toNat, 0]
def k0_dev8 (d0 : Dev nD) : Nat :=
  let c0_i32_262 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_261 : BitVec 32 := 1#32
  let v190 : BitVec 32 := Scalar.muli v5 c1_i32_261
  let v191 : BitVec 32 := Scalar.addi c0_i32_262 v190
  v191.toNat
def k0_dev9 (d0 : Dev nD) : Nat :=
  let c0_i32_322 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_321 : BitVec 32 := 1#32
  let v227 : BitVec 32 := Scalar.muli v7 c1_i32_321
  let v228 : BitVec 32 := Scalar.addi c0_i32_322 v227
  v228.toNat
def k0_dev10 (d0 : Dev nD) : Nat :=
  let c0_i32_382 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_381 : BitVec 32 := 1#32
  let v264 : BitVec 32 := Scalar.muli v5 c1_i32_381
  let v265 : BitVec 32 := Scalar.addi c0_i32_382 v264
  v265.toNat
def k0_dev11 (d0 : Dev nD) : Nat :=
  let c0_i32_449 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_448 : BitVec 32 := 1#32
  let v308 : BitVec 32 := Scalar.muli v7 c1_i32_448
  let v309 : BitVec 32 := Scalar.addi c0_i32_449 v308
  v309.toNat
def k0_dev12 (d0 : Dev nD) : Nat :=
  let c0_i32_509 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_508 : BitVec 32 := 1#32
  let v345 : BitVec 32 := Scalar.muli v5 c1_i32_508
  let v346 : BitVec 32 := Scalar.addi c0_i32_509 v345
  v346.toNat
def k0_dev13 (d0 : Dev nD) : Nat :=
  let c0_i32_569 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_568 : BitVec 32 := 1#32
  let v382 : BitVec 32 := Scalar.muli v7 c1_i32_568
  let v383 : BitVec 32 := Scalar.addi c0_i32_569 v382
  v383.toNat
def k0_dev14 (d0 : Dev nD) : Nat :=
  let c0_i32_629 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_628 : BitVec 32 := 1#32
  let v419 : BitVec 32 := Scalar.muli v5 c1_i32_628
  let v420 : BitVec 32 := Scalar.addi c0_i32_629 v419
  v420.toNat
def k0_dev15 (d0 : Dev nD) : Nat :=
  let c0_i32_696 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_695 : BitVec 32 := 1#32
  let v463 : BitVec 32 := Scalar.muli v7 c1_i32_695
  let v464 : BitVec 32 := Scalar.addi c0_i32_696 v463
  v464.toNat
def k0_dev16 (d0 : Dev nD) : Nat :=
  let c0_i32_756 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_755 : BitVec 32 := 1#32
  let v500 : BitVec 32 := Scalar.muli v5 c1_i32_755
  let v501 : BitVec 32 := Scalar.addi c0_i32_756 v500
  v501.toNat
def k0_dev17 (d0 : Dev nD) : Nat :=
  let c0_i32_816 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_815 : BitVec 32 := 1#32
  let v537 : BitVec 32 := Scalar.muli v7 c1_i32_815
  let v538 : BitVec 32 := Scalar.addi c0_i32_816 v537
  v538.toNat
def k0_dev18 (d0 : Dev nD) : Nat :=
  let c0_i32_876 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_875 : BitVec 32 := 1#32
  let v574 : BitVec 32 := Scalar.muli v5 c1_i32_875
  let v575 : BitVec 32 := Scalar.addi c0_i32_876 v574
  v575.toNat
def k0_dev19 (d0 : Dev nD) : Nat :=
  let c0_i32_943 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_942 : BitVec 32 := 1#32
  let v618 : BitVec 32 := Scalar.muli v7 c1_i32_942
  let v619 : BitVec 32 := Scalar.addi c0_i32_943 v618
  v619.toNat
def k0_dev20 (d0 : Dev nD) : Nat :=
  let c0_i32_1003 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1002 : BitVec 32 := 1#32
  let v655 : BitVec 32 := Scalar.muli v5 c1_i32_1002
  let v656 : BitVec 32 := Scalar.addi c0_i32_1003 v655
  v656.toNat
def k0_dev21 (d0 : Dev nD) : Nat :=
  let c0_i32_1063 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1062 : BitVec 32 := 1#32
  let v692 : BitVec 32 := Scalar.muli v7 c1_i32_1062
  let v693 : BitVec 32 := Scalar.addi c0_i32_1063 v692
  v693.toNat
def k0_dev22 (d0 : Dev nD) : Nat :=
  let c0_i32_1123 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1122 : BitVec 32 := 1#32
  let v729 : BitVec 32 := Scalar.muli v5 c1_i32_1122
  let v730 : BitVec 32 := Scalar.addi c0_i32_1123 v729
  v730.toNat
def k0_dev23 (d0 : Dev nD) : Nat :=
  let c0_i32_1189 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1188 : BitVec 32 := 1#32
  let v773 : BitVec 32 := Scalar.muli v7 c1_i32_1188
  let v774 : BitVec 32 := Scalar.addi c0_i32_1189 v773
  v774.toNat
def k0_dev24 (d0 : Dev nD) : Nat :=
  let c0_i32_1249 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1248 : BitVec 32 := 1#32
  let v810 : BitVec 32 := Scalar.muli v5 c1_i32_1248
  let v811 : BitVec 32 := Scalar.addi c0_i32_1249 v810
  v811.toNat
def k0_dev25 (d0 : Dev nD) : Nat :=
  let c0_i32_1309 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1308 : BitVec 32 := 1#32
  let v847 : BitVec 32 := Scalar.muli v7 c1_i32_1308
  let v848 : BitVec 32 := Scalar.addi c0_i32_1309 v847
  v848.toNat
def k0_dev26 (d0 : Dev nD) : Nat :=
  let c0_i32_1369 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1368 : BitVec 32 := 1#32
  let v884 : BitVec 32 := Scalar.muli v5 c1_i32_1368
  let v885 : BitVec 32 := Scalar.addi c0_i32_1369 v884
  v885.toNat
def k0_dev27 (d0 : Dev nD) : Nat :=
  let c0_i32_1435 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1434 : BitVec 32 := 1#32
  let v928 : BitVec 32 := Scalar.muli v7 c1_i32_1434
  let v929 : BitVec 32 := Scalar.addi c0_i32_1435 v928
  v929.toNat
def k0_dev28 (d0 : Dev nD) : Nat :=
  let c0_i32_1495 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1494 : BitVec 32 := 1#32
  let v965 : BitVec 32 := Scalar.muli v5 c1_i32_1494
  let v966 : BitVec 32 := Scalar.addi c0_i32_1495 v965
  v966.toNat
def k0_dev29 (d0 : Dev nD) : Nat :=
  let c0_i32_1555 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1554 : BitVec 32 := 1#32
  let v1002 : BitVec 32 := Scalar.muli v7 c1_i32_1554
  let v1003 : BitVec 32 := Scalar.addi c0_i32_1555 v1002
  v1003.toNat
def k0_dev30 (d0 : Dev nD) : Nat :=
  let c0_i32_1615 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1614 : BitVec 32 := 1#32
  let v1039 : BitVec 32 := Scalar.muli v5 c1_i32_1614
  let v1040 : BitVec 32 := Scalar.addi c0_i32_1615 v1039
  v1040.toNat
def k0_off4 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1742 : BitVec 32 := 1#32
  let v1140 : BitVec 32 := Scalar.addi v2 c1_i32_1742
  let c8_i32_1743 : BitVec 32 := 8#32
  let v1141 : BitVec 32 := Scalar.remsi v1140 c8_i32_1743
  let c512_i32_1755 : BitVec 32 := 512#32
  let v1162 : BitVec 32 := Scalar.muli v1141 c512_i32_1755
  let v1163 : Index := Scalar.indexCast v1162
  let c0_1756 : Index := 0#32
  ![v1163.toNat, 0]
def k0_off5 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1742 : BitVec 32 := 1#32
  let v1140 : BitVec 32 := Scalar.addi v2 c1_i32_1742
  let c8_i32_1743 : BitVec 32 := 8#32
  let v1141 : BitVec 32 := Scalar.remsi v1140 c8_i32_1743
  let c512_i32_1757 : BitVec 32 := 512#32
  let v1165 : BitVec 32 := Scalar.muli v1141 c512_i32_1757
  let c0_i32_1781 : BitVec 32 := 0#32
  ![v1165.toNat, 0]
def k0_dev31 (d0 : Dev nD) : Nat :=
  let c0_i32_1780 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1779 : BitVec 32 := 1#32
  let v1172 : BitVec 32 := Scalar.muli v7 c1_i32_1779
  let v1173 : BitVec 32 := Scalar.addi c0_i32_1780 v1172
  v1173.toNat
def k0_off6 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_1744 : BitVec 32 := 8#32
  let v1142 : BitVec 32 := Scalar.addi v2 c8_i32_1744
  let c1_i32_1745 : BitVec 32 := 1#32
  let v1143 : BitVec 32 := Scalar.subi v1142 c1_i32_1745
  let c8_i32_1746 : BitVec 32 := 8#32
  let v1144 : BitVec 32 := Scalar.remsi v1143 c8_i32_1746
  let c512_i32_1791 : BitVec 32 := 512#32
  let v1197 : BitVec 32 := Scalar.muli v1144 c512_i32_1791
  let v1198 : Index := Scalar.indexCast v1197
  let c1024_1792 : Index := 1024#32
  ![v1198.toNat, 1024]
def k0_off7 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_1744 : BitVec 32 := 8#32
  let v1142 : BitVec 32 := Scalar.addi v2 c8_i32_1744
  let c1_i32_1745 : BitVec 32 := 1#32
  let v1143 : BitVec 32 := Scalar.subi v1142 c1_i32_1745
  let c8_i32_1746 : BitVec 32 := 8#32
  let v1144 : BitVec 32 := Scalar.remsi v1143 c8_i32_1746
  let c512_i32_1793 : BitVec 32 := 512#32
  let v1200 : BitVec 32 := Scalar.muli v1144 c512_i32_1793
  let c1024_i32 : BitVec 32 := 1024#32
  ![v1200.toNat, 1024]
def k0_dev32 (d0 : Dev nD) : Nat :=
  let c0_i32_1816 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1815 : BitVec 32 := 1#32
  let v1207 : BitVec 32 := Scalar.muli v5 c1_i32_1815
  let v1208 : BitVec 32 := Scalar.addi c0_i32_1816 v1207
  v1208.toNat
def k0_off8 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1742 : BitVec 32 := 1#32
  let v1140 : BitVec 32 := Scalar.addi v2 c1_i32_1742
  let c8_i32_1743 : BitVec 32 := 8#32
  let v1141 : BitVec 32 := Scalar.remsi v1140 c8_i32_1743
  let c512_i32_1826 : BitVec 32 := 512#32
  let v1232 : BitVec 32 := Scalar.muli v1141 c512_i32_1826
  let v1233 : Index := Scalar.indexCast v1232
  let c512_1827 : Index := 512#32
  ![v1233.toNat, 512]
def k0_off9 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1742 : BitVec 32 := 1#32
  let v1140 : BitVec 32 := Scalar.addi v2 c1_i32_1742
  let c8_i32_1743 : BitVec 32 := 8#32
  let v1141 : BitVec 32 := Scalar.remsi v1140 c8_i32_1743
  let c512_i32_1828 : BitVec 32 := 512#32
  let v1235 : BitVec 32 := Scalar.muli v1141 c512_i32_1828
  let c512_i32_1846 : BitVec 32 := 512#32
  ![v1235.toNat, 512]
def k0_dev33 (d0 : Dev nD) : Nat :=
  let c0_i32_1845 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1844 : BitVec 32 := 1#32
  let v1240 : BitVec 32 := Scalar.muli v7 c1_i32_1844
  let v1241 : BitVec 32 := Scalar.addi c0_i32_1845 v1240
  v1241.toNat
def k0_off10 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_1744 : BitVec 32 := 8#32
  let v1142 : BitVec 32 := Scalar.addi v2 c8_i32_1744
  let c1_i32_1745 : BitVec 32 := 1#32
  let v1143 : BitVec 32 := Scalar.subi v1142 c1_i32_1745
  let c8_i32_1746 : BitVec 32 := 8#32
  let v1144 : BitVec 32 := Scalar.remsi v1143 c8_i32_1746
  let c512_i32_1856 : BitVec 32 := 512#32
  let v1265 : BitVec 32 := Scalar.muli v1144 c512_i32_1856
  let v1266 : Index := Scalar.indexCast v1265
  let c1536_1857 : Index := 1536#32
  ![v1266.toNat, 1536]
def k0_off11 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_1744 : BitVec 32 := 8#32
  let v1142 : BitVec 32 := Scalar.addi v2 c8_i32_1744
  let c1_i32_1745 : BitVec 32 := 1#32
  let v1143 : BitVec 32 := Scalar.subi v1142 c1_i32_1745
  let c8_i32_1746 : BitVec 32 := 8#32
  let v1144 : BitVec 32 := Scalar.remsi v1143 c8_i32_1746
  let c512_i32_1858 : BitVec 32 := 512#32
  let v1268 : BitVec 32 := Scalar.muli v1144 c512_i32_1858
  let c1536_i32 : BitVec 32 := 1536#32
  ![v1268.toNat, 1536]
def k0_dev34 (d0 : Dev nD) : Nat :=
  let c0_i32_1875 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1874 : BitVec 32 := 1#32
  let v1273 : BitVec 32 := Scalar.muli v5 c1_i32_1874
  let v1274 : BitVec 32 := Scalar.addi c0_i32_1875 v1273
  v1274.toNat
def k0_off12 (d0 : Dev nD) (c0_i32_1878 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c16_i32_1877 : BitVec 32 := 16#32
  let v1281 : BitVec 32 := Scalar.addi v2 c16_i32_1877
  let v1282 : BitVec 32 := Scalar.subi v1281 c0_i32_1878
  let c8_i32_1879 : BitVec 32 := 8#32
  let v1283 : BitVec 32 := Scalar.remsi v1282 c8_i32_1879
  let c512_i32_1892 : BitVec 32 := 512#32
  let v1292 : BitVec 32 := Scalar.muli v1283 c512_i32_1892
  let c0_i32_1910 : BitVec 32 := 0#32
  ![v1292.toNat, 0]
def k0_dev35 (d0 : Dev nD) : Nat :=
  let c0_i32_1909 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1908 : BitVec 32 := 1#32
  let v1297 : BitVec 32 := Scalar.muli v7 c1_i32_1908
  let v1298 : BitVec 32 := Scalar.addi c0_i32_1909 v1297
  v1298.toNat
def k0_off13 (d0 : Dev nD) (c0_i32_1880 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1284 : BitVec 32 := Scalar.addi v2 c0_i32_1880
  let c8_i32_1881 : BitVec 32 := 8#32
  let v1285 : BitVec 32 := Scalar.remsi v1284 c8_i32_1881
  let c512_i32_1922 : BitVec 32 := 512#32
  let v1311 : BitVec 32 := Scalar.muli v1285 c512_i32_1922
  let c1024_i32_1940 : BitVec 32 := 1024#32
  ![v1311.toNat, 1024]
def k0_dev36 (d0 : Dev nD) : Nat :=
  let c0_i32_1939 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1938 : BitVec 32 := 1#32
  let v1316 : BitVec 32 := Scalar.muli v5 c1_i32_1938
  let v1317 : BitVec 32 := Scalar.addi c0_i32_1939 v1316
  v1317.toNat
def k0_off14 (d0 : Dev nD) (c0_i32_1878 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c16_i32_1877 : BitVec 32 := 16#32
  let v1281 : BitVec 32 := Scalar.addi v2 c16_i32_1877
  let v1282 : BitVec 32 := Scalar.subi v1281 c0_i32_1878
  let c8_i32_1879 : BitVec 32 := 8#32
  let v1283 : BitVec 32 := Scalar.remsi v1282 c8_i32_1879
  let c512_i32_1952 : BitVec 32 := 512#32
  let v1330 : BitVec 32 := Scalar.muli v1283 c512_i32_1952
  let c512_i32_1970 : BitVec 32 := 512#32
  ![v1330.toNat, 512]
def k0_dev37 (d0 : Dev nD) : Nat :=
  let c0_i32_1969 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1968 : BitVec 32 := 1#32
  let v1335 : BitVec 32 := Scalar.muli v7 c1_i32_1968
  let v1336 : BitVec 32 := Scalar.addi c0_i32_1969 v1335
  v1336.toNat
def k0_off15 (d0 : Dev nD) (c0_i32_1880 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1284 : BitVec 32 := Scalar.addi v2 c0_i32_1880
  let c8_i32_1881 : BitVec 32 := 8#32
  let v1285 : BitVec 32 := Scalar.remsi v1284 c8_i32_1881
  let c512_i32_1982 : BitVec 32 := 512#32
  let v1349 : BitVec 32 := Scalar.muli v1285 c512_i32_1982
  let c1536_i32_2000 : BitVec 32 := 1536#32
  ![v1349.toNat, 1536]
def k0_dev38 (d0 : Dev nD) : Nat :=
  let c0_i32_1999 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1998 : BitVec 32 := 1#32
  let v1354 : BitVec 32 := Scalar.muli v5 c1_i32_1998
  let v1355 : BitVec 32 := Scalar.addi c0_i32_1999 v1354
  v1355.toNat
def k0_dev39 (d0 : Dev nD) : Nat :=
  let c0_i32_2034 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2033 : BitVec 32 := 1#32
  let v1378 : BitVec 32 := Scalar.muli v7 c1_i32_2033
  let v1379 : BitVec 32 := Scalar.addi c0_i32_2034 v1378
  v1379.toNat
def k0_dev40 (d0 : Dev nD) : Nat :=
  let c0_i32_2064 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_2063 : BitVec 32 := 1#32
  let v1397 : BitVec 32 := Scalar.muli v5 c1_i32_2063
  let v1398 : BitVec 32 := Scalar.addi c0_i32_2064 v1397
  v1398.toNat
def k0_dev41 (d0 : Dev nD) : Nat :=
  let c0_i32_2094 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2093 : BitVec 32 := 1#32
  let v1416 : BitVec 32 := Scalar.muli v7 c1_i32_2093
  let v1417 : BitVec 32 := Scalar.addi c0_i32_2094 v1416
  v1417.toNat
def k0_dev42 (d0 : Dev nD) : Nat :=
  let c0_i32_2124 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_2123 : BitVec 32 := 1#32
  let v1435 : BitVec 32 := Scalar.muli v5 c1_i32_2123
  let v1436 : BitVec 32 := Scalar.addi c0_i32_2124 v1435
  v1436.toNat
def k0_dev43 (d0 : Dev nD) : Nat :=
  let c0_i32_2159 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2158 : BitVec 32 := 1#32
  let v1459 : BitVec 32 := Scalar.muli v7 c1_i32_2158
  let v1460 : BitVec 32 := Scalar.addi c0_i32_2159 v1459
  v1460.toNat
def k0_dev44 (d0 : Dev nD) : Nat :=
  let c0_i32_2189 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_2188 : BitVec 32 := 1#32
  let v1478 : BitVec 32 := Scalar.muli v5 c1_i32_2188
  let v1479 : BitVec 32 := Scalar.addi c0_i32_2189 v1478
  v1479.toNat
def k0_dev45 (d0 : Dev nD) : Nat :=
  let c0_i32_2219 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2218 : BitVec 32 := 1#32
  let v1497 : BitVec 32 := Scalar.muli v7 c1_i32_2218
  let v1498 : BitVec 32 := Scalar.addi c0_i32_2219 v1497
  v1498.toNat
def k0_dev46 (d0 : Dev nD) : Nat :=
  let c0_i32_2249 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_2248 : BitVec 32 := 1#32
  let v1516 : BitVec 32 := Scalar.muli v5 c1_i32_2248
  let v1517 : BitVec 32 := Scalar.addi c0_i32_2249 v1516
  v1517.toNat
def k0_dev47 (d0 : Dev nD) : Nat :=
  let c0_i32_2284 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2283 : BitVec 32 := 1#32
  let v1540 : BitVec 32 := Scalar.muli v7 c1_i32_2283
  let v1541 : BitVec 32 := Scalar.addi c0_i32_2284 v1540
  v1541.toNat
def k0_dev48 (d0 : Dev nD) : Nat :=
  let c0_i32_2314 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_2313 : BitVec 32 := 1#32
  let v1559 : BitVec 32 := Scalar.muli v5 c1_i32_2313
  let v1560 : BitVec 32 := Scalar.addi c0_i32_2314 v1559
  v1560.toNat
def k0_dev49 (d0 : Dev nD) : Nat :=
  let c0_i32_2344 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2343 : BitVec 32 := 1#32
  let v1578 : BitVec 32 := Scalar.muli v7 c1_i32_2343
  let v1579 : BitVec 32 := Scalar.addi c0_i32_2344 v1578
  v1579.toNat
def k0_dev50 (d0 : Dev nD) : Nat :=
  let c0_i32_2374 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_2373 : BitVec 32 := 1#32
  let v1597 : BitVec 32 := Scalar.muli v5 c1_i32_2373
  let v1598 : BitVec 32 := Scalar.addi c0_i32_2374 v1597
  v1598.toNat
def k0_dev51 (d0 : Dev nD) : Nat :=
  let c0_i32_2409 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2408 : BitVec 32 := 1#32
  let v1621 : BitVec 32 := Scalar.muli v7 c1_i32_2408
  let v1622 : BitVec 32 := Scalar.addi c0_i32_2409 v1621
  v1622.toNat
def k0_dev52 (d0 : Dev nD) : Nat :=
  let c0_i32_2439 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_2438 : BitVec 32 := 1#32
  let v1640 : BitVec 32 := Scalar.muli v5 c1_i32_2438
  let v1641 : BitVec 32 := Scalar.addi c0_i32_2439 v1640
  v1641.toNat
def k0_dev53 (d0 : Dev nD) : Nat :=
  let c0_i32_2469 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2468 : BitVec 32 := 1#32
  let v1659 : BitVec 32 := Scalar.muli v7 c1_i32_2468
  let v1660 : BitVec 32 := Scalar.addi c0_i32_2469 v1659
  v1660.toNat
def k0_dev54 (d0 : Dev nD) : Nat :=
  let c0_i32_2499 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_2498 : BitVec 32 := 1#32
  let v1678 : BitVec 32 := Scalar.muli v5 c1_i32_2498
  let v1679 : BitVec 32 := Scalar.addi c0_i32_2499 v1678
  v1679.toNat
def k0_dev55 (d0 : Dev nD) : Nat :=
  let c0_i32_2534 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2533 : BitVec 32 := 1#32
  let v1702 : BitVec 32 := Scalar.muli v7 c1_i32_2533
  let v1703 : BitVec 32 := Scalar.addi c0_i32_2534 v1702
  v1703.toNat
def k0_dev56 (d0 : Dev nD) : Nat :=
  let c0_i32_2564 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_2563 : BitVec 32 := 1#32
  let v1721 : BitVec 32 := Scalar.muli v5 c1_i32_2563
  let v1722 : BitVec 32 := Scalar.addi c0_i32_2564 v1721
  v1722.toNat
def k0_dev57 (d0 : Dev nD) : Nat :=
  let c0_i32_2594 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2593 : BitVec 32 := 1#32
  let v1740 : BitVec 32 := Scalar.muli v7 c1_i32_2593
  let v1741 : BitVec 32 := Scalar.addi c0_i32_2594 v1740
  v1741.toNat
def k0_dev58 (d0 : Dev nD) : Nat :=
  let c0_i32_2624 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_2623 : BitVec 32 := 1#32
  let v1759 : BitVec 32 := Scalar.muli v5 c1_i32_2623
  let v1760 : BitVec 32 := Scalar.addi c0_i32_2624 v1759
  v1760.toNat
abbrev stage0_0 : Fin 1 → Memref sig .tc .vmem S4096x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x2048, .bf16⟩
  | .hbm, ⟨2, _⟩ => ⟨S4096x2048, .f32⟩
  | .hbm, ⟨3, _⟩ => ⟨S_, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S_, .f32⟩
  | .hbm, ⟨9, _⟩ => ⟨S4096x2048, .f32⟩
  | .hbm, ⟨10, _⟩ => ⟨S4096x2048, .f32⟩
  | .hbm, ⟨11, _⟩ => ⟨S4096x2048, .f32⟩
  | .hbm, ⟨12, _⟩ => ⟨S_, .f32⟩
  | .hbm, ⟨13, _⟩ => ⟨S4096x2048, .f32⟩
  | .hbm, ⟨14, _⟩ => ⟨S4096x2048, .f32⟩
  | .hbm, ⟨15, _⟩ => ⟨S4096x2048, .f32⟩
  | .hbm, ⟨16, _⟩ => ⟨S_, .f32⟩
  | .hbm, ⟨17, _⟩ => ⟨S4096x2048, .f32⟩
  | .hbm, ⟨18, _⟩ => ⟨S4096x2048, .f32⟩
  | .hbm, ⟨19, _⟩ => ⟨S4096x2048, .f32⟩
  | .hbm, ⟨20, _⟩ => ⟨S4096x2048, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Proof.Ring.lean ====
/-
# The protocol of the two-way ring

Eight devices; four rings of transfers, one per quarter of the columns. Transfer number `n` (of 56) is hop `n / 4` of
ring `qn n`; the even numbers travel to the next device, the odd ones to the previous one. Hops 0..6 carry partial sums
through the communication slots, hops 7..13 carry finished blocks of the result.

Semaphores and what each landing hands over:
* the barrier cell of a device: one unit from each neighbour; the neighbour hands over that it has reached round 0 of
  the receive cells of the first transfers addressed to it (numbers 0..4) and the landing regions of these;
* the send cell `n % 12` of the sender, round `n / 12`: one duty, paid by transfer `n`, handing the source region back
  with its contents;
* the receive cell `n % 12` of the receiver, round `n / 12`: one duty, paid by transfer `n`, handing over the landing
  region with the contents `V n` and the sender's own landing region for transfer `n + 5` (which the receiver is the one
  to fill), with the sender's round of that receive cell.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Pipeline.Value
public import Idealize.ShloMosaic.Lib.Tactic

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) Bool
abbrev UU : Type := UR sig nD τ × UB

local notation "𝕄" => MT nD τ sig ℕ (Elt F) ℕ UU ℕ

abbrev EP : Emb (UR sig nD τ) (MT nD τ sig ℕ (Elt F) ℕ UU ℕ) := embL
abbrev ER : Emb UB (MT nD τ sig ℕ (Elt F) ℕ UU ℕ) := embR

variable (m : (ℓ : Loc nD τ sig) → Buf (Elt F) ℓ) (ρ : Dev nD → PrngReg)

/-- The memory at launch. -/
def s₀ : MemSt nD τ sig (Elt F) := ⟨m, fun _ => 0, ρ⟩

/-! ## The numbering -/

/-- The ring of transfer `n`. -/
def qn (n : ℕ) : Fin 4 := match n % 4 with | 0 => 0 | 1 => 2 | 2 => 1 | _ => 3

set_option backward.proofsInPublic true in
def nxt (c : Dev nD) : Dev nD := ⟨(c.val + 1) % 8, Nat.mod_lt _ (by decide)⟩
set_option backward.proofsInPublic true in
def prv (c : Dev nD) : Dev nD := ⟨(c.val + 7) % 8, Nat.mod_lt _ (by decide)⟩

theorem prv_nxt (c : Dev nD) : prv (nxt c) = c := by revert c; decide
theorem nxt_prv (c : Dev nD) : nxt (prv c) = c := by revert c; decide

/-- Whom transfer `n` of device `c` goes to, and whom transfer `n` to device `c` comes from. -/
def dst (n : ℕ) (c : Dev nD) : Dev nD := if n % 2 = 0 then nxt c else prv c
def src (n : ℕ) (c : Dev nD) : Dev nD := if n % 2 = 0 then prv c else nxt c

theorem src_dst (n : ℕ) (c : Dev nD) : src n (dst n c) = c := by
  unfold src dst; split <;> simp only [prv_nxt, nxt_prv]
theorem dst_src (n : ℕ) (c : Dev nD) : dst n (src n c) = c := by
  unfold src dst; split <;> simp only [prv_nxt, nxt_prv]
theorem dst_add5 (n : ℕ) (c : Dev nD) : dst (n + 5) c = src n c := by
  unfold src dst
  have : (n + 5) % 2 = 0 ↔ ¬ n % 2 = 0 := by omega
  by_cases h : n % 2 = 0
  · rw [if_neg (fun h' => (this.mp h') h), if_pos h]
  · rw [if_pos (this.mpr h), if_neg h]
theorem src_add5 (n : ℕ) (c : Dev nD) : src (n + 5) c = dst n c := by
  unfold src dst
  have : (n + 5) % 2 = 0 ↔ ¬ n % 2 = 0 := by omega
  by_cases h : n % 2 = 0
  · rw [if_neg (fun h' => (this.mp h') h), if_pos h]
  · rw [if_pos (this.mpr h), if_neg h]
theorem src_add4 (n : ℕ) (c : Dev nD) : src (n + 4) c = src n c := by
  unfold src; rw [show (n + 4) % 2 = n % 2 by omega]

set_option backward.proofsInPublic true in
/-- The rows (which eighth) transfer `n` of device `c` carries. -/
def chS (n : ℕ) (c : Dev nD) : Fin 8 :=
  if n % 2 = 0 then ⟨(c.val + 16 - n / 4) % 8, Nat.mod_lt _ (by decide)⟩ else ⟨(c.val + n / 4) % 8, Nat.mod_lt _ (by decide)⟩

theorem chS_add4 (n : ℕ) (hn : n < 52) (c : Dev nD) : chS (n + 4) c = chS n (src n c) := by
  have hc := c.isLt
  have h8 : nD = 8 := rfl
  unfold chS src nxt prv
  have h2 : (n + 4) % 2 = n % 2 := by omega
  by_cases h : n % 2 = 0
  · rw [if_pos h, if_pos h, if_pos (h2.trans h)]
    exact Fin.ext (by show (c.val + 16 - (n + 4) / 4) % 8 = ((c.val + 7) % 8 + 16 - n / 4) % 8; omega)
  · rw [if_neg h, if_neg h, if_neg (by rw [h2]; exact h)]
    exact Fin.ext (by show (c.val + (n + 4) / 4) % 8 = ((c.val + 1) % 8 + n / 4) % 8; omega)

/-! ## The memrefs -/

abbrev xM : Memref sig .tc .vmem S4096x512 .bf16 := Memref.whole cc0_stg0_0
abbrev wM : Memref sig .tc .vmem S512x2048 .bf16 := Memref.whole cc0_stg1_0
abbrev oM : Memref sig .tc .vmem S4096x2048 .bf16 := Memref.whole cc0_stg2_0
abbrev comM : Memref sig .tc .vmem S4x3x512x512 .bf16 := Memref.whole cc0_scratch0
abbrev xbM : Memref sig .tc .vmem S4096x512 .bf16 := Memref.whole cc0_scratch1
abbrev wbM : Memref sig .tc .vmem S512x2048 .bf16 := Memref.whole cc0_scratch2

theorem slot_inb (q : Fin 4) (k : Fin 3) : ∀ a, (![q.val, k.val, 0, 0] : Fin 4 → ℕ) a + S1x1x512x512.size a ≤ S4x3x512x512.size a := by
  revert q k; decide
theorem out_inb (ch : Fin 8) (q : Fin 4) : ∀ a, (![512 * ch.val, 512 * q.val] : Fin 2 → ℕ) a + S512x512.size a ≤ S4096x2048.size a := by
  revert ch q; decide
theorem xr_inb (ch : Fin 8) : ∀ a, (![512 * ch.val, 0] : Fin 2 → ℕ) a + S512x512.size a ≤ S4096x512.size a := by
  revert ch; decide
theorem wc_inb (q : Fin 4) : ∀ a, (![0, 512 * q.val] : Fin 2 → ℕ) a + S512x512.size a ≤ S512x2048.size a := by
  revert q; decide

/-- Slot `k` of ring `q`. -/
abbrev slotR (q : Fin 4) (k : Fin 3) : Rect S4x3x512x512 := Rect.unit (s := S4x3x512x512) ![q.val, k.val, 0, 0] S1x1x512x512.size (slot_inb q k)
def slotM (q : Fin 4) (k : Fin 3) : Memref sig .tc .vmem S512x512 .bf16 :=
  (comM.slice (slotR q k) (fun _ => rfl)).squeeze S512x512 squeezes_S1x1x512x512_S512x512
/-- Rows `ch`, columns `q` of the result. -/
abbrev outR (ch : Fin 8) (q : Fin 4) : Rect S4096x2048 := Rect.unit (s := S4096x2048) ![512 * ch.val, 512 * q.val] S512x512.size (out_inb ch q)
def outM (ch : Fin 8) (q : Fin 4) : Memref sig .tc .vmem S512x512 .bf16 := oM.slice (outR ch q) (fun _ => rfl)
abbrev xR (ch : Fin 8) : Rect S4096x512 := Rect.unit (s := S4096x512) ![512 * ch.val, 0] S512x512.size (xr_inb ch)
abbrev wR (q : Fin 4) : Rect S512x2048 := Rect.unit (s := S512x2048) ![0, 512 * q.val] S512x512.size (wc_inb q)

/-- The slot transfer `n` leaves from, and the one it lands in. -/
def ksrc (n : ℕ) : Fin 3 := match (n / 4) % 3 with | 0 => 0 | 1 => 1 | _ => 2
def kdst (n : ℕ) : Fin 3 := match (n / 4) % 3 with | 0 => 1 | 1 => 2 | _ => 0

def srcM (n : ℕ) (c : Dev nD) : Memref sig .tc .vmem S512x512 .bf16 := if n < 28 then slotM (qn n) (ksrc n) else outM (chS n c) (qn n)
/-- The landing region of transfer `n` at its receiver `d`. -/
def dstM (n : ℕ) (d : Dev nD) : Memref sig .tc .vmem S512x512 .bf16 :=
  if n < 28 then slotM (qn n) (kdst n) else outM (chS n (src n d)) (qn n)

theorem qn_add4 (n : ℕ) : qn (n + 4) = qn n := by unfold qn; rw [show (n + 4) % 4 = n % 4 by omega]
theorem qn_add8 (n : ℕ) : qn (n + 8) = qn n := by unfold qn; rw [show (n + 8) % 4 = n % 4 by omega]
theorem ksrc_add4 (n : ℕ) : ksrc (n + 4) = kdst n := by
  unfold ksrc kdst; rw [show (n + 4) / 4 = n / 4 + 1 by omega, Nat.add_mod]
  have : n / 4 % 3 = 0 ∨ n / 4 % 3 = 1 ∨ n / 4 % 3 = 2 := by omega
  rcases this with h | h | h <;> rw [h] <;> rfl
theorem kdst_add8 (n : ℕ) : kdst (n + 8) = ksrc n := by
  unfold ksrc kdst; rw [show (n + 8) / 4 = n / 4 + 2 by omega, Nat.add_mod]
  have : n / 4 % 3 = 0 ∨ n / 4 % 3 = 1 ∨ n / 4 % 3 = 2 := by omega
  rcases this with h | h | h <;> rw [h] <;> rfl

theorem srcM_add4 (n : ℕ) (h : n < 24 ∨ 28 ≤ n ∧ n < 52) (c : Dev nD) : srcM (n + 4) c = dstM n c := by
  unfold srcM dstM
  rcases h with h | ⟨h, h'⟩
  · rw [if_pos (by omega), if_pos (by omega), qn_add4, ksrc_add4]
  · rw [if_neg (by omega), if_neg (by omega), qn_add4, chS_add4 n h']

/-! ## The semaphores -/

/-- The runtime's barrier semaphore. -/
abbrev barS : Sem sig := (SemArray.scalar (sig.barrier 0 rfl) : Sems sig S_).sem

set_option backward.proofsInPublic true in
def sendS (n : ℕ) : DmaSem sig := ⟨3 + 6 * (qn n).val + (ksrc n).val, by have := (qn n).isLt; have := (ksrc n).isLt; show _ < 27; omega⟩
set_option backward.proofsInPublic true in
def recvS (n : ℕ) : DmaSem sig := ⟨6 + 6 * (qn n).val + (kdst n).val, by have := (qn n).isLt; have := (kdst n).isLt; show _ < 27; omega⟩

theorem qn_mod (n : ℕ) : qn n = qn (n % 12) := by unfold qn; rw [show n % 12 % 4 = n % 4 by omega]
theorem ksrc_mod (n : ℕ) : ksrc n = ksrc (n % 12) := by unfold ksrc; rw [show n % 12 / 4 % 3 = n / 4 % 3 by omega]
theorem kdst_mod (n : ℕ) : kdst n = kdst (n % 12) := by unfold kdst; rw [show n % 12 / 4 % 3 = n / 4 % 3 by omega]
theorem sendS_mod (n : ℕ) : sendS n = sendS (n % 12) := Fin.ext (by unfold sendS; dsimp only; rw [qn_mod n, ksrc_mod n])
theorem recvS_mod (n : ℕ) : recvS n = recvS (n % 12) := Fin.ext (by unfold recvS; dsimp only; rw [qn_mod n, kdst_mod n])
theorem sendS_add (n : ℕ) : sendS (n + 12) = sendS n := by rw [sendS_mod, sendS_mod n, show (n + 12) % 12 = n % 12 by omega]
theorem recvS_add (n : ℕ) : recvS (n + 12) = recvS n := by rw [recvS_mod, recvS_mod n, show (n + 12) % 12 = n % 12 by omega]

/-- Which of the twelve a send (receive) semaphore is. -/
def isSend (i : DmaSem sig) : Bool := decide ((i.val - 3) % 6 < 3)
def sj (i : DmaSem sig) : ℕ := 4 * ((i.val - 3) % 3) + (qn ((i.val - 3) / 6)).val
def rj (i : DmaSem sig) : ℕ := 4 * ((i.val - 3 + 2) % 3) + (qn ((i.val - 3) / 6)).val

theorem table : ∀ j : Fin 12, 3 ≤ (sendS j).val ∧ 3 ≤ (recvS j).val ∧ isSend (sendS j) = true ∧ isSend (recvS j) = false ∧ sj (sendS j) = j ∧ rj (recvS j) = j := by
  decide
theorem table_at (n : ℕ) : 3 ≤ (sendS n).val ∧ 3 ≤ (recvS n).val ∧ isSend (sendS n) = true ∧ isSend (recvS n) = false ∧ sj (sendS n) = n % 12 ∧ rj (recvS n) = n % 12 := by
  rw [sendS_mod, recvS_mod]; exact table ⟨n % 12, Nat.mod_lt _ (by decide)⟩
theorem div_mod12 (n : ℕ) : 12 * (n / 12) + n % 12 = n := Nat.div_add_mod n 12

abbrev barCell (c : Dev nD) : GSem nD τ sig := ((c : Thread nD τ), .reg barS)
abbrev sendCell (n : ℕ) (c : Dev nD) : GSem nD τ sig := ((c : Thread nD τ), .dma (sendS n))
abbrev recvCell (n : ℕ) (c : Dev nD) : GSem nD τ sig := ((c : Thread nD τ), .dma (recvS n))

/-- What one transfer credits. -/
def N : ℕ := (outM 0 0).view.dmaCredit
theorem N_pos : 0 < N := View.dmaCredit_pos _ (by decide)
theorem credit_any (M : Memref sig .tc .vmem S512x512 .bf16) : M.view.dmaCredit = N := rfl
theorem credit_slot (q : Fin 4) (k : Fin 3) : (slotM q k).view.dmaCredit = N := rfl
theorem credit_out (ch : Fin 8) (q : Fin 4) : (outM ch q).view.dmaCredit = N := rfl
theorem credit_dst (n : ℕ) (d : Dev nD) : (dstM n d).view.dmaCredit = N := by unfold dstM; split; exact credit_slot _ _; exact credit_out _ _
theorem credit_src (n : ℕ) (d : Dev nD) : (srcM n d).view.dmaCredit = N := by unfold srcM; split; exact credit_slot _ _; exact credit_out _ _

/-! ## Contents -/

/-- A device's blocks of the two operands as staged. -/
def xv (c : Dev nD) : (cc0_stg0_0 : Ref sig .tc).ty.Contents (Elt F) :=
  (win0_0.blk (0 : Fin 1)).view.read (Elt F) ((s₀ m ρ).mem ((c : Thread nD τ).loc main_arg0))
def wv (c : Dev nD) : (cc0_stg1_0 : Ref sig .tc).ty.Contents (Elt F) :=
  (win0_1.blk (0 : Fin 1)).view.read (Elt F) ((s₀ m ρ).mem ((c : Thread nD τ).loc main_arg1))

/-- The copies the kernel keeps of them. -/
def xbv (c : Dev nD) : (cc0_scratch1 : Ref sig .tc).ty.Contents (Elt F) := k0_pay8 (xv m ρ c)
def wbv (c : Dev nD) : (cc0_scratch2 : Ref sig .tc).ty.Contents (Elt F) := k0_pay1 (wv m ρ c)

/-- Rows `ch` of a device's first operand; columns `q` of its second. -/
def xrow (c : Dev nD) (ch : Fin 8) : Vec F S512x512 .bf16 := xbM.view.readAt (Elt F) (xR ch).toLoadRect (xbv m ρ c)
def wcol (c : Dev nD) (q : Fin 4) : Vec F S512x512 .bf16 := wbM.view.readAt (Elt F) (wR q).toLoadRect (wbv m ρ c)

/-- A block as the communication buffer's box of it, and back. -/
def castU (v : Vec F S512x512 .bf16) : Vec F S1x1x512x512 .bf16 := shapeCast S1x1x512x512 v shapeCasts_S512x512_S1x1x512x512
def castD (v : Vec F S1x1x512x512 .bf16) : Vec F S512x512 .bf16 := shapeCast S512x512 v shapeCasts_S1x1x512x512_S512x512

omit [FloatOps F] in
theorem castD_castU (v : Vec F S512x512 .bf16) : castD (castU v) = v := shapeCast_shapeCast _ _ _
omit [FloatOps F] in
theorem castU_castD (v : Vec F S1x1x512x512 .bf16) : castU (castD v) = v := shapeCast_shapeCast _ _ _

/-- A product of rows by columns; a block with one more product added; the activation of a block. -/
def initV (x w : Vec F S512x512 .bf16) : Vec F S512x512 .bf16 := castD (k0_pay3 x w)
def accV (p x w : Vec F S512x512 .bf16) : Vec F S512x512 .bf16 := castD (k0_pay9 (castU p) x w)
def geluV (p : Vec F S512x512 .bf16) : Vec F S512x512 .bf16 := k0_pay49 (castU p)

/-- The contents hop `s` of the ring at position `p` leaves device `c` with. -/
def vals (p : ℕ) : ℕ → Dev nD → Vec F S512x512 .bf16
  | 0, c => initV (xrow m ρ c (chS p c)) (wcol m ρ c (qn p))
  | s + 1, c =>
    if s + 1 < 7 then accV (vals p s (src p c)) (xrow m ρ c (chS (4 * (s + 1) + p) c)) (wcol m ρ c (qn p))
    else if s + 1 = 7 then geluV (accV (vals p s (src p c)) (xrow m ρ c (chS (4 * (s + 1) + p) c)) (wcol m ρ c (qn p)))
    else vals p s (src p c)

/-- The contents of transfer `n` of device `c`. -/
def V (n : ℕ) (c : Dev nD) : Vec F S512x512 .bf16 := vals m ρ (n % 4) (n / 4) c
/-- The finished sum a device ends a ring's first half with. -/
def Y (n : ℕ) (c : Dev nD) : Vec F S512x512 .bf16 := accV (V m ρ n (src n c)) (xrow m ρ c (chS (n + 4) c)) (wcol m ρ c (qn n))

theorem src_mod (n : ℕ) (c : Dev nD) : src (n % 4) c = src n c := by unfold src; rw [show n % 4 % 2 = n % 2 by omega]
theorem qn_mod4 (n : ℕ) : qn (n % 4) = qn n := by unfold qn; rw [Nat.mod_mod]
theorem V_init (n : ℕ) (h : n < 4) (c : Dev nD) : V m ρ n c = initV (xrow m ρ c (chS n c)) (wcol m ρ c (qn n)) := by
  unfold V; rw [show n / 4 = 0 by omega, show n % 4 = n by omega]; rfl
theorem V_succ (n : ℕ) (c : Dev nD) : V m ρ (n + 4) c = if n < 24 then Y m ρ n c else if n < 28 then geluV (Y m ρ n c) else V m ρ n (src n c) := by
  unfold Y V
  rw [show (n + 4) / 4 = n / 4 + 1 by omega, show (n + 4) % 4 = n % 4 by omega, vals, src_mod, qn_mod4, show 4 * (n / 4 + 1) + n % 4 = n + 4 by omega]
  by_cases h1 : n < 24
  · rw [if_pos h1, if_pos (by omega)]
  · rw [if_neg h1, if_neg (by omega)]
    by_cases h2 : n < 28
    · rw [if_pos h2, if_pos (by omega)]
    · rw [if_neg h2, if_neg (by omega)]
theorem V_acc (n : ℕ) (h : n < 24) (c : Dev nD) : V m ρ (n + 4) c = Y m ρ n c := by rw [V_succ, if_pos h]
theorem V_gelu (n : ℕ) (h : 24 ≤ n) (h' : n < 28) (c : Dev nD) : V m ρ (n + 4) c = geluV (Y m ρ n c) := by
  rw [V_succ, if_neg (by omega), if_pos h']
theorem V_gather (n : ℕ) (h : 28 ≤ n) (c : Dev nD) : V m ρ (n + 4) c = V m ρ n (src n c) := by
  rw [V_succ, if_neg (by omega), if_neg (by omega)]

/-! ## The schedule -/

/-- A region of device `c` at contents nobody reads. -/
def dead (c : Dev nD) (M : Memref sig .tc .vmem S512x512 .bf16) : sProp 𝕄 :=
  iprop(∃ f : Buf (Elt F) (M.view.loc (c : Thread nD τ)), M.view.loc (c : Thread nD τ) ↦[M.view.set]{fullShare} f)
/-- A region of device `c` that reads `v`. -/
def holds (c : Dev nD) (M : Memref sig .tc .vmem S512x512 .bf16) (v : Vec F S512x512 .bf16) : sProp 𝕄 :=
  iprop(∃ f : Buf (Elt F) (M.view.loc (c : Thread nD τ)), ⌜M.view.read (Elt F) f = v⌝ ∗ M.view.loc (c : Thread nD τ) ↦[M.view.set]{fullShare} f)

/-- What device `d` lets a neighbour have so that it may send it transfer `k`. -/
def avail (k : ℕ) (d : Dev nD) : sProp 𝕄 := iprop(dead d (dstM k d) ∗ reached ER (recvCell k d) (k / 12))

def give (n : ℕ) (p : Dev nD) : sProp 𝕄 := if n + 5 < 56 then avail (n + 5) p else iprop(emp)
def sendPay (n : ℕ) (c : Dev nD) : sProp 𝕄 := holds c (srcM n c) (V m ρ n c)
def recvPay (n : ℕ) (d : Dev nD) : sProp 𝕄 := iprop(holds d (dstM n d) (V m ρ n (src n d)) ∗ give n (src n d))
def barPay (b : Bool) (c : Dev nD) : sProp 𝕄 :=
  if b then iprop(avail 0 (nxt c) ∗ avail 2 (nxt c) ∗ avail 4 (nxt c)) else iprop(avail 1 (prv c) ∗ avail 3 (prv c))

omit [FloatOps F] in
instance dead_storable (c : Dev nD) (M) : BI.Storable (upEmb : UEmb _ 𝕄) (dead (F := F) c M) := by unfold dead; infer_instance
omit [FloatOps F] in
instance holds_storable (c : Dev nD) (M) (v) : BI.Storable (upEmb : UEmb _ 𝕄) (holds (F := F) c M v) := by unfold holds; infer_instance
omit [FloatOps F] in
instance avail_storable (k : ℕ) (d : Dev nD) : BI.Storable (upEmb : UEmb _ 𝕄) (avail (F := F) k d) := by unfold avail; infer_instance
omit [FloatOps F] in
instance give_storable (k : ℕ) (d : Dev nD) : BI.Storable (upEmb : UEmb _ 𝕄) (give (F := F) k d) := by unfold give; split <;> infer_instance
instance sendPay_storable (n : ℕ) (c : Dev nD) : BI.Storable (upEmb : UEmb _ 𝕄) (sendPay m ρ n c) := by unfold sendPay; infer_instance
instance recvPay_storable (n : ℕ) (c : Dev nD) : BI.Storable (upEmb : UEmb _ 𝕄) (recvPay m ρ n c) := by unfold recvPay; infer_instance
omit [FloatOps F] in
instance barPay_storable (b : Bool) (c : Dev nD) : BI.Storable (upEmb : UEmb _ 𝕄) (barPay (F := F) b c) := by unfold barPay; split <;> infer_instance

/-- The transfer a round of a DMA cell is for. -/
def numOf (i : DmaSem sig) (r : ℕ) : ℕ := 12 * r + (if isSend i then sj i else rj i)

def ringRd : Rounds.Schedule (GSem nD τ sig) Bool 𝕄 where
  duties g r := if g.1.2 = .tc then
      (match g.2 with
        | .reg s => if s = barS ∧ r = 0 then Finset.univ else ∅
        | .dma i => if 3 ≤ i.val ∧ numOf i r < 56 then {false} else ∅)
    else ∅
  unitless _ := False
  amount g _ _ := match g.2 with | .reg _ => 1 | .dma _ => N
  payload g r d := match g.2 with
    | .reg _ => barPay d g.1.1
    | .dma i => if isSend i then sendPay m ρ (numOf i r) g.1.1 else recvPay m ρ (numOf i r) g.1.1
  amount_pos g _ _ _ := by
    cases g.2
    · exact Nat.one_pos
    · exact N_pos

instance ringRd_payload_storable (g : GSem nD τ sig) (r : ℕ) (d : Bool) :
    BI.Storable (upEmb : UEmb _ 𝕄) ((ringRd (F := F) m ρ).payload g r d) := by
  show BI.Storable upEmb (match g.2 with
    | .reg _ => barPay d g.1.1
    | .dma i => if isSend i then sendPay m ρ (numOf i r) g.1.1 else recvPay m ρ (numOf i r) g.1.1)
  cases g.2
  · exact barPay_storable d g.1.1
  · dsimp only; split
    · exact sendPay_storable m ρ _ _
    · exact recvPay_storable m ρ _ _

section Sched
variable (c : Dev nD)

theorem numOf_send (n : ℕ) : numOf (sendS n) (n / 12) = n := by
  unfold numOf; rw [(table_at n).2.2.1, if_pos rfl, (table_at n).2.2.2.2.1, div_mod12]
theorem numOf_recv (n : ℕ) : numOf (recvS n) (n / 12) = n := by
  unfold numOf; rw [(table_at n).2.2.2.1, if_neg (by decide), (table_at n).2.2.2.2.2, div_mod12]

theorem duties_bar : (ringRd (F := F) m ρ).duties (barCell c) 0 = Finset.univ := by dsimp only [ringRd]; rw [if_pos rfl]; exact if_pos ⟨rfl, rfl⟩
theorem duties_send (n : ℕ) (h : n < 56) : (ringRd (F := F) m ρ).duties (sendCell n c) (n / 12) = {false} := by
  dsimp only [ringRd]; rw [if_pos rfl, numOf_send]; exact if_pos ⟨(table_at n).1, h⟩
theorem duties_recv (n : ℕ) (h : n < 56) : (ringRd (F := F) m ρ).duties (recvCell n c) (n / 12) = {false} := by
  dsimp only [ringRd]; rw [if_pos rfl, numOf_recv]; exact if_pos ⟨(table_at n).2.1, h⟩
theorem duties_bar_later : ∀ r, 1 ≤ r → (ringRd (F := F) m ρ).duties (barCell c) r = ∅ := fun r hr => by
  dsimp only [ringRd]; rw [if_pos rfl]; exact if_neg (fun h => by omega)
theorem duties_dma_later (i : DmaSem sig) (R : ℕ) (h : 56 ≤ numOf i R) : ∀ r, R ≤ r → (ringRd (F := F) m ρ).duties ((c : Thread nD τ), .dma i) r = ∅ := fun r hr => by
  dsimp only [ringRd]; rw [if_pos rfl]; exact if_neg (fun h' => by unfold numOf at h h'; omega)
theorem amount_bar (r : ℕ) (d : Bool) : (ringRd (F := F) m ρ).amount (barCell c) r d = 1 := rfl
theorem amount_dma (i : DmaSem sig) (r : ℕ) (d : Bool) : (ringRd (F := F) m ρ).amount ((c : Thread nD τ), .dma i) r d = N := rfl

theorem expect_bar : (ringRd (F := F) m ρ).expect (barCell c) 0 = 2 := by
  unfold Schedule.expect Schedule.amountOf
  rw [duties_bar, Finset.sum_congr rfl fun d _ => amount_bar m ρ c 0 d, Finset.sum_const, Finset.card_univ, Fintype.card_bool, smul_eq_mul]
theorem expect_send (n : ℕ) (h : n < 56) : (ringRd (F := F) m ρ).expect (sendCell n c) (n / 12) = N := by
  unfold Schedule.expect Schedule.amountOf; rw [duties_send m ρ c n h, Finset.sum_singleton, amount_dma]
theorem expect_recv (n : ℕ) (h : n < 56) : (ringRd (F := F) m ρ).expect (recvCell n c) (n / 12) = N := by
  unfold Schedule.expect Schedule.amountOf; rw [duties_recv m ρ c n h, Finset.sum_singleton, amount_dma]

theorem payload_bar (r : ℕ) (d : Bool) : (ringRd (F := F) m ρ).payload (barCell c) r d = barPay d c := rfl
theorem payload_send (n : ℕ) (d : Bool) : (ringRd (F := F) m ρ).payload (sendCell n c) (n / 12) d = sendPay m ρ n c := by
  dsimp only [ringRd]; rw [(table_at n).2.2.1, if_pos rfl, numOf_send]
theorem payload_recv (n : ℕ) (d : Bool) : (ringRd (F := F) m ρ).payload (recvCell n c) (n / 12) d = recvPay m ρ n c := by
  dsimp only [ringRd]; rw [(table_at n).2.2.2.1, if_neg (by decide), numOf_recv]

theorem rest_bar : bigSep ((ringRd (F := F) m ρ).duties (barCell c) 0 \ ∅) (fun d => (ringRd (F := F) m ρ).payload (barCell c) 0 d) = iprop(barPay false c ∗ barPay true c) := by
  rw [Finset.sdiff_empty, duties_bar, bigSep_univ_eq_bigSepL [false, true] (by decide) (by decide), bigSepL_cons_cons, bigSepL_singleton]
  rfl
theorem rest_send (n : ℕ) (h : n < 56) : bigSep ((ringRd (F := F) m ρ).duties (sendCell n c) (n / 12) \ ∅) (fun d => (ringRd (F := F) m ρ).payload (sendCell n c) (n / 12) d) = sendPay m ρ n c := by
  rw [Finset.sdiff_empty, duties_send m ρ c n h, bigSep_singleton, payload_send]
theorem rest_recv (n : ℕ) (h : n < 56) : bigSep ((ringRd (F := F) m ρ).duties (recvCell n c) (n / 12) \ ∅) (fun d => (ringRd (F := F) m ρ).payload (recvCell n c) (n / 12) d) = recvPay m ρ n c := by
  rw [Finset.sdiff_empty, duties_recv m ρ c n h, bigSep_singleton, payload_recv]

end Sched

/-! ## What each core owes; the levels -/

theorem Ico_front {a b : ℕ} (h : a < b) : Finset.Ico a b = insert a (Finset.Ico (a + 1) b) := by
  ext x; simp only [Finset.mem_Ico, Finset.mem_insert]; omega
theorem Ico_back {a b : ℕ} (h : a ≤ b) : Finset.Ico a (b + 1) = insert b (Finset.Ico a b) := by
  ext x; simp only [Finset.mem_Ico, Finset.mem_insert]; omega

/-- What device `c` owes from transfer `a` on: each its credit, at an index of its own. -/
def Ow (a : ℕ) (c : Dev nD) : CellTallies nD τ sig ℕ := ∑ n ∈ Finset.Ico a 56, tallyAt (recvCell n (dst n c)) (n + 2) N
/-- At launch it owes a unit to both neighbours' barrier cells besides. -/
def O₁ (c : Dev nD) : CellTallies nD τ sig ℕ := Ow 0 c + tallyAt (barCell (nxt c)) 1 1
def O₀ (c : Dev nD) : CellTallies nD τ sig ℕ := O₁ c + tallyAt (barCell (prv c)) 1 1

theorem Ow_peel (a : ℕ) (h : a < 56) (c : Dev nD) : Ow a c = Ow (a + 1) c + tallyAt (recvCell a (dst a c)) (a + 2) N := by
  unfold Ow; rw [Ico_front h, Finset.sum_insert (by simp), add_comm]
theorem Ow_end (c : Dev nD) : Ow 56 c = 0 := by unfold Ow; rw [Finset.Ico_self, Finset.sum_empty]

def L (g : GSem nD τ sig) : Finset ℕ := if g.1.2 = .tc then Finset.range 60 else ∅
/-- The level of a due is its index. -/
def lv (_ : GSem nD τ sig) (i : ℕ) : ℕ := i

theorem L_of_ne (g : GSem nD τ sig) (h : g.1.2 ≠ .tc) : L g = ∅ := if_neg h
theorem L_tc (c : Dev nD) (sm : SemLoc sig) : L ((c : Thread nD τ), sm) = Finset.range 60 := if_pos rfl

theorem Ow_pos {a : ℕ} {c : Dev nD} {g : GSem nD τ sig} {i : ℕ} (h : 0 < Ow a c g i) : ∃ n, a ≤ n ∧ n < 56 ∧ g = recvCell n (dst n c) ∧ i = n + 2 := by
  obtain ⟨n, hn, hp⟩ := Pipeline.sum_pos_exists h
  rw [tallyAt_apply] at hp
  by_cases h' : g = recvCell n (dst n c) ∧ i = n + 2
  · exact ⟨n, (Finset.mem_Ico.mp hn).1, (Finset.mem_Ico.mp hn).2, h'⟩
  · rw [if_neg h'] at hp; exact absurd hp (Nat.lt_irrefl 0)

omit [FloatOps F] in
/-- While it owes transfers from `a` on, a core may wait at any lower index. -/
theorem mayWait_Ow (c : Dev nD) (sm : SemLoc sig) (ι a : ℕ) (h : ι < a + 2) (h' : ι < 60) : (levAts L lv : sProp 𝕄) ⊢ MayWait (c : Thread nD τ) sm ι (Ow a c) :=
  Pipeline.mayWait_of_levAts (by rw [L_tc]; exact Finset.mem_range.mpr h') fun g i hg => by
    obtain ⟨n, h1, h2, rfl, rfl⟩ := Ow_pos hg
    exact ⟨by rw [L_tc]; exact Finset.mem_range.mpr (by omega), by show ι < n + 2; omega⟩

omit [FloatOps F] in
theorem mayWait_O₀ (c : Dev nD) (sm : SemLoc sig) : (levAts L lv : sProp 𝕄) ⊢ MayWait (c : Thread nD τ) sm 0 (O₀ c) :=
  Pipeline.mayWait_of_levAts (by rw [L_tc]; exact Finset.mem_range.mpr (by decide)) fun g i hg => by
    have hb : ∀ d : Dev nD, 0 < (tallyAt (barCell d) 1 1 : CellTallies nD τ sig ℕ) g i → i ∈ L g ∧ lv ((c : Thread nD τ), sm) 0 < lv g i := fun d hd => by
      rw [tallyAt_apply] at hd
      by_cases h' : g = barCell d ∧ i = 1
      · rw [h'.1, h'.2, L_tc]; exact ⟨Finset.mem_range.mpr (by decide), by show 0 < 1; decide⟩
      · rw [if_neg h'] at hd; exact absurd hd (Nat.lt_irrefl 0)
    unfold O₀ O₁ at hg
    rcases Pipeline.add_pos_cases hg with hg | hg
    · rcases Pipeline.add_pos_cases hg with hg | hg
      · obtain ⟨n, h1, h2, rfl, rfl⟩ := Ow_pos hg
        exact ⟨by rw [L_tc]; exact Finset.mem_range.mpr (by omega), by show 0 < n + 2; omega⟩
      · exact hb _ hg
    · exact hb _ hg

end Cert.RingProof

end
-- ==== Proof.Steps.lean ====
/-
# The steps of the two-way ring

The state `Net c A B R` of a device that has started its transfers below `A`, waited for the departures of those below
`B` and for the arrivals of those below `R`; one lemma per kind of step.
-/
module

public import proofs.«01_k».proof.Proof.Ring

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ) (ρ : Dev nD → PrngReg)

abbrev 𝒱₀ : Variants := Variants.none

/-! ## Runs of numbered resources -/

/-- The resources `f n`, `a ≤ n < b`. -/
def I (a b : ℕ) (f : ℕ → sProp 𝕄) : sProp 𝕄 := bigSep (Finset.Ico a b) f

omit [FloatOps F] in
theorem I_front {a b : ℕ} (h : a < b) (f : ℕ → sProp 𝕄) : I a b f = iprop(f a ∗ I (a + 1) b f) := by
  unfold I; rw [Ico_front h]; exact bigSep_insert (by simp)
omit [FloatOps F] in
theorem I_back {a b : ℕ} (h : a ≤ b) (f : ℕ → sProp 𝕄) : I a (b + 1) f = iprop(f b ∗ I a b f) := by
  unfold I; rw [Ico_back h]; exact bigSep_insert (by simp)
omit [FloatOps F] in
theorem I_nil {a b : ℕ} (h : b ≤ a) (f : ℕ → sProp 𝕄) : I a b f = iprop(emp) := by
  unfold I; rw [Finset.Ico_eq_empty (by omega)]; rfl
omit [FloatOps F] in
theorem I_pick {a b n : ℕ} (h : a ≤ n) (h' : n < b) (f : ℕ → sProp 𝕄) : I a b f = iprop(f n ∗ bigSep ((Finset.Ico a b).erase n) f) := by
  unfold I; exact bigSep_erase (Finset.mem_Ico.mpr ⟨h, h'⟩)

/-! ## The state -/

section
variable (c : Dev nD)

def toks (n : ℕ) : sProp 𝕄 := iprop(dutyTok ER (sendCell n c) (n / 12) false ∗ dutyTok ER (recvCell n (dst n c)) (n / 12) false)
def availTo (n : ℕ) : sProp 𝕄 := avail n (dst n c)
def credS (n : ℕ) : sProp 𝕄 := cred (tallyAt (sendCell n c) 0 N)
def credR (n : ℕ) : sProp 𝕄 := cred (tallyAt (recvCell n c) (n + 2) N)
def posS (n : ℕ) : sProp 𝕄 := iprop(atPos ER (sendCell n c) (n / 12) ∅ 0 ∗ reached ER (sendCell n c) (n / 12))
def posR (n : ℕ) : sProp 𝕄 := iprop(atPos ER (recvCell n c) (n / 12) ∅ 0 ∗ reached ER (recvCell n c) (n / 12))
def slotDead (n : ℕ) : sProp 𝕄 := dead c (slotM (qn n) (kdst n))
def outDead (n : ℕ) : sProp 𝕄 := dead c (dstM n c)
end

/-- The cell's invariant, under some name. -/
def inv (g : GSem nD τ sig) : sProp 𝕄 := iprop(∃ κ : ℕ, cellInv ER (ringRd m ρ) κ g)
instance inv_persistent (g : GSem nD τ sig) : BI.Persistent (inv m ρ g) := by unfold inv; infer_instance

/-- A device's cells: the barrier's, then its DMA semaphores' from the third on. -/
abbrev csem (k : Fin 25) : SemLoc sig := if k.val = 0 then .reg barS else .dma ⟨k.val + 2, by have := k.isLt; show k.val + 2 < 27; omega⟩
abbrev kcell (ck : Dev nD × Fin 25) : GSem nD τ sig := ((ck.1 : Thread nD τ), csem ck.2)

/-- Every cell's invariant. -/
def recs : sProp 𝕄 := bigSep Finset.univ fun ck : Dev nD × Fin 25 => inv m ρ (kcell ck)
instance recs_persistent : BI.Persistent (recs m ρ) := by unfold recs; infer_instance

theorem inv_kcell (ck : Dev nD × Fin 25) : recs m ρ ⊢ inv m ρ (kcell ck) := by
  unfold recs
  iintro H
  ihave H' := (Entails.of_eq (show bigSep Finset.univ (fun ck : Dev nD × Fin 25 => inv m ρ (kcell ck)) = iprop(inv m ρ (kcell ck) ∗ bigSep (Finset.univ.erase ck) fun ck : Dev nD × Fin 25 => inv m ρ (kcell ck)) from bigSep_erase (Finset.mem_univ ck))) $$ H
  icases H' with ⟨H, -⟩; iexact H
theorem inv_bar (c : Dev nD) : recs m ρ ⊢ inv m ρ (barCell c) := inv_kcell m ρ (c, 0)
theorem inv_dma (c : Dev nD) (i : DmaSem sig) (h : 3 ≤ i.val) : recs m ρ ⊢ inv m ρ ((c : Thread nD τ), .dma i) := by
  have hi : i.val < 27 := i.isLt
  have e : kcell (c, ⟨i.val - 2, by omega⟩) = ((c : Thread nD τ), .dma i) := by
    unfold kcell csem; dsimp only; rw [if_neg (by omega)]
    have : (⟨i.val - 2 + 2, by show i.val - 2 + 2 < 27; omega⟩ : DmaSem sig) = i := Fin.ext (by show i.val - 2 + 2 = i.val; omega)
    rw [this]
  exact e ▸ inv_kcell m ρ (c, ⟨i.val - 2, by omega⟩)
theorem inv_send (n : ℕ) (c : Dev nD) : recs m ρ ⊢ inv m ρ (sendCell n c) := inv_dma m ρ c _ (table_at n).1
theorem inv_recv (n : ℕ) (c : Dev nD) : recs m ρ ⊢ inv m ρ (recvCell n c) := inv_dma m ρ c _ (table_at n).2.1

def Net (c : Dev nD) (A B R : ℕ) : sProp 𝕄 :=
  iprop(recs m ρ ∗ levAts L lv ∗ (∃ W, owes (c : Thread nD τ) (Ow A c) W)
    ∗ I A 56 (toks c) ∗ I A (min (R + 5) 56) (availTo c) ∗ I B A (credS c) ∗ I R 56 (credR c)
    ∗ I B (B + 12) (posS c) ∗ I R (R + 12) (posR c)
    ∗ I (min (A + 5) 28) (min (B + 8) 36) (slotDead c) ∗ I (max (A + 5) 28) 56 (outDead c)
    ∗ I 28 (max B 28) (fun n => sendPay m ρ n c))

/-- The landing region and the round a device grants as it starts transfer `A`. -/
theorem give_make (c : Dev nD) (A B R : ℕ) (hB : A < B + 3) (hR : R ≤ A + 5) (hR' : A < R + 7) :
    iprop(I (min (A + 5) 28) (min (B + 8) 36) (slotDead c) ∗ I (max (A + 5) 28) 56 (outDead c) ∗ I R (R + 12) (posR c))
      ⊢ iprop(give (F := F) A c ∗ I (min (A + 1 + 5) 28) (min (B + 8) 36) (slotDead c) ∗ I (max (A + 1 + 5) 28) 56 (outDead c) ∗ I R (R + 12) (posR c)) := by
  by_cases h : A + 5 < 56
  · have hg : give (F := F) A c = iprop(dead c (dstM (A + 5) c) ∗ reached ER (recvCell (A + 5) c) ((A + 5) / 12)) := by unfold give avail; rw [if_pos h]
    rw [hg, I_pick hR (show A + 5 < R + 12 by omega) (posR c)]
    by_cases h28 : A + 5 < 28
    · rw [show min (A + 5) 28 = A + 5 by omega, show min (A + 1 + 5) 28 = A + 5 + 1 by omega, show max (A + 5) 28 = 28 by omega, show max (A + 1 + 5) 28 = 28 by omega,
        I_front (show A + 5 < min (B + 8) 36 by omega) (slotDead c), show dstM (A + 5) c = slotM (qn (A + 5)) (kdst (A + 5)) from if_pos h28]
      unfold posR slotDead
      iintro ⟨⟨Hd, Hs⟩, Ho, ⟨Hat, #Hre⟩, Hp⟩
      isplitl [Hd]
      · isplitl [Hd]; · iexact Hd
        iexact Hre
      isplitl [Hs]; · iexact Hs
      isplitl [Ho]; · iexact Ho
      isplitl [Hat]
      · isplitl [Hat]; · iexact Hat
        iexact Hre
      iexact Hp
    · rw [show min (A + 5) 28 = 28 by omega, show min (A + 1 + 5) 28 = 28 by omega, show max (A + 5) 28 = A + 5 by omega, show max (A + 1 + 5) 28 = A + 5 + 1 by omega,
        I_front h (outDead c)]
      unfold posR outDead
      iintro ⟨Hs, ⟨Hd, Ho⟩, ⟨Hat, #Hre⟩, Hp⟩
      isplitl [Hd]
      · isplitl [Hd]; · iexact Hd
        iexact Hre
      isplitl [Hs]; · iexact Hs
      isplitl [Ho]; · iexact Ho
      isplitl [Hat]
      · isplitl [Hat]; · iexact Hat
        iexact Hre
      iexact Hp
  · have hg : give (F := F) A c = iprop(emp) := by unfold give; rw [if_neg h]
    rw [hg, show min (A + 1 + 5) 28 = min (A + 5) 28 by omega, I_nil (show 56 ≤ max (A + 5) 28 by omega), I_nil (show 56 ≤ max (A + 1 + 5) 28 by omega)]
    iintro ⟨Hs, Ho, Hp⟩
    isplitr; · iempintro
    isplitl [Hs]; · iexact Hs
    isplitl [Ho]; · iexact Ho
    iexact Hp

/-- The addressed copy that is transfer `n`, from its source region holding `V n`. -/
theorem step_start {A B R : ℕ} (c : Dev nD) (hA : A < 56) (hA' : A < R + 5) (hB : A < B + 3) (hBA : B ≤ A) (hR : R ≤ A + 5)
    {srcR dstR : Memref sig .tc .vmem S512x512 .bf16} {d : Dev nD} {sS sR : DmaSem sig}
    (e₁ : srcR = srcM A c) (e₂ : dstR = dstM A (dst A c)) (e₃ : d = dst A c) (e₄ : sS = sendS A) (e₅ : sR = recvS A)
    {hsc : (dstR : Memref sig (Dev.tc d : Thread nD τ).2.kind .vmem S512x512 .bf16).view.ref.isScScratch = false}
    {hsrc : srcR.view.WordExact} {hdst : (dstR : Memref sig .tc .vmem S512x512 .bf16).view.WordExact}
    {hsem : DmaTarget.Typed .vmem (.dma sR) (.remote (Dev.tc d : Thread nD τ) (dstR : Memref sig .tc .vmem S512x512 .bf16) (.dma sS) hsc)}
    {α : Type} {Q : α → sProp 𝕄} {k : PUnit → Prog (TpuEff nD τ sig (Elt F) Λ₀ .tc) α} :
    iprop(Net m ρ c A B R ∗ holds c (srcM A c) (V m ρ A c))
      ⊢ iprop((Net m ρ c (A + 1) B R -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma srcR (.remote (Dev.tc d : Thread nD τ) dstR (.dma sS) hsc) (.dma sR) hsrc hdst hsem) k) Q) := by
  subst e₁ e₂ e₃ e₄ e₅
  unfold Net
  rw [I_front hA (toks c), I_front (show A < min (R + 5) 56 by omega) (availTo c), I_pick hBA (show A < B + 12 by omega) (posS c), I_back hBA (credS c)]
  unfold holds
  iintro ⟨⟨#Hrec, #Hlev, ⟨%W, HO⟩, ⟨Htk, Htks⟩, ⟨Hav, Havs⟩, HcS, HcR, ⟨HpA, HpS⟩, HpR, Hsl, Hou, Hdn⟩, ⟨%fs, %hfs, Hsrc⟩⟩ Hk
  ihave Hg := (give_make c A B R hB hR (by omega)) $$ [Hsl Hou HpR]
  · isplitl [Hsl]; · iexact Hsl
    isplitl [Hou]; · iexact Hou
    iexact HpR
  icases Hg with ⟨Hgive, Hsl, Hou, HpR⟩
  unfold toks availTo avail posS credS
  icases Htk with ⟨Ht1, Ht2⟩
  icases HpA with ⟨Hat, #HrS⟩
  icases Hav with ⟨Hdst, #HrR⟩
  unfold dead
  icases Hdst with ⟨%fd, Hdst⟩
  ihave Hi1 := (inv_send m ρ A c) $$ Hrec
  ihave Hi2 := (inv_recv m ρ A (dst A c)) $$ Hrec
  unfold inv
  icases Hi1 with ⟨%κ₁, #Hi1⟩
  icases Hi2 with ⟨%κ₂, #Hi2⟩
  iapply (Rounds.wp_send_pointsTo_with 𝒱₀ ER (ringRd m ρ) (c : Thread nD τ) none (κ₁ := κ₁) (κ₂ := κ₂) (c' := (dst A c : Thread nD τ))
    (r₁ := A / 12) (r₂ := A / 12) (d₁ := false) (d₂ := false) (fd := fd) (F := give A c)
    (by rw [duties_send m ρ c A hA]; exact Finset.mem_singleton_self _) (by rw [duties_recv m ρ _ A hA]; exact Finset.mem_singleton_self _)
    (A + 2) 0 N (show (dstM A (dst A c)).view.amount (.dma (recvS A)) = N from credit_dst A (dst A c)) (amount_dma m ρ c _ _ _) (amount_dma m ρ _ _ _ _) (Ow (A + 1) c) (Ow_peel A hA c) (W := W)
    (by rw [payload_send]; unfold sendPay holds; iintro H; iexists fs; isplitr; · ipureintro; exact hfs
        iexact H)
    (by rw [payload_recv]; unfold recvPay holds; rw [src_dst]
        iintro ⟨H, Hg⟩
        isplitl [H]
        · iexists _
          isplitr
          swap
          · iexact H
          ipureintro; rw [View.read_write_univ, hfs]
        iexact Hg)) $$ [Hsrc Hdst Hgive HO Ht1 Ht2]
  · isplitr; · iexact Hi1
    isplitr; · iexact Hi2
    isplitl [Hsrc]; · iexact Hsrc
    isplitl [Hdst Hgive]
    · isplitl [Hdst]; · iexact Hdst
      iexact Hgive
    isplitl [HO]; · iexact HO
    isplitl [Ht1]; · iexact Ht1
    isplitr; · iexact HrS
    isplitl [Ht2]; · iexact Ht2
    iexact HrR
  iintro ⟨Hc, HO⟩
  iapply Hk
  isplitr; · iexact Hrec
  isplitr; · iexact Hlev
  isplitl [HO]; · iexists W; iexact HO
  isplitl [Htks]; · iexact Htks
  isplitl [Havs]; · iexact Havs
  isplitl [Hc HcS]
  · isplitl [Hc]; · iexact Hc
    iexact HcS
  isplitl [HcR]; · iexact HcR
  isplitl [Hat HpS]
  · isplitl [Hat]
    · isplitl [Hat]; · iexact Hat
      iexact HrS
    iexact HpS
  isplitl [HpR]; · iexact HpR
  isplitl [Hsl]; · iexact Hsl
  isplitl [Hou]; · iexact Hou
  iexact Hdn

omit [FloatOps F] in
theorem posS_next (c : Dev nD) (n : ℕ) : iprop(atPos ER (sendCell n c) (n / 12 + 1) ∅ 0 ∗ reached ER (sendCell n c) (n / 12 + 1)) = posS (F := F) c (n + 12) := by
  unfold posS; rw [show (n + 12) / 12 = n / 12 + 1 by omega]; unfold sendCell; rw [sendS_add]
omit [FloatOps F] in
theorem posR_next (c : Dev nD) (n : ℕ) : iprop(atPos ER (recvCell n c) (n / 12 + 1) ∅ 0 ∗ reached ER (recvCell n c) (n / 12 + 1)) = posR (F := F) c (n + 12) := by
  unfold posR; rw [show (n + 12) / 12 = n / 12 + 1 by omega]; unfold recvCell; rw [recvS_add]

/-- The source region given back joins the pool of landing regions, or the finished blocks. -/
theorem done_make (c : Dev nD) (A B : ℕ) (hA : A ≤ B + 3) :
    iprop(sendPay m ρ B c ∗ I (min (A + 5) 28) (min (B + 8) 36) (slotDead c) ∗ I 28 (max B 28) (fun n => sendPay m ρ n c))
      ⊢ iprop(I (min (A + 5) 28) (min (B + 1 + 8) 36) (slotDead c) ∗ I 28 (max (B + 1) 28) (fun n => sendPay m ρ n c)) := by
  by_cases h : B < 28
  · rw [show min (B + 8) 36 = B + 8 by omega, show min (B + 1 + 8) 36 = B + 8 + 1 by omega, show max B 28 = 28 by omega, show max (B + 1) 28 = 28 by omega,
      I_back (show min (A + 5) 28 ≤ B + 8 by omega) (slotDead c)]
    have e : sendPay m ρ B c ⊢ slotDead c (B + 8) := by
      unfold sendPay slotDead holds dead
      rw [show srcM B c = slotM (qn (B + 8)) (kdst (B + 8)) by rw [qn_add8, kdst_add8]; exact if_pos h]
      iintro ⟨%f, -, H⟩; iexists f; iexact H
    iintro ⟨H, Hs, Hd⟩
    isplitl [H Hs]
    · isplitl [H]; · iapply e; iexact H
      iexact Hs
    iexact Hd
  · rw [show min (B + 8) 36 = 36 by omega, show min (B + 1 + 8) 36 = 36 by omega, show max B 28 = B by omega, show max (B + 1) 28 = B + 1 by omega,
      I_back (show 28 ≤ B by omega) (fun n => sendPay m ρ n c)]
    iintro ⟨H, Hs, Hd⟩
    isplitl [Hs]; · iexact Hs
    isplitl [H]; · iexact H
    iexact Hd

/-- The wait for the departure of transfer `B`. -/
theorem step_waitS {A B R : ℕ} (c : Dev nD) (hB : B < 56) (hBA : B < A) (hA : A ≤ B + 3)
    {M₁ : Memref sig .tc .vmem S512x512 .bf16} {M₂ : Memref sig .tc .vmem S512x512 .bf16} {s : DmaSem sig}
    (e : s = sendS B)
    {h₁ : M₁.view.WordExact} {h₂ : M₂.view.WordExact}
    {α : Type} {Q : α → sProp 𝕄} {k : PUnit → Prog (TpuEff nD τ sig (Elt F) Λ₀ .tc) α} :
    Net m ρ c A B R
      ⊢ iprop((Net m ρ c A (B + 1) R -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 s M₁ M₂ h₁ h₂) k) Q) := by
  subst e
  unfold Net
  rw [I_front hBA (credS c), I_front (show B < B + 12 by omega) (posS c), show B + 1 + 12 = B + 12 + 1 by omega, I_back (show B + 1 ≤ B + 12 by omega) (posS c), ← posS_next]
  unfold credS posS
  iintro ⟨#Hrec, #Hlev, ⟨%W, HO⟩, Htks, Havs, ⟨Hc, HcS⟩, HcR, ⟨⟨Hat, -⟩, HpS⟩, HpR, Hsl, Hou, Hdn⟩ Hk
  ihave Hi1 := (inv_send m ρ B c) $$ Hrec
  unfold inv
  icases Hi1 with ⟨%κ₁, #Hi1⟩
  iapply (Rounds.wp_wait_rest_token 𝒱₀ ER (ringRd m ρ) (c : Thread nD τ) none (κ := κ₁)
      (wpE_waitDma2_eq 𝒱₀ (c : Thread nD τ) none Set.univ) (Set.mem_univ _) 0 (O := Ow A c) (W := W) (R := B / 12) (m := 0) (T := ∅)
      (by rw [Nat.zero_add, credit_any M₂, expect_send m ρ c B hB])) $$ [Hc HO Hat]
  · isplitr; · iexact Hi1
    isplitl [Hc]; · rw [credit_any M₂]; iexact Hc
    isplitl [HO]; · iexact HO
    isplitr; · iapply (mayWait_Ow c (.dma (sendS B)) 0 A (by omega) (by omega)); iexact Hlev
    iexact Hat
  iintro ⟨HO, Hat, #Hre, Hpay⟩
  ihave Hp := (Entails.of_eq (rest_send m ρ c B hB)) $$ Hpay
  ihave Hd := (done_make m ρ c A B hA) $$ [Hp Hsl Hdn]
  · isplitl [Hp]; · iexact Hp
    isplitl [Hsl]; · iexact Hsl
    iexact Hdn
  icases Hd with ⟨Hsl, Hdn⟩
  iapply Hk
  isplitr; · iexact Hrec
  isplitr; · iexact Hlev
  isplitl [HO]; · iexists (insert (SemLoc.dma (sendS B), 0) W); iexact HO
  isplitl [Htks]; · iexact Htks
  isplitl [Havs]; · iexact Havs
  isplitl [HcS]; · iexact HcS
  isplitl [HcR]; · iexact HcR
  isplitl [Hat HpS]
  · isplitl [Hat]
    · isplitl [Hat]; · iexact Hat
      iexact Hre
    iexact HpS
  isplitl [HpR]; · iexact HpR
  isplitl [Hsl]; · iexact Hsl
  isplitl [Hou]; · iexact Hou
  iexact Hdn

/-- The grant that comes with the arrival of transfer `R` joins the device's grants. -/
theorem avail_make (c : Dev nD) (A R : ℕ) (hA : A ≤ R + 5) :
    iprop(give R (src R c) ∗ I A (min (R + 5) 56) (availTo c)) ⊢ I (F := F) A (min (R + 1 + 5) 56) (availTo c) := by
  by_cases h : R + 5 < 56
  · rw [show min (R + 5) 56 = R + 5 by omega, show min (R + 1 + 5) 56 = R + 5 + 1 by omega, I_back hA (availTo c),
      show give (F := F) R (src R c) = availTo c (R + 5) by unfold give availTo; rw [if_pos h, dst_add5]]
  · rw [show min (R + 5) 56 = 56 by omega, show min (R + 1 + 5) 56 = 56 by omega]
    iintro ⟨-, H⟩; iexact H

/-- The wait for the arrival of transfer `R`: its landing region, with its contents. -/
theorem step_waitR {A B R : ℕ} (c : Dev nD) (hR : R < 56) (hRA : R < A) (hA : A ≤ R + 5)
    {M₁ : Memref sig .tc .vmem S512x512 .bf16} {M₂ : Memref sig .tc .vmem S512x512 .bf16} {s : DmaSem sig}
    (e : s = recvS R)
    {h₁ : M₁.view.WordExact} {h₂ : M₂.view.WordExact}
    {α : Type} {Q : α → sProp 𝕄} {k : PUnit → Prog (TpuEff nD τ sig (Elt F) Λ₀ .tc) α} :
    Net m ρ c A B R
      ⊢ iprop(((Net m ρ c A B (R + 1) ∗ holds c (dstM R c) (V m ρ R (src R c))) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 s M₁ M₂ h₁ h₂) k) Q) := by
  subst e
  unfold Net
  rw [I_front hR (credR c), I_front (show R < R + 12 by omega) (posR c), show R + 1 + 12 = R + 12 + 1 by omega, I_back (show R + 1 ≤ R + 12 by omega) (posR c), ← posR_next]
  unfold credR posR
  iintro ⟨#Hrec, #Hlev, ⟨%W, HO⟩, Htks, Havs, HcS, ⟨Hc, HcR⟩, HpS, ⟨⟨Hat, -⟩, HpR⟩, Hsl, Hou, Hdn⟩ Hk
  ihave Hi1 := (inv_recv m ρ R c) $$ Hrec
  unfold inv
  icases Hi1 with ⟨%κ₁, #Hi1⟩
  iapply (Rounds.wp_wait_rest_token 𝒱₀ ER (ringRd m ρ) (c : Thread nD τ) none (κ := κ₁)
      (wpE_waitDma2_eq 𝒱₀ (c : Thread nD τ) none Set.univ) (Set.mem_univ _) (R + 2) (O := Ow A c) (W := W) (R := R / 12) (m := 0) (T := ∅)
      (by rw [Nat.zero_add, credit_any M₂, expect_recv m ρ c R hR])) $$ [Hc HO Hat]
  · isplitr; · iexact Hi1
    isplitl [Hc]; · rw [credit_any M₂]; iexact Hc
    isplitl [HO]; · iexact HO
    isplitr; · iapply (mayWait_Ow c (.dma (recvS R)) (R + 2) A (by omega) (by omega)); iexact Hlev
    iexact Hat
  iintro ⟨HO, Hat, #Hre, Hpay⟩
  ihave Hp := (Entails.of_eq (rest_recv m ρ c R hR)) $$ Hpay
  unfold recvPay
  icases Hp with ⟨Hland, Hgive⟩
  ihave Havs := (avail_make c A R hA) $$ [Hgive Havs]
  · isplitl [Hgive]; · iexact Hgive
    iexact Havs
  iapply Hk
  isplitr [Hland]
  swap
  · iexact Hland
  isplitr; · iexact Hrec
  isplitr; · iexact Hlev
  isplitl [HO]; · iexists (insert (SemLoc.dma (recvS R), R + 2) W); iexact HO
  isplitl [Htks]; · iexact Htks
  isplitl [Havs]; · iexact Havs
  isplitl [HcS]; · iexact HcS
  isplitl [HcR]; · iexact HcR
  isplitl [HpS]; · iexact HpS
  isplitl [Hat HpR]
  · isplitl [Hat]
    · isplitl [Hat]; · iexact Hat
      iexact Hre
    iexact HpR
  isplitl [Hsl]; · iexact Hsl
  isplitl [Hou]; · iexact Hou
  iexact Hdn

/-- A received block of the result is the next transfer's source. -/
theorem pass_on (c : Dev nD) (n : ℕ) (h : 28 ≤ n) (h' : n < 52) : holds c (dstM n c) (V m ρ n (src n c)) = holds c (srcM (n + 4) c) (V m ρ (n + 4) c) := by
  rw [srcM_add4 n (.inr ⟨h, h'⟩), V_gather m ρ n h]

/-- The wait for the arrival of a block that is to be sent on. -/
theorem step_waitP {A B R : ℕ} (c : Dev nD) (hR : 28 ≤ R) (hR' : R < 52) (hRA : R < A) (hA : A ≤ R + 5)
    {M₁ : Memref sig .tc .vmem S512x512 .bf16} {M₂ : Memref sig .tc .vmem S512x512 .bf16} {s : DmaSem sig}
    (e : s = recvS R)
    {h₁ : M₁.view.WordExact} {h₂ : M₂.view.WordExact}
    {α : Type} {Q : α → sProp 𝕄} {k : PUnit → Prog (TpuEff nD τ sig (Elt F) Λ₀ .tc) α} :
    Net m ρ c A B R
      ⊢ iprop(((Net m ρ c A B (R + 1) ∗ holds c (srcM (R + 4) c) (V m ρ (R + 4) c)) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 s M₁ M₂ h₁ h₂) k) Q) := by
  rw [← pass_on m ρ c R hR hR']
  exact step_waitR m ρ c (by omega) hRA hA e

end Cert.RingProof

end
-- ==== Proof.Mem.lean ====
/-
# Loads and stores of the two-way ring's body

One lemma per kind of access: a slot of the communication buffer, rows or columns of the kept operands, a block of the
result.
-/
module

public import proofs.«01_k».proof.Proof.Steps

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ) (ρ : Dev nD → PrngReg)

/-- A whole buffer of device `c`. -/
def whole (c : Dev nD) (b : Ref sig .tc) (f : b.ty.Contents (Elt F)) : sProp 𝕄 :=
  iprop(((c : Thread nD τ).loc b) ↦{fullShare} (f : Buf (Elt F) ((c : Thread nD τ).loc b)))

omit [FloatOps F] in
theorem holds_dead (c : Dev nD) (M : Memref sig .tc .vmem S512x512 .bf16) (v : Vec F S512x512 .bf16) : holds c M v ⊢ dead c M := by
  unfold holds dead; iintro ⟨%f, -, H⟩; iexists f; iexact H

theorem slot_set (q : Fin 4) (k : Fin 3) : (slotM q k).view.set = comM.view.setOn (slotR q k).toLoadRect.set :=
  (View.set_reshape _ _).trans (View.set_slice _ _)
theorem slot_set' (q : Fin 4) (k : Fin 3) : (comM.access (slotR q k)).setOn Finset.univ ⊆ (slotM q k).view.set := by
  rw [show (slotM q k).view.set = (comM.access (slotR q k)).set from View.set_reshape _ _]; exact subset_rfl
omit [FloatOps F] in
theorem slot_read (q : Fin 4) (k : Fin 3) (f : (cc0_scratch0 : Ref sig .tc).ty.Contents (Elt F)) :
    (slotM q k).view.read (Elt F) f = castD (comM.view.readAt (Elt F) (slotR q k).toLoadRect f) := rfl
theorem out_set (ch : Fin 8) (q : Fin 4) : (outM ch q).view.set = oM.view.setOn (outR ch q).toLoadRect.set := View.set_slice _ _

omit [FloatOps F] in
theorem dead_slot (c : Dev nD) (q : Fin 4) (k : Fin 3) : dead (F := F) c (slotM q k) = iprop(∃ f : Buf (Elt F) ((c : Thread nD τ).loc cc0_scratch0), ((c : Thread nD τ).loc cc0_scratch0) ↦[(slotM q k).view.set]{fullShare} f) := rfl
omit [FloatOps F] in
theorem holds_slot (c : Dev nD) (q : Fin 4) (k : Fin 3) (v : Vec F S512x512 .bf16) : holds (F := F) c (slotM q k) v = iprop(∃ f : Buf (Elt F) ((c : Thread nD τ).loc cc0_scratch0), ⌜castD (comM.view.readAt (Elt F) (slotR q k).toLoadRect f) = v⌝ ∗ ((c : Thread nD τ).loc cc0_scratch0) ↦[(slotM q k).view.set]{fullShare} f) := rfl
omit [FloatOps F] in
theorem dead_out (c : Dev nD) (ch : Fin 8) (q : Fin 4) : dead (F := F) c (outM ch q) = iprop(∃ f : Buf (Elt F) ((c : Thread nD τ).loc cc0_stg2_0), ((c : Thread nD τ).loc cc0_stg2_0) ↦[(outM ch q).view.set]{fullShare} f) := rfl
omit [FloatOps F] in
theorem holds_out (c : Dev nD) (ch : Fin 8) (q : Fin 4) (v : Vec F S512x512 .bf16) : holds (F := F) c (outM ch q) v = iprop(∃ f : Buf (Elt F) ((c : Thread nD τ).loc cc0_stg2_0), ⌜(outM ch q).view.read (Elt F) f = v⌝ ∗ ((c : Thread nD τ).loc cc0_stg2_0) ↦[(outM ch q).view.set]{fullShare} f) := rfl
theorem out_set' (ch : Fin 8) (q : Fin 4) : (oM.access (outR ch q)).setOn Finset.univ ⊆ (outM ch q).view.set := subset_rfl

section
variable {α : Type} (c : Dev nD)

/-- A load of a slot that holds `v`. -/
theorem load_slot (q : Fin 4) (k : Fin 3) {M : Memref sig .tc .vmem S512x512 .bf16} {v : Vec F S512x512 .bf16} (hM : M = slotM q k)
    {off : Fin 4 → ℕ} {inb : ∀ a, off a + S1x1x512x512.size a ≤ S4x3x512x512.size a} (ho : off = ![q.val, k.val, 0, 0])
    {hl : comM.view.LoadsAt (Rect.unit (s := S4x3x512x512) off S1x1x512x512.size inb).toLoadRect}
    {kk : Vec F S1x1x512x512 .bf16 → Prog (TpuEff nD τ sig (Elt F) Λ₀ .tc) α} {Q : α → sProp 𝕄} :
    holds c M v
      ⊢ iprop((holds c M v -∗ wp frame (wpE (defs₀ (F := F)) 𝒱₀ (c : Thread nD τ) none) Set.univ (kk (castU v)) Q)
          -∗ wp frame (wpE (defs₀ (F := F)) 𝒱₀ (c : Thread nD τ) none) Set.univ
              (.op (.load comM (Rect.unit (s := S4x3x512x512) off S1x1x512x512.size inb).toLoadRect hl) kk) Q) := by
  subst hM ho
  rw [holds_slot]
  iintro ⟨%f, %hf, H⟩ Hk
  iapply (wp_load 𝒱₀ (c : Thread nD τ) none Set.univ (m := comM) (slot_set q k).ge) $$ H
  iintro H
  rw [show comM.view.readAt (Elt F) (slotR q k).toLoadRect f = castU v by rw [← hf, castU_castD]]
  iapply Hk
  iexists f
  isplitr; · ipureintro; exact hf
  iexact H

/-- A load of a slot whose value nobody uses. -/
theorem peek_slot (q : Fin 4) (k : Fin 3) {M : Memref sig .tc .vmem S512x512 .bf16} (hM : M = slotM q k)
    {off : Fin 4 → ℕ} {inb : ∀ a, off a + S1x1x512x512.size a ≤ S4x3x512x512.size a} (ho : off = ![q.val, k.val, 0, 0])
    {hl : comM.view.LoadsAt (Rect.unit (s := S4x3x512x512) off S1x1x512x512.size inb).toLoadRect}
    {kk : Vec F S1x1x512x512 .bf16 → Prog (TpuEff nD τ sig (Elt F) Λ₀ .tc) α} {Q : α → sProp 𝕄} :
    dead c M
      ⊢ iprop((∀ w, dead c M -∗ wp frame (wpE (defs₀ (F := F)) 𝒱₀ (c : Thread nD τ) none) Set.univ (kk w) Q)
          -∗ wp frame (wpE (defs₀ (F := F)) 𝒱₀ (c : Thread nD τ) none) Set.univ
              (.op (.load comM (Rect.unit (s := S4x3x512x512) off S1x1x512x512.size inb).toLoadRect hl) kk) Q) := by
  subst hM ho
  rw [dead_slot]
  iintro ⟨%f, H⟩ Hk
  iapply (wp_load 𝒱₀ (c : Thread nD τ) none Set.univ (m := comM) (slot_set q k).ge) $$ H
  iintro H
  iapply Hk
  iexists f
  iexact H

/-- A store of a slot. -/
theorem store_slot (q : Fin 4) (k : Fin 3) {M M₁ : Memref sig .tc .vmem S512x512 .bf16} {v : Vec F S512x512 .bf16} (hM : M = slotM q k) (hM₁ : M₁ = slotM q k)
    {off : Fin 4 → ℕ} {inb : ∀ a, off a + S1x1x512x512.size a ≤ S4x3x512x512.size a} (ho : off = ![q.val, k.val, 0, 0])
    (p : Vec F S1x1x512x512 .bf16) (hv : castD p = v) {hx : (comM.access (Rect.unit (s := S4x3x512x512) off S1x1x512x512.size inb)).Stores Finset.univ}
    {hm : (Finset.univ : Finset (Rect.unit (s := S4x3x512x512) off S1x1x512x512.size inb).shape.Idx) = Finset.univ ∨ ∀ a, (Rect.unit (s := S4x3x512x512) off S1x1x512x512.size inb).stride a = 1}
    {kk : PUnit → Prog (TpuEff nD τ sig (Elt F) Λ₀ .tc) α} {Q : α → sProp 𝕄} :
    dead c M
      ⊢ iprop((holds c M₁ v -∗ wp frame (wpE (defs₀ (F := F)) 𝒱₀ (c : Thread nD τ) none) Set.univ (kk ⟨⟩) Q)
          -∗ wp frame (wpE (defs₀ (F := F)) 𝒱₀ (c : Thread nD τ) none) Set.univ
              (.op (.store comM (Rect.unit (s := S4x3x512x512) off S1x1x512x512.size inb) p Finset.univ hx hm) kk) Q) := by
  subst hM hM₁ ho hv
  rw [dead_slot, holds_slot]
  iintro ⟨%f, H⟩ Hk
  iapply (wp_store 𝒱₀ (c : Thread nD τ) none Set.univ (m := comM) (r := slotR q k) (Mk := Finset.univ) (slot_set' q k)) $$ H
  iintro H
  iapply Hk
  iexists _
  isplitr
  swap
  · iexact H
  ipureintro
  exact congrArg castD (View.read_write_univ (v := comM.access (slotR q k)) f p)

/-- A store of a slot that held something else. -/
theorem store_over (q : Fin 4) (k : Fin 3) {M M₁ : Memref sig .tc .vmem S512x512 .bf16} {u v : Vec F S512x512 .bf16} (hM : M = slotM q k) (hM₁ : M₁ = slotM q k)
    {off : Fin 4 → ℕ} {inb : ∀ a, off a + S1x1x512x512.size a ≤ S4x3x512x512.size a} (ho : off = ![q.val, k.val, 0, 0])
    (p : Vec F S1x1x512x512 .bf16) (hv : castD p = v) {hx : (comM.access (Rect.unit (s := S4x3x512x512) off S1x1x512x512.size inb)).Stores Finset.univ}
    {hm : (Finset.univ : Finset (Rect.unit (s := S4x3x512x512) off S1x1x512x512.size inb).shape.Idx) = Finset.univ ∨ ∀ a, (Rect.unit (s := S4x3x512x512) off S1x1x512x512.size inb).stride a = 1}
    {kk : PUnit → Prog (TpuEff nD τ sig (Elt F) Λ₀ .tc) α} {Q : α → sProp 𝕄} :
    holds c M u
      ⊢ iprop((holds c M₁ v -∗ wp frame (wpE (defs₀ (F := F)) 𝒱₀ (c : Thread nD τ) none) Set.univ (kk ⟨⟩) Q)
          -∗ wp frame (wpE (defs₀ (F := F)) 𝒱₀ (c : Thread nD τ) none) Set.univ
              (.op (.store comM (Rect.unit (s := S4x3x512x512) off S1x1x512x512.size inb) p Finset.univ hx hm) kk) Q) := (holds_dead c M u).trans (store_slot c q k hM hM₁ ho p hv)

theorem out_eq (ch : Fin 8) (q : Fin 4) {off : Fin 2 → ℕ} {inb : ∀ a, off a + S512x512.size a ≤ S4096x2048.size a} (ho : off = ![512 * ch.val, 512 * q.val])
    {hr} : oM.slice (Rect.unit (s := S4096x2048) off S512x512.size inb) hr = outM ch q := by subst ho; rfl

/-- A load of a block of the result whose value nobody uses. -/
theorem peek_out (ch : Fin 8) (q : Fin 4) {M : Memref sig .tc .vmem S512x512 .bf16} (hM : M = outM ch q)
    {off : Fin 2 → ℕ} {inb : ∀ a, off a + S512x512.size a ≤ S4096x2048.size a} (ho : off = ![512 * ch.val, 512 * q.val])
    {hl : oM.view.LoadsAt (Rect.unit (s := S4096x2048) off S512x512.size inb).toLoadRect}
    {kk : Vec F S512x512 .bf16 → Prog (TpuEff nD τ sig (Elt F) Λ₀ .tc) α} {Q : α → sProp 𝕄} :
    dead c M
      ⊢ iprop((∀ w, dead c M -∗ wp frame (wpE (defs₀ (F := F)) 𝒱₀ (c : Thread nD τ) none) Set.univ (kk w) Q)
          -∗ wp frame (wpE (defs₀ (F := F)) 𝒱₀ (c : Thread nD τ) none) Set.univ
              (.op (.load oM (Rect.unit (s := S4096x2048) off S512x512.size inb).toLoadRect hl) kk) Q) := by
  subst hM ho
  rw [dead_out]
  iintro ⟨%f, H⟩ Hk
  iapply (wp_load 𝒱₀ (c : Thread nD τ) none Set.univ (m := oM) (out_set ch q).ge) $$ H
  iintro H
  iapply Hk
  iexists f
  iexact H

/-- A store of a block of the result. -/
theorem store_out (ch : Fin 8) (q : Fin 4) {M : Memref sig .tc .vmem S512x512 .bf16} (hM : M = outM ch q)
    {off : Fin 2 → ℕ} {inb : ∀ a, off a + S512x512.size a ≤ S4096x2048.size a} (ho : off = ![512 * ch.val, 512 * q.val])
    (p : Vec F S512x512 .bf16) {v : Vec F S512x512 .bf16} (hv : p = v) {hx : (oM.access (Rect.unit (s := S4096x2048) off S512x512.size inb)).Stores Finset.univ}
    {hm : (Finset.univ : Finset (Rect.unit (s := S4096x2048) off S512x512.size inb).shape.Idx) = Finset.univ ∨ ∀ a, (Rect.unit (s := S4096x2048) off S512x512.size inb).stride a = 1}
    {kk : PUnit → Prog (TpuEff nD τ sig (Elt F) Λ₀ .tc) α} {Q : α → sProp 𝕄} :
    dead c M
      ⊢ iprop((holds c M v -∗ wp frame (wpE (defs₀ (F := F)) 𝒱₀ (c : Thread nD τ) none) Set.univ (kk ⟨⟩) Q)
          -∗ wp frame (wpE (defs₀ (F := F)) 𝒱₀ (c : Thread nD τ) none) Set.univ
              (.op (.store oM (Rect.unit (s := S4096x2048) off S512x512.size inb) p Finset.univ hx hm) kk) Q) := by
  subst hM ho hv
  rw [dead_out, holds_out]
  iintro ⟨%f, H⟩ Hk
  iapply (wp_store 𝒱₀ (c : Thread nD τ) none Set.univ (m := oM) (r := outR ch q) (Mk := Finset.univ) (out_set' ch q)) $$ H
  iintro H
  iapply Hk
  iexists _
  isplitr
  swap
  · iexact H
  ipureintro
  exact View.read_write_univ (v := oM.access (outR ch q)) f p

/-- Loads of rows and of columns of the kept operands. -/
theorem load_row (ch : Fin 8) {off : Fin 2 → ℕ} {inb : ∀ a, off a + S512x512.size a ≤ S4096x512.size a} (ho : off = ![512 * ch.val, 0])
    {hl : xbM.view.LoadsAt (Rect.unit (s := S4096x512) off S512x512.size inb).toLoadRect}
    {kk : Vec F S512x512 .bf16 → Prog (TpuEff nD τ sig (Elt F) Λ₀ .tc) α} {Q : α → sProp 𝕄} :
    whole c cc0_scratch1 (xbv m ρ c)
      ⊢ iprop((whole c cc0_scratch1 (xbv m ρ c) -∗ wp frame (wpE (defs₀ (F := F)) 𝒱₀ (c : Thread nD τ) none) Set.univ (kk (xrow m ρ c ch)) Q)
          -∗ wp frame (wpE (defs₀ (F := F)) 𝒱₀ (c : Thread nD τ) none) Set.univ
              (.op (.load xbM (Rect.unit (s := S4096x512) off S512x512.size inb).toLoadRect hl) kk) Q) := by
  subst ho
  unfold whole
  exact wp_load 𝒱₀ (c : Thread nD τ) none Set.univ (m := xbM) (Finset.subset_univ _)

theorem load_col (q : Fin 4) {off : Fin 2 → ℕ} {inb : ∀ a, off a + S512x512.size a ≤ S512x2048.size a} (ho : off = ![0, 512 * q.val])
    {hl : wbM.view.LoadsAt (Rect.unit (s := S512x2048) off S512x512.size inb).toLoadRect}
    {kk : Vec F S512x512 .bf16 → Prog (TpuEff nD τ sig (Elt F) Λ₀ .tc) α} {Q : α → sProp 𝕄} :
    whole c cc0_scratch2 (wbv m ρ c)
      ⊢ iprop((whole c cc0_scratch2 (wbv m ρ c) -∗ wp frame (wpE (defs₀ (F := F)) 𝒱₀ (c : Thread nD τ) none) Set.univ (kk (wcol m ρ c q)) Q)
          -∗ wp frame (wpE (defs₀ (F := F)) 𝒱₀ (c : Thread nD τ) none) Set.univ
              (.op (.load wbM (Rect.unit (s := S512x2048) off S512x512.size inb).toLoadRect hl) kk) Q) := by
  subst ho
  unfold whole
  exact wp_load 𝒱₀ (c : Thread nD τ) none Set.univ (m := wbM) (Finset.subset_univ _)

/-- The kept first operand while only a device's own rows of it are in. -/
def ownRows : sProp 𝕄 :=
  iprop(∃ f : (cc0_scratch1 : Ref sig .tc).ty.Contents (Elt F), ⌜xbM.view.readAt (Elt F) (xR (chS 0 c)).toLoadRect f = xrow m ρ c (chS 0 c)⌝ ∗ whole c cc0_scratch1 f)

theorem load_own (ch : Fin 8) (hch : ch = chS 0 c) {off : Fin 2 → ℕ} {inb : ∀ a, off a + S512x512.size a ≤ S4096x512.size a} (ho : off = ![512 * ch.val, 0])
    {hl : xbM.view.LoadsAt (Rect.unit (s := S4096x512) off S512x512.size inb).toLoadRect}
    {kk : Vec F S512x512 .bf16 → Prog (TpuEff nD τ sig (Elt F) Λ₀ .tc) α} {Q : α → sProp 𝕄} :
    ownRows m ρ c
      ⊢ iprop((ownRows m ρ c -∗ wp frame (wpE (defs₀ (F := F)) 𝒱₀ (c : Thread nD τ) none) Set.univ (kk (xrow m ρ c ch)) Q)
          -∗ wp frame (wpE (defs₀ (F := F)) 𝒱₀ (c : Thread nD τ) none) Set.univ
              (.op (.load xbM (Rect.unit (s := S4096x512) off S512x512.size inb).toLoadRect hl) kk) Q) := by
  subst ho hch
  unfold ownRows whole
  iintro ⟨%f, %hf, H⟩ Hk
  iapply (wp_load 𝒱₀ (c : Thread nD τ) none Set.univ (m := xbM) (Finset.subset_univ _)) $$ H
  iintro H
  rw [show xbM.view.readAt (Elt F) (xR (chS 0 c)).toLoadRect f = xrow m ρ c (chS 0 c) from hf]
  iapply Hk
  iexists f
  isplitr; · ipureintro; exact hf
  iexact H

/-! ## Whole buffers -/

/-- A load of the whole first or second operand. -/
theorem load_x (f : (cc0_stg0_0 : Ref sig .tc).ty.Contents (Elt F)) {off : Fin 2 → ℕ} (ho : off = 0) {inb : ∀ a, off a + S4096x512.size a ≤ S4096x512.size a}
    {hl : xM.view.LoadsAt (Rect.unit (s := S4096x512) off S4096x512.size inb).toLoadRect}
    {kk : Vec F S4096x512 .bf16 → Prog (TpuEff nD τ sig (Elt F) Λ₀ .tc) α} {Q : α → sProp 𝕄} :
    whole c cc0_stg0_0 f
      ⊢ iprop((whole c cc0_stg0_0 f -∗ wp frame (wpE (defs₀ (F := F)) 𝒱₀ (c : Thread nD τ) none) Set.univ (kk f) Q)
          -∗ wp frame (wpE (defs₀ (F := F)) 𝒱₀ (c : Thread nD τ) none) Set.univ
              (.op (.load xM (Rect.unit (s := S4096x512) off S4096x512.size inb).toLoadRect hl) kk) Q) := by
  subst ho
  unfold whole
  have e : xM.view.readAt (Elt F) (Rect.unit (s := S4096x512) 0 S4096x512.size inb).toLoadRect f = f := Memref.readAt_unit_zero (Elt F) cc0_stg0_0 rfl inb f
  iintro H Hk
  iapply (wp_load 𝒱₀ (c : Thread nD τ) none Set.univ (m := xM) (Finset.subset_univ _)) $$ H
  iintro H
  rw [e]
  iapply Hk; iexact H

theorem load_w (f : (cc0_stg1_0 : Ref sig .tc).ty.Contents (Elt F)) {off : Fin 2 → ℕ} (ho : off = 0) {inb : ∀ a, off a + S512x2048.size a ≤ S512x2048.size a}
    {hl : wM.view.LoadsAt (Rect.unit (s := S512x2048) off S512x2048.size inb).toLoadRect}
    {kk : Vec F S512x2048 .bf16 → Prog (TpuEff nD τ sig (Elt F) Λ₀ .tc) α} {Q : α → sProp 𝕄} :
    whole c cc0_stg1_0 f
      ⊢ iprop((whole c cc0_stg1_0 f -∗ wp frame (wpE (defs₀ (F := F)) 𝒱₀ (c : Thread nD τ) none) Set.univ (kk f) Q)
          -∗ wp frame (wpE (defs₀ (F := F)) 𝒱₀ (c : Thread nD τ) none) Set.univ
              (.op (.load wM (Rect.unit (s := S512x2048) off S512x2048.size inb).toLoadRect hl) kk) Q) := by
  subst ho
  unfold whole
  have e : wM.view.readAt (Elt F) (Rect.unit (s := S512x2048) 0 S512x2048.size inb).toLoadRect f = f := Memref.readAt_unit_zero (Elt F) cc0_stg1_0 rfl inb f
  iintro H Hk
  iapply (wp_load 𝒱₀ (c : Thread nD τ) none Set.univ (m := wM) (Finset.subset_univ _)) $$ H
  iintro H
  rw [e]
  iapply Hk; iexact H

/-- A load of rows of the first operand as staged. -/
theorem load_xrows (n : ℕ) (hn : n < 4) {off : Fin 2 → ℕ} {inb : ∀ a, off a + S512x512.size a ≤ S4096x512.size a} (ho : off = ![512 * (chS n c).val, 0])
    {hl : xM.view.LoadsAt (Rect.unit (s := S4096x512) off S512x512.size inb).toLoadRect}
    {kk : Vec F S512x512 .bf16 → Prog (TpuEff nD τ sig (Elt F) Λ₀ .tc) α} {Q : α → sProp 𝕄} :
    whole c cc0_stg0_0 (xv m ρ c)
      ⊢ iprop((whole c cc0_stg0_0 (xv m ρ c) -∗ wp frame (wpE (defs₀ (F := F)) 𝒱₀ (c : Thread nD τ) none) Set.univ (kk (xrow m ρ c (chS n c))) Q)
          -∗ wp frame (wpE (defs₀ (F := F)) 𝒱₀ (c : Thread nD τ) none) Set.univ
              (.op (.load xM (Rect.unit (s := S4096x512) off S512x512.size inb).toLoadRect hl) kk) Q) := by
  subst ho
  have e : xrow m ρ c (chS n c) = xM.view.readAt (Elt F) (xR (chS n c)).toLoadRect (xv m ρ c) := by
    unfold xrow xbv k0_pay8; dsimp only; rw [shapeCast_self, shapeCast_self]; rfl
  rw [e]
  unfold whole
  exact wp_load 𝒱₀ (c : Thread nD τ) none Set.univ (m := xM) (Finset.subset_univ _)

/-- Loads of the kept operands that nobody uses. -/
theorem peek_xb (f : (cc0_scratch1 : Ref sig .tc).ty.Contents (Elt F)) {r : LoadRect S4096x512}
    {hl : xbM.view.LoadsAt r}
    {kk : (r.shape.Idx → Elt F .bf16) → Prog (TpuEff nD τ sig (Elt F) Λ₀ .tc) α} {Q : α → sProp 𝕄} :
    whole c cc0_scratch1 f
      ⊢ iprop((∀ w, whole c cc0_scratch1 f -∗ wp frame (wpE (defs₀ (F := F)) 𝒱₀ (c : Thread nD τ) none) Set.univ (kk w) Q)
          -∗ wp frame (wpE (defs₀ (F := F)) 𝒱₀ (c : Thread nD τ) none) Set.univ (.op (.load xbM r hl) kk) Q) := by
  unfold whole
  iintro H Hk
  iapply (wp_load 𝒱₀ (c : Thread nD τ) none Set.univ (m := xbM) (Finset.subset_univ _)) $$ H
  iintro H
  iapply Hk; iexact H
theorem peek_wb (f : (cc0_scratch2 : Ref sig .tc).ty.Contents (Elt F)) {r : LoadRect S512x2048}
    {hl : wbM.view.LoadsAt r}
    {kk : (r.shape.Idx → Elt F .bf16) → Prog (TpuEff nD τ sig (Elt F) Λ₀ .tc) α} {Q : α → sProp 𝕄} :
    whole c cc0_scratch2 f
      ⊢ iprop((∀ w, whole c cc0_scratch2 f -∗ wp frame (wpE (defs₀ (F := F)) 𝒱₀ (c : Thread nD τ) none) Set.univ (kk w) Q)
          -∗ wp frame (wpE (defs₀ (F := F)) 𝒱₀ (c : Thread nD τ) none) Set.univ (.op (.load wbM r hl) kk) Q) := by
  unfold whole
  iintro H Hk
  iapply (wp_load 𝒱₀ (c : Thread nD τ) none Set.univ (m := wbM) (Finset.subset_univ _)) $$ H
  iintro H
  iapply Hk; iexact H

/-- Stores of the whole kept operands. -/
theorem store_xb (f : (cc0_scratch1 : Ref sig .tc).ty.Contents (Elt F)) {off : Fin 2 → ℕ} (ho : off = 0) {inb : ∀ a, off a + S4096x512.size a ≤ S4096x512.size a}
    (p : Vec F S4096x512 .bf16) {hx : (xbM.access (Rect.unit (s := S4096x512) off S4096x512.size inb)).Stores Finset.univ}
    {hm : (Finset.univ : Finset (Rect.unit (s := S4096x512) off S4096x512.size inb).shape.Idx) = Finset.univ ∨ ∀ a, (Rect.unit (s := S4096x512) off S4096x512.size inb).stride a = 1}
    {kk : PUnit → Prog (TpuEff nD τ sig (Elt F) Λ₀ .tc) α} {Q : α → sProp 𝕄} :
    whole c cc0_scratch1 f
      ⊢ iprop((whole c cc0_scratch1 p -∗ wp frame (wpE (defs₀ (F := F)) 𝒱₀ (c : Thread nD τ) none) Set.univ (kk ⟨⟩) Q)
          -∗ wp frame (wpE (defs₀ (F := F)) 𝒱₀ (c : Thread nD τ) none) Set.univ
              (.op (.store xbM (Rect.unit (s := S4096x512) off S4096x512.size inb) p Finset.univ hx hm) kk) Q) := by
  subst ho
  unfold whole
  have e : (xbM.access (Rect.unit (s := S4096x512) 0 S4096x512.size inb)).write (Elt F) f p Finset.univ = p := Memref.write_access_unit_zero_univ (Elt F) cc0_scratch1 rfl inb f p
  iintro H Hk
  iapply (wp_store 𝒱₀ (c : Thread nD τ) none Set.univ (m := xbM) (r := Rect.unit (s := S4096x512) 0 S4096x512.size inb) (Mk := Finset.univ) (Finset.subset_univ _)) $$ H
  iintro H
  rw [e]
  iapply Hk; iexact H
theorem store_wb (f : (cc0_scratch2 : Ref sig .tc).ty.Contents (Elt F)) {off : Fin 2 → ℕ} (ho : off = 0) {inb : ∀ a, off a + S512x2048.size a ≤ S512x2048.size a}
    (p : Vec F S512x2048 .bf16) {hx : (wbM.access (Rect.unit (s := S512x2048) off S512x2048.size inb)).Stores Finset.univ}
    {hm : (Finset.univ : Finset (Rect.unit (s := S512x2048) off S512x2048.size inb).shape.Idx) = Finset.univ ∨ ∀ a, (Rect.unit (s := S512x2048) off S512x2048.size inb).stride a = 1}
    {kk : PUnit → Prog (TpuEff nD τ sig (Elt F) Λ₀ .tc) α} {Q : α → sProp 𝕄} :
    whole c cc0_scratch2 f
      ⊢ iprop((whole c cc0_scratch2 p -∗ wp frame (wpE (defs₀ (F := F)) 𝒱₀ (c : Thread nD τ) none) Set.univ (kk ⟨⟩) Q)
          -∗ wp frame (wpE (defs₀ (F := F)) 𝒱₀ (c : Thread nD τ) none) Set.univ
              (.op (.store wbM (Rect.unit (s := S512x2048) off S512x2048.size inb) p Finset.univ hx hm) kk) Q) := by
  subst ho
  unfold whole
  have e : (wbM.access (Rect.unit (s := S512x2048) 0 S512x2048.size inb)).write (Elt F) f p Finset.univ = p := Memref.write_access_unit_zero_univ (Elt F) cc0_scratch2 rfl inb f p
  iintro H Hk
  iapply (wp_store 𝒱₀ (c : Thread nD τ) none Set.univ (m := wbM) (r := Rect.unit (s := S512x2048) 0 S512x2048.size inb) (Mk := Finset.univ) (Finset.subset_univ _)) $$ H
  iintro H
  rw [e]
  iapply Hk; iexact H

/-- The store of a device's own rows. -/
theorem store_own (f : (cc0_scratch1 : Ref sig .tc).ty.Contents (Elt F)) {off : Fin 2 → ℕ} (ho : off = ![512 * (chS 0 c).val, 0]) {inb : ∀ a, off a + S512x512.size a ≤ S4096x512.size a}
    (p : Vec F S512x512 .bf16) (hp : p = k0_pay2 (xrow m ρ c (chS 0 c))) {hx : (xbM.access (Rect.unit (s := S4096x512) off S512x512.size inb)).Stores Finset.univ}
    {hm : (Finset.univ : Finset (Rect.unit (s := S4096x512) off S512x512.size inb).shape.Idx) = Finset.univ ∨ ∀ a, (Rect.unit (s := S4096x512) off S512x512.size inb).stride a = 1}
    {kk : PUnit → Prog (TpuEff nD τ sig (Elt F) Λ₀ .tc) α} {Q : α → sProp 𝕄} :
    whole c cc0_scratch1 f
      ⊢ iprop((ownRows m ρ c -∗ wp frame (wpE (defs₀ (F := F)) 𝒱₀ (c : Thread nD τ) none) Set.univ (kk ⟨⟩) Q)
          -∗ wp frame (wpE (defs₀ (F := F)) 𝒱₀ (c : Thread nD τ) none) Set.univ
              (.op (.store xbM (Rect.unit (s := S4096x512) off S512x512.size inb) p Finset.univ hx hm) kk) Q) := by
  subst ho hp
  unfold ownRows whole
  iintro H Hk
  iapply (wp_store 𝒱₀ (c : Thread nD τ) none Set.univ (m := xbM) (r := xR (chS 0 c)) (Mk := Finset.univ) (Finset.subset_univ _)) $$ H
  iintro H
  iapply Hk
  iexists _
  isplitr
  swap
  · iexact H
  ipureintro
  refine (View.read_write_univ (v := xbM.access (xR (chS 0 c))) f _).trans ?_
  unfold k0_pay2; dsimp only; rw [shapeCast_self, shapeCast_self]

end

/-! ## Where the body's accesses are -/

section
variable (c : Dev nD)

theorem chS_first (n : ℕ) (h : n < 4) : chS n c = chS 0 c := by
  have hc : c.val < 8 := c.isLt
  unfold chS
  rw [if_pos (show 0 % 2 = 0 from rfl)]
  by_cases h2 : n % 2 = 0
  · rw [if_pos h2]; exact Fin.ext (by show (c.val + 16 - n / 4) % 8 = (c.val + 16 - 0 / 4) % 8; omega)
  · rw [if_neg h2]; exact Fin.ext (by show (c.val + n / 4) % 8 = (c.val + 16 - 0 / 4) % 8; omega)

theorem chS_even (n : ℕ) (h : n % 2 = 0) : (chS n c).val = (c.val + 16 - n / 4) % 8 := by unfold chS; rw [if_pos h]
theorem chS_odd (n : ℕ) (h : ¬ n % 2 = 0) : (chS n c).val = (c.val + n / 4) % 8 := by unfold chS; rw [if_neg h]

theorem off1_at (n : ℕ) (h : n < 4) : k0_off1 c = ![512 * (chS n c).val, 0] := by
  have hc : c.val < 8 := c.isLt
  rw [k0_off1_eq, chS_first c n h, chS_even c 0 rfl, show (c.val + 16 - 0 / 4) % 8 = c.val by omega]
theorem off2_at (r : Fin 7) (n : ℕ) (h : n / 4 = r.val + 1) (he : n % 2 = 0) : k0_off2 c (BitVec.ofNat 32 r.val) = ![512 * (chS n c).val, 0] := by
  rw [k0_off2_eq, chS_even c n he, h, show c.val + 15 - r.val = c.val + 16 - (r.val + 1) by omega]
theorem off3_at (r : Fin 7) (n : ℕ) (h : n / 4 = r.val + 1) (he : ¬ n % 2 = 0) : k0_off3 c (BitVec.ofNat 32 r.val) = ![512 * (chS n c).val, 0] := by
  rw [k0_off3_eq, chS_odd c n he, h, show c.val + r.val + 1 = c.val + (r.val + 1) by omega]
theorem right_at (n : ℕ) (h : n / 4 = 7) (he : n % 2 = 0) {q : ℕ} (hq : q = 512 * (qn n).val) :
    (![512 * ((c.val + 1) % 8), q] : Fin 2 → ℕ) = ![512 * (chS n c).val, 512 * (qn n).val] := by
  rw [chS_even c n he, h, hq, show (c.val + 16 - 7) % 8 = (c.val + 1) % 8 by omega]
theorem left_at (n : ℕ) (h : n / 4 = 7) (he : ¬ n % 2 = 0) {q : ℕ} (hq : q = 512 * (qn n).val) :
    (![512 * ((c.val + 7) % 8), q] : Fin 2 → ℕ) = ![512 * (chS n c).val, 512 * (qn n).val] := by
  rw [chS_odd c n he, h, hq]
theorem rightN_at (r n : ℕ) (h : n / 4 = 8 + r) (hr : r ≤ 6) (he : n % 2 = 0) {q : ℕ} (hq : q = 512 * (qn n).val) :
    (![512 * ((c.val + 16 - r) % 8), q] : Fin 2 → ℕ) = ![512 * (chS n c).val, 512 * (qn n).val] := by
  rw [chS_even c n he, h, hq, show (c.val + 16 - (8 + r)) % 8 = (c.val + 16 - r) % 8 by omega]
theorem leftN_at (r n : ℕ) (h : n / 4 = 8 + r) (he : ¬ n % 2 = 0) {q : ℕ} (hq : q = 512 * (qn n).val) :
    (![512 * ((c.val + r) % 8), q] : Fin 2 → ℕ) = ![512 * (chS n c).val, 512 * (qn n).val] := by
  rw [chS_odd c n he, h, hq, show (c.val + (8 + r)) % 8 = (c.val + r) % 8 by omega]

omit [FloatOps F] in
theorem out_src (n : ℕ) (h : 28 ≤ n) {off : Fin 2 → ℕ} {inb : ∀ a, off a + S512x512.size a ≤ S4096x2048.size a} (ho : off = ![512 * (chS n c).val, 512 * (qn n).val])
    {hr} : oM.slice (Rect.unit (s := S4096x2048) off S512x512.size inb) hr = srcM n c := by
  rw [out_eq (chS n c) (qn n) ho]; unfold srcM; rw [if_neg (by omega)]
omit [FloatOps F] in
theorem out_dst (n : ℕ) (h : 28 ≤ n) {off : Fin 2 → ℕ} {inb : ∀ a, off a + S512x512.size a ≤ S4096x2048.size a} (ho : off = ![512 * (chS n c).val, 512 * (qn n).val])
    {hr} : oM.slice (Rect.unit (s := S4096x2048) off S512x512.size inb) hr = dstM n (dst n c) := by
  rw [out_eq (chS n c) (qn n) ho]; unfold dstM; rw [if_neg (by omega), src_dst]

end

end Cert.RingProof

end
-- ==== Proof.Enter.lean ====
/-
# The start of the body: the neighbours' handshake

Each device grants its neighbours the landing regions of the first transfers and waits for theirs.
-/
module

public import proofs.«01_k».proof.Proof.Mem

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ) (ρ : Dev nD → PrngReg)

/-! ## The grants -/

omit [FloatOps F] in
theorem posR_reached (c : Dev nD) (n : ℕ) (h : n < 12) : I 0 12 (posR (F := F) c) ⊢ iprop(reached ER (recvCell n c) (n / 12) ∗ I 0 12 (posR c)) := by
  rw [I_pick (Nat.zero_le n) h (posR c)]
  unfold posR
  iintro ⟨⟨Hat, #Hre⟩, Hp⟩
  isplitr; · iexact Hre
  isplitl [Hat]
  · isplitl [Hat]; · iexact Hat
    iexact Hre
  iexact Hp

omit [FloatOps F] in
theorem avail_of (c : Dev nD) (n : ℕ) (h : n < 12) :
    iprop(slotDead c n ∗ I 0 12 (posR c)) ⊢ iprop(avail (F := F) n c ∗ I 0 12 (posR c)) := by
  iintro ⟨Hd, Hp⟩
  ihave Hp' := (posR_reached c n h) $$ Hp
  icases Hp' with ⟨#Hre, Hp⟩
  isplitl [Hd]
  · unfold avail slotDead
    rw [show dstM n c = slotM (qn n) (kdst n) from if_pos (by omega)]
    isplitl [Hd]; · iexact Hd
    iexact Hre
  iexact Hp

omit [FloatOps F] in
theorem grants (c : Dev nD) :
    iprop(I 0 8 (slotDead c) ∗ I 0 12 (posR c))
      ⊢ iprop(avail (F := F) 0 c ∗ avail 1 c ∗ avail 2 c ∗ avail 3 c ∗ avail 4 c ∗ I 5 8 (slotDead c) ∗ I 0 12 (posR c)) := by
  rw [I_front (a := 0) (b := 8) (by decide), I_front (a := 0 + 1) (b := 8) (by decide), I_front (a := 0 + 1 + 1) (b := 8) (by decide),
    I_front (a := 0 + 1 + 1 + 1) (b := 8) (by decide), I_front (a := 0 + 1 + 1 + 1 + 1) (b := 8) (by decide)]
  iintro ⟨⟨H0, H1, H2, H3, H4, Hs⟩, Hp⟩
  ihave H := (avail_of c 0 (by decide)) $$ [H0 Hp]
  · isplitl [H0]; · iexact H0
    iexact Hp
  icases H with ⟨A0, Hp⟩
  ihave H := (avail_of c 1 (by decide)) $$ [H1 Hp]
  · isplitl [H1]; · iexact H1
    iexact Hp
  icases H with ⟨A1, Hp⟩
  ihave H := (avail_of c 2 (by decide)) $$ [H2 Hp]
  · isplitl [H2]; · iexact H2
    iexact Hp
  icases H with ⟨A2, Hp⟩
  ihave H := (avail_of c 3 (by decide)) $$ [H3 Hp]
  · isplitl [H3]; · iexact H3
    iexact Hp
  icases H with ⟨A3, Hp⟩
  ihave H := (avail_of c 4 (by decide)) $$ [H4 Hp]
  · isplitl [H4]; · iexact H4
    iexact Hp
  icases H with ⟨A4, Hp⟩
  isplitl [A0]; · iexact A0
  isplitl [A1]; · iexact A1
  isplitl [A2]; · iexact A2
  isplitl [A3]; · iexact A3
  isplitl [A4]; · iexact A4
  isplitl [Hs]; · iexact Hs
  iexact Hp

omit [FloatOps F] in
theorem granted (c : Dev nD) :
    iprop(barPay (F := F) false c ∗ barPay true c) ⊢ I 0 5 (availTo c) := by
  rw [I_front (a := 0) (b := 5) (by decide), I_front (a := 0 + 1) (b := 5) (by decide), I_front (a := 0 + 1 + 1) (b := 5) (by decide),
    I_front (a := 0 + 1 + 1 + 1) (b := 5) (by decide), I_front (a := 0 + 1 + 1 + 1 + 1) (b := 5) (by decide), I_nil (a := 0 + 1 + 1 + 1 + 1 + 1) (b := 5) (by decide)]
  unfold barPay availTo
  rw [if_neg (by decide), if_pos rfl]
  iintro ⟨⟨A1, A3⟩, A0, A2, A4⟩
  isplitl [A0]; · iexact A0
  isplitl [A1]; · iexact A1
  isplitl [A2]; · iexact A2
  isplitl [A3]; · iexact A3
  isplitl [A4]; · iexact A4
  iempintro

/-- What a device's body starts from, besides its buffers. -/
def Ghost (c : Dev nD) : sProp 𝕄 :=
  iprop(recs m ρ ∗ levAts L lv ∗ I 0 56 (toks c)
    ∗ dutyTok ER (barCell (prv c)) 0 true ∗ dutyTok ER (barCell (nxt c)) 0 false
    ∗ reached ER (barCell (prv c)) 0 ∗ reached ER (barCell (nxt c)) 0
    ∗ atPos ER (barCell c) 0 ∅ 0 ∗ cred (tallyAt (barCell c) 1 2)
    ∗ I 0 56 (credR c) ∗ I 0 12 (posS c) ∗ I 0 12 (posR c))

/-- Its buffers, the communication slots and the blocks of the result apart. -/
def Bufs (c : Dev nD) : sProp 𝕄 :=
  iprop(whole c cc0_stg0_0 (xv m ρ c) ∗ whole c cc0_stg1_0 (wv m ρ c) ∗ (∃ f, whole c cc0_scratch1 f) ∗ (∃ f, whole c cc0_scratch2 f)
    ∗ dead c (slotM 0 0) ∗ dead c (slotM 1 0) ∗ dead c (slotM 2 0) ∗ dead c (slotM 3 0)
    ∗ dead c (srcM 28 c) ∗ dead c (srcM 29 c) ∗ dead c (srcM 30 c) ∗ dead c (srcM 31 c)
    ∗ I 0 8 (slotDead c) ∗ I 28 56 (outDead c))

theorem dev1_eq (c : Dev nD) : (⟨k0_dev1 c, k0_dev1_lt c⟩ : Dev nD) = prv c := Fin.ext (k0_dev1_eq c)
theorem dev2_eq (c : Dev nD) : (⟨k0_dev2 c, k0_dev2_lt c⟩ : Dev nD) = nxt c := Fin.ext (k0_dev2_eq c)

/-- The state after the handshake and the first loads. -/
def S1 (c : Dev nD) : sProp 𝕄 :=
  iprop(Net m ρ c 0 0 0 ∗ whole c cc0_stg0_0 (xv m ρ c) ∗ whole c cc0_stg1_0 (wv m ρ c) ∗ ownRows m ρ c ∗ whole c cc0_scratch2 (wbv m ρ c) ∗ dead c (slotM 0 0) ∗ dead c (slotM 1 0) ∗ dead c (slotM 2 0) ∗ dead c (slotM 3 0) ∗ dead c (srcM 28 c) ∗ dead c (srcM 29 c) ∗ dead c (srcM 30 c) ∗ dead c (srcM 31 c))

set_option maxHeartbeats 800000 in
theorem part1 (c : Dev nD) {Q : (Σ' (d0 : Dev nD) (v2 : BitVec 32) (v5 : BitVec 32) (v7 : BitVec 32), Vec F S512x512 .bf16) → sProp 𝕄}
    (hQ : ∀ v2 v5 v7, iprop(semVal (barCell c) 0 ∗ S1 m ρ c) ⊢ Q ⟨c, v2, v5, v7, xrow m ρ c (chS 0 c)⟩) :
    iprop(Ghost m ρ c ∗ (∃ W, owes (c : Thread nD τ) (O₀ c) W) ∗ Bufs m ρ c)
      ⊢ wp frame (wpE (defs₀ (F := F)) 𝒱₀ (c : Thread nD τ) none) Set.univ (k0_part1 xM (Memref.isWhole_whole _) wM (Memref.isWhole_whole _) oM (Memref.isWhole_whole _) comM (Memref.isWhole_whole _) xbM (Memref.isWhole_whole _) wbM (Memref.isWhole_whole _) cc0_scratch3) Q := by
  rw [k0_part1_eq_skeleton]; unfold k0_part1_skel
  simp only [semSignalWord, semWaitWord, Prog.lift, Prog.bind_op, Prog.bind_ret, Prog.pure_eq_ret, wp_deviceId]
  unfold Ghost Bufs
  iintro ⟨⟨#Hrec, #Hlev, Htk, HtP, HtN, #HrP, #HrN, Hat, Hcb, HcR, HpS, HpR⟩, ⟨%W, HO⟩, HX, HW, ⟨%f1, Hxb⟩, ⟨%f2, Hwb⟩, D0, D1, D2, D3, O28, O29, O30, O31, Hsl, Hou⟩
  ihave Hg := (grants c) $$ [Hsl HpR]
  · isplitl [Hsl]; · iexact Hsl
    iexact HpR
  icases Hg with ⟨A0, A1, A2, A3, A4, Hsl, HpR⟩
  ihave Hi := (inv_bar m ρ (prv c)) $$ Hrec
  unfold inv
  icases Hi with ⟨%κP, #HiP⟩
  ihave Hi := (inv_bar m ρ (nxt c)) $$ Hrec
  unfold inv
  icases Hi with ⟨%κN, #HiN⟩
  ihave Hi := (inv_bar m ρ c) $$ Hrec
  unfold inv
  icases Hi with ⟨%κ, #Hi⟩
  simp only [dev1_eq c, dev2_eq c]
  -- the first unit, to the previous device: the landing regions of the transfers it sends here
  iapply (Rounds.wp_signal 𝒱₀ ER (ringRd m ρ) (c : Thread nD τ) none (dst := (prv c : Thread nD τ)) (κ := κP)
      (d := true) (by rw [duties_bar]; exact Finset.mem_univ _) ((amount_bar m ρ (prv c) 0 true).trans (by decide)) 1 (O₁ c) rfl)
    $$ [HO HtP A0 A2 A4]
  · isplitr; · iexact HiP
    isplitl [HO]; · iexact HO
    isplitl [HtP]; · iexact HtP
    isplitl [A0 A2 A4]
    · rw [payload_bar]; unfold barPay; rw [if_pos rfl, nxt_prv]
      isplitl [A0]; · iexact A0
      isplitl [A2]; · iexact A2
      iexact A4
    · iexact HrP
  iintro HO
  -- the second, to the next device
  unfold O₁
  iapply (Rounds.wp_signal 𝒱₀ ER (ringRd m ρ) (c : Thread nD τ) none (dst := (nxt c : Thread nD τ)) (κ := κN)
      (d := false) (by rw [duties_bar]; exact Finset.mem_univ _) ((amount_bar m ρ (nxt c) 0 false).trans (by decide)) 1 (Ow 0 c) rfl)
    $$ [HO HtN A1 A3]
  · isplitr; · iexact HiN
    isplitl [HO]; · iexact HO
    isplitl [HtN]; · iexact HtN
    isplitl [A1 A3]
    · rw [payload_bar]; unfold barPay; rw [if_neg (by decide), prv_nxt]
      isplitl [A1]; · iexact A1
      iexact A3
    · iexact HrN
  iintro HO
  -- the wait for both neighbours' units
  iapply (Rounds.wp_wait_rest_token 𝒱₀ ER (ringRd m ρ) (c : Thread nD τ) none (κ := κ)
      (wpE_semWait_eq 𝒱₀ (c : Thread nD τ) none Set.univ) (Set.mem_univ _) 1 (O := Ow 0 c) (W := W) (R := 0) (m := 0) (T := ∅)
      (by rw [expect_bar]; decide)) $$ [Hcb HO Hat]
  · isplitr; · iexact Hi
    isplitl [Hcb]; · iexact Hcb
    isplitl [HO]; · iexact HO
    isplitr; · iapply (mayWait_Ow c (.reg barS) 1 0 (by decide) (by decide)); iexact Hlev
    iexact Hat
  iintro ⟨HO, Hat, -, Hpay⟩
  ihave Hp := (Entails.of_eq (rest_bar m ρ c)) $$ Hpay
  ihave Hav := (granted c) $$ Hp
  imod (Rounds.cell_close ER (ringRd m ρ) (Set.mem_univ κ) (fun h => h) (R := 0 + 1) (duties_bar_later m ρ c)) $$ [Hat] with HzB
  · isplitr; · iexact Hi
    iexact Hat
  iapply (load_w c _ (off := ![0, 0]) (funext fun a => by fin_cases a <;> rfl)) $$ HW; iintro HW
  iapply (peek_wb c f2) $$ Hwb; iintro %w15 Hwb
  iapply (store_wb c f2 (off := ![0, 0]) (funext fun a => by fin_cases a <;> rfl) (k0_pay1 (wv m ρ c))) $$ Hwb; iintro Hwb
  iapply (load_xrows m ρ c 0 (by decide) (off1_at c 0 (by decide))) $$ HX; iintro HX
  iapply (peek_xb c f1) $$ Hxb; iintro %w23 Hxb
  iapply (store_own m ρ c f1 (off1_at c 0 (by decide)) (k0_pay2 (xrow m ρ c (chS 0 c))) rfl) $$ Hxb; iintro Hxb
  iapply (load_own m ρ c (chS 0 c) rfl (off1_at c 0 (by decide))) $$ Hxb; iintro Hxb
  rw [wp_ret]; imodintro; iapply (hQ _ _ _)
  isplitl [HzB]; · iexact HzB
  unfold S1
  isplitl [HO Htk Hav HcR HpS HpR Hsl Hou]
  · unfold Net
    isplitr; · iexact Hrec
    isplitr; · iexact Hlev
    isplitl [HO]; · iexists (insert (SemLoc.reg barS, 1) W); iexact HO
    isplitl [Htk]; · iexact Htk
    isplitl [Hav]; · iexact Hav
    isplitr; · rw [I_nil (le_refl 0)]; iempintro
    isplitl [HcR]; · iexact HcR
    isplitl [HpS]; · iexact HpS
    isplitl [HpR]; · iexact HpR
    isplitl [Hsl]; · iexact Hsl
    isplitl [Hou]; · iexact Hou
    rw [I_nil (show max 0 28 ≤ 28 by decide)]; iempintro
  isplitl [HX]; · iexact HX
  isplitl [HW]; · iexact HW
  isplitl [Hxb]; · iexact Hxb
  isplitl [Hwb]; · iexact Hwb
  isplitl [D0]; · iexact D0
  isplitl [D1]; · iexact D1
  isplitl [D2]; · iexact D2
  isplitl [D3]; · iexact D3
  isplitl [O28]; · iexact O28
  isplitl [O29]; · iexact O29
  isplitl [O30]; · iexact O30
  iexact O31

end Cert.RingProof

end
-- ==== Proof.Walk1.lean ====
/-
# The walk of the two-way ring's body: parts 2 to 20

Each part of the body takes the device's state before it to the state after it.
-/
module

public import proofs.«01_k».proof.Proof.Mem

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ) (ρ : Dev nD → PrngReg)

theorem part2 (c : Dev nD) (v2 : BitVec 32) (v7 : BitVec 32) {Q : (PUnit) → sProp 𝕄}
    (hQ : iprop(Net m ρ c 1 0 0 ∗ whole c cc0_stg0_0 (xv m ρ c) ∗ whole c cc0_stg1_0 (wv m ρ c) ∗ ownRows m ρ c ∗ whole c cc0_scratch2 (wbv m ρ c) ∗ dead c (slotM 1 0) ∗ dead c (slotM 3 0) ∗ holds c (srcM 1 c) (V m ρ 1 c) ∗ dead c (srcM 28 c) ∗ dead c (srcM 29 c) ∗ dead c (srcM 30 c) ∗ dead c (srcM 31 c)) ⊢ Q ⟨⟩) :
    iprop(Net m ρ c 0 0 0 ∗ whole c cc0_stg0_0 (xv m ρ c) ∗ whole c cc0_stg1_0 (wv m ρ c) ∗ ownRows m ρ c ∗ whole c cc0_scratch2 (wbv m ρ c) ∗ dead c (slotM 0 0) ∗ dead c (slotM 1 0) ∗ dead c (slotM 2 0) ∗ dead c (slotM 3 0) ∗ dead c (srcM 28 c) ∗ dead c (srcM 29 c) ∗ dead c (srcM 30 c) ∗ dead c (srcM 31 c))
      ⊢ wp frame (wpE (defs₀ (F := F)) 𝒱₀ (c : Thread nD τ) none) Set.univ (k0_part2 xM (Memref.isWhole_whole _) wM (Memref.isWhole_whole _) oM (Memref.isWhole_whole _) comM (Memref.isWhole_whole _) xbM (Memref.isWhole_whole _) wbM (Memref.isWhole_whole _) cc0_scratch3 c v2 v7 (xrow m ρ c (chS 0 c))) Q := by
  rw [k0_part2_eq_skeleton]; unfold k0_part2_skel
  simp only [Prog.lift, Prog.bind_op, Prog.bind_ret, Prog.pure_eq_ret]
  iintro ⟨HN, HX, HW, HXb, HWb, D0, D1, D2, D3, O28, O29, O30, O31⟩
  iapply (load_col m ρ c (qn 0) (off := ![0, 0]) rfl) $$ HWb; iintro HWb
  iapply (peek_slot c 0 0 (M := slotM 0 0) rfl (off := ![0, 0, 0, 0]) rfl) $$ D0; iintro %wv32 D0
  iapply (store_slot c 0 0 (M := slotM 0 0) (M₁ := srcM 0 c) (v := V m ρ 0 c) rfl rfl (off := ![0, 0, 0, 0]) rfl ((k0_pay3 (xrow m ρ c (chS 0 c)) (wcol m ρ c (qn 0)))) (V_init m ρ 0 (by decide) c).symm) $$ D0; iintro H0
  iapply (step_start m ρ c (A := 0) (B := 0) (R := 0) (by decide) (by decide) (by decide) (by decide) (by decide) (e₁ := rfl) (e₂ := rfl)
      (show (⟨k0_dev3 c, k0_dev3_lt c⟩ : Dev nD) = dst 0 c from Fin.ext (k0_dev3_eq c)) (rfl : _ = sendS 0) (rfl : _ = recvS 0)) $$ [HN H0]
  · isplitl [HN]; · iexact HN
    iexact H0
  iintro HN
  iapply (load_own m ρ c (chS 1 c) (chS_first c 1 (by decide)) (off1_at c 1 (by decide))) $$ HXb; iintro HXb
  iapply (load_col m ρ c (qn 1) (off := ![0, 1024]) rfl) $$ HWb; iintro HWb
  iapply (peek_slot c 2 0 (M := slotM 2 0) rfl (off := ![2, 0, 0, 0]) rfl) $$ D2; iintro %wv51 D2
  iapply (store_slot c 2 0 (M := slotM 2 0) (M₁ := srcM 1 c) (v := V m ρ 1 c) rfl rfl (off := ![2, 0, 0, 0]) rfl ((k0_pay4 (xrow m ρ c (chS 1 c)) (wcol m ρ c (qn 1)))) (V_init m ρ 1 (by decide) c).symm) $$ D2; iintro H1
  rw [wp_ret]; imodintro; iapply (hQ)
  isplitl [HN]; · iexact HN
  isplitl [HX]; · iexact HX
  isplitl [HW]; · iexact HW
  isplitl [HXb]; · iexact HXb
  isplitl [HWb]; · iexact HWb
  isplitl [D1]; · iexact D1
  isplitl [D3]; · iexact D3
  isplitl [H1]; · iexact H1
  isplitl [O28]; · iexact O28
  isplitl [O29]; · iexact O29
  isplitl [O30]; · iexact O30
  iexact O31

theorem part3 (c : Dev nD) (v2 : BitVec 32) (v5 : BitVec 32) {Q : (FVec F S512x512 .bf16) → sProp 𝕄}
    (hQ : iprop(Net m ρ c 2 0 0 ∗ whole c cc0_stg0_0 (xv m ρ c) ∗ whole c cc0_stg1_0 (wv m ρ c) ∗ ownRows m ρ c ∗ whole c cc0_scratch2 (wbv m ρ c) ∗ dead c (slotM 3 0) ∗ holds c (srcM 2 c) (V m ρ 2 c) ∗ dead c (srcM 28 c) ∗ dead c (srcM 29 c) ∗ dead c (srcM 30 c) ∗ dead c (srcM 31 c)) ⊢ Q (k0_pay6 (xrow m ρ c (chS 3 c)) (wcol m ρ c (qn 3)))) :
    iprop(Net m ρ c 1 0 0 ∗ whole c cc0_stg0_0 (xv m ρ c) ∗ whole c cc0_stg1_0 (wv m ρ c) ∗ ownRows m ρ c ∗ whole c cc0_scratch2 (wbv m ρ c) ∗ dead c (slotM 1 0) ∗ dead c (slotM 3 0) ∗ holds c (srcM 1 c) (V m ρ 1 c) ∗ dead c (srcM 28 c) ∗ dead c (srcM 29 c) ∗ dead c (srcM 30 c) ∗ dead c (srcM 31 c))
      ⊢ wp frame (wpE (defs₀ (F := F)) 𝒱₀ (c : Thread nD τ) none) Set.univ (k0_part3 xM (Memref.isWhole_whole _) wM (Memref.isWhole_whole _) oM (Memref.isWhole_whole _) comM (Memref.isWhole_whole _) xbM (Memref.isWhole_whole _) wbM (Memref.isWhole_whole _) cc0_scratch3 c v2 v5) Q := by
  rw [k0_part3_eq_skeleton]; unfold k0_part3_skel
  simp only [Prog.lift, Prog.bind_op, Prog.bind_ret, Prog.pure_eq_ret]
  iintro ⟨HN, HX, HW, HXb, HWb, D1, D3, H1, O28, O29, O30, O31⟩
  iapply (step_start m ρ c (A := 1) (B := 0) (R := 0) (by decide) (by decide) (by decide) (by decide) (by decide) (e₁ := rfl) (e₂ := rfl)
      (show (⟨k0_dev4 c, k0_dev4_lt c⟩ : Dev nD) = dst 1 c from Fin.ext (k0_dev4_eq c)) (rfl : _ = sendS 1) (rfl : _ = recvS 1)) $$ [HN H1]
  · isplitl [HN]; · iexact HN
    iexact H1
  iintro HN
  iapply (load_own m ρ c (chS 2 c) (chS_first c 2 (by decide)) (off1_at c 2 (by decide))) $$ HXb; iintro HXb
  iapply (load_col m ρ c (qn 2) (off := ![0, 512]) rfl) $$ HWb; iintro HWb
  iapply (peek_slot c 1 0 (M := slotM 1 0) rfl (off := ![1, 0, 0, 0]) rfl) $$ D1; iintro %wv70 D1
  iapply (store_slot c 1 0 (M := slotM 1 0) (M₁ := srcM 2 c) (v := V m ρ 2 c) rfl rfl (off := ![1, 0, 0, 0]) rfl ((k0_pay5 (xrow m ρ c (chS 2 c)) (wcol m ρ c (qn 2)))) (V_init m ρ 2 (by decide) c).symm) $$ D1; iintro H2
  iapply (load_own m ρ c (chS 3 c) (chS_first c 3 (by decide)) (off1_at c 3 (by decide))) $$ HXb; iintro HXb
  iapply (load_col m ρ c (qn 3) (off := ![0, 1536]) rfl) $$ HWb; iintro HWb
  rw [wp_ret]; imodintro; iapply (hQ)
  isplitl [HN]; · iexact HN
  isplitl [HX]; · iexact HX
  isplitl [HW]; · iexact HW
  isplitl [HXb]; · iexact HXb
  isplitl [HWb]; · iexact HWb
  isplitl [D3]; · iexact D3
  isplitl [H2]; · iexact H2
  isplitl [O28]; · iexact O28
  isplitl [O29]; · iexact O29
  isplitl [O30]; · iexact O30
  iexact O31

theorem part4 (c : Dev nD) (v7 : BitVec 32) {Q : (PUnit) → sProp 𝕄}
    (hQ : iprop(Net m ρ c 2 1 0 ∗ whole c cc0_stg0_0 (xv m ρ c) ∗ whole c cc0_stg1_0 (wv m ρ c) ∗ whole c cc0_scratch1 (xbv m ρ c) ∗ whole c cc0_scratch2 (wbv m ρ c) ∗ holds c (srcM 2 c) (V m ρ 2 c) ∗ holds c (srcM 3 c) (V m ρ 3 c) ∗ dead c (srcM 28 c) ∗ dead c (srcM 29 c) ∗ dead c (srcM 30 c) ∗ dead c (srcM 31 c)) ⊢ Q ⟨⟩) :
    iprop(Net m ρ c 2 0 0 ∗ whole c cc0_stg0_0 (xv m ρ c) ∗ whole c cc0_stg1_0 (wv m ρ c) ∗ ownRows m ρ c ∗ whole c cc0_scratch2 (wbv m ρ c) ∗ dead c (slotM 3 0) ∗ holds c (srcM 2 c) (V m ρ 2 c) ∗ dead c (srcM 28 c) ∗ dead c (srcM 29 c) ∗ dead c (srcM 30 c) ∗ dead c (srcM 31 c))
      ⊢ wp frame (wpE (defs₀ (F := F)) 𝒱₀ (c : Thread nD τ) none) Set.univ (k0_part4 xM (Memref.isWhole_whole _) wM (Memref.isWhole_whole _) oM (Memref.isWhole_whole _) comM (Memref.isWhole_whole _) xbM (Memref.isWhole_whole _) wbM (Memref.isWhole_whole _) cc0_scratch3 v7 (k0_pay6 (xrow m ρ c (chS 3 c)) (wcol m ρ c (qn 3)))) Q := by
  rw [k0_part4_eq_skeleton]; unfold k0_part4_skel
  simp only [Prog.lift, Prog.bind_op, Prog.bind_ret, Prog.pure_eq_ret]
  iintro ⟨HN, HX, HW, HXb, HWb, D3, H2, O28, O29, O30, O31⟩
  iapply (peek_slot c 3 0 (M := slotM 3 0) rfl (off := ![3, 0, 0, 0]) rfl) $$ D3; iintro %wv79 D3
  iapply (store_slot c 3 0 (M := slotM 3 0) (M₁ := srcM 3 c) (v := V m ρ 3 c) rfl rfl (off := ![3, 0, 0, 0]) rfl ((k0_pay7 (k0_pay6 (xrow m ρ c (chS 3 c)) (wcol m ρ c (qn 3))))) (V_init m ρ 3 (by decide) c).symm) $$ D3; iintro H3
  iapply (load_x c (xv m ρ c) (off := ![0, 0]) (by decide)) $$ HX; iintro HX
  unfold ownRows; icases HXb with ⟨%fxb, -, HXb⟩
  iapply (peek_xb c fxb) $$ HXb; iintro %wv84 HXb
  iapply (store_xb c fxb (off := ![0, 0]) (by decide) (k0_pay8 (xv m ρ c))) $$ HXb; iintro HXb
  rw [show k0_pay8 (xv m ρ c) = xbv m ρ c from rfl]
  iapply (step_waitS m ρ c (A := 2) (B := 0) (R := 0) (by decide) (by decide) (by decide) (rfl : _ = sendS 0)) $$ HN; iintro HN
  rw [wp_ret]; imodintro; iapply (hQ)
  isplitl [HN]; · iexact HN
  isplitl [HX]; · iexact HX
  isplitl [HW]; · iexact HW
  isplitl [HXb]; · iexact HXb
  isplitl [HWb]; · iexact HWb
  isplitl [H2]; · iexact H2
  isplitl [H3]; · iexact H3
  isplitl [O28]; · iexact O28
  isplitl [O29]; · iexact O29
  isplitl [O30]; · iexact O30
  iexact O31

theorem part5 (c : Dev nD) (v2 : BitVec 32) (v5 : BitVec 32) {Q : (BitVec 32) → sProp 𝕄}
    (hQ : ∀ w0 : BitVec 32, iprop(Net m ρ c 4 2 0 ∗ whole c cc0_stg0_0 (xv m ρ c) ∗ whole c cc0_stg1_0 (wv m ρ c) ∗ whole c cc0_scratch1 (xbv m ρ c) ∗ whole c cc0_scratch2 (wbv m ρ c) ∗ dead c (srcM 28 c) ∗ dead c (srcM 29 c) ∗ dead c (srcM 30 c) ∗ dead c (srcM 31 c)) ⊢ Q w0) :
    iprop(Net m ρ c 2 1 0 ∗ whole c cc0_stg0_0 (xv m ρ c) ∗ whole c cc0_stg1_0 (wv m ρ c) ∗ whole c cc0_scratch1 (xbv m ρ c) ∗ whole c cc0_scratch2 (wbv m ρ c) ∗ holds c (srcM 2 c) (V m ρ 2 c) ∗ holds c (srcM 3 c) (V m ρ 3 c) ∗ dead c (srcM 28 c) ∗ dead c (srcM 29 c) ∗ dead c (srcM 30 c) ∗ dead c (srcM 31 c))
      ⊢ wp frame (wpE (defs₀ (F := F)) 𝒱₀ (c : Thread nD τ) none) Set.univ (k0_part5 xM (Memref.isWhole_whole _) wM (Memref.isWhole_whole _) oM (Memref.isWhole_whole _) comM (Memref.isWhole_whole _) xbM (Memref.isWhole_whole _) wbM (Memref.isWhole_whole _) cc0_scratch3 c v2 v5) Q := by
  rw [k0_part5_eq_skeleton]; unfold k0_part5_skel
  simp only [Prog.lift, Prog.bind_op, Prog.bind_ret, Prog.pure_eq_ret]
  iintro ⟨HN, HX, HW, HXb, HWb, H2, H3, O28, O29, O30, O31⟩
  iapply (step_start m ρ c (A := 2) (B := 1) (R := 0) (by decide) (by decide) (by decide) (by decide) (by decide) (e₁ := rfl) (e₂ := rfl)
      (show (⟨k0_dev5 c, k0_dev5_lt c⟩ : Dev nD) = dst 2 c from Fin.ext (k0_dev5_eq c)) (rfl : _ = sendS 2) (rfl : _ = recvS 2)) $$ [HN H2]
  · isplitl [HN]; · iexact HN
    iexact H2
  iintro HN
  iapply (step_waitS m ρ c (A := 3) (B := 1) (R := 0) (by decide) (by decide) (by decide) (rfl : _ = sendS 1)) $$ HN; iintro HN
  iapply (step_start m ρ c (A := 3) (B := 2) (R := 0) (by decide) (by decide) (by decide) (by decide) (by decide) (e₁ := rfl) (e₂ := rfl)
      (show (⟨k0_dev6 c, k0_dev6_lt c⟩ : Dev nD) = dst 3 c from Fin.ext (k0_dev6_eq c)) (rfl : _ = sendS 3) (rfl : _ = recvS 3)) $$ [HN H3]
  · isplitl [HN]; · iexact HN
    iexact H3
  iintro HN
  rw [wp_ret]; imodintro; iapply (hQ _)
  isplitl [HN]; · iexact HN
  isplitl [HX]; · iexact HX
  isplitl [HW]; · iexact HW
  isplitl [HXb]; · iexact HXb
  isplitl [HWb]; · iexact HWb
  isplitl [O28]; · iexact O28
  isplitl [O29]; · iexact O29
  isplitl [O30]; · iexact O30
  iexact O31

theorem part6 (c : Dev nD) (v2 : BitVec 32) (v7 : BitVec 32) (v122 : BitVec 32) {Q : (BitVec 32) → sProp 𝕄}
    (hQ : ∀ w0 : BitVec 32, iprop(Net m ρ c 4 2 1 ∗ whole c cc0_stg0_0 (xv m ρ c) ∗ whole c cc0_stg1_0 (wv m ρ c) ∗ whole c cc0_scratch1 (xbv m ρ c) ∗ whole c cc0_scratch2 (wbv m ρ c) ∗ holds c (srcM 4 c) (V m ρ 4 c) ∗ dead c (srcM 28 c) ∗ dead c (srcM 29 c) ∗ dead c (srcM 30 c) ∗ dead c (srcM 31 c)) ⊢ Q w0) :
    iprop(Net m ρ c 4 2 0 ∗ whole c cc0_stg0_0 (xv m ρ c) ∗ whole c cc0_stg1_0 (wv m ρ c) ∗ whole c cc0_scratch1 (xbv m ρ c) ∗ whole c cc0_scratch2 (wbv m ρ c) ∗ dead c (srcM 28 c) ∗ dead c (srcM 29 c) ∗ dead c (srcM 30 c) ∗ dead c (srcM 31 c))
      ⊢ wp frame (wpE (defs₀ (F := F)) 𝒱₀ (c : Thread nD τ) none) Set.univ (k0_part6 xM (Memref.isWhole_whole _) wM (Memref.isWhole_whole _) oM (Memref.isWhole_whole _) comM (Memref.isWhole_whole _) xbM (Memref.isWhole_whole _) wbM (Memref.isWhole_whole _) cc0_scratch3 c v2 v7 v122) Q := by
  rw [k0_part6_eq_skeleton]; unfold k0_part6_skel
  simp only [Prog.lift, Prog.bind_op, Prog.bind_ret, Prog.pure_eq_ret]
  iintro ⟨HN, HX, HW, HXb, HWb, O28, O29, O30, O31⟩
  iapply (step_waitR m ρ c (A := 4) (B := 2) (R := 0) (by decide) (by decide) (by decide) (rfl : _ = recvS 0)) $$ HN; iintro ⟨HN, H0⟩
  iapply (load_slot c 0 1 (M := dstM 0 c) (v := V m ρ 0 (src 0 c)) rfl (off := ![0, 1, 0, 0]) rfl) $$ H0; iintro H0
  iapply (load_row m ρ c (chS 4 c) (show k0_off2 c 0#32 = ![512 * (chS 4 c).val, 0] from off2_at c 0 4 rfl rfl)) $$ HXb; iintro HXb
  iapply (load_col m ρ c (qn 0) (off := ![0, 0]) rfl) $$ HWb; iintro HWb
  iapply (load_slot c 0 1 (M := dstM 0 c) (v := V m ρ 0 (src 0 c)) rfl (off := ![0, 1, 0, 0]) rfl) $$ H0; iintro H0
  iapply (store_over c 0 1 (M := dstM 0 c) (M₁ := srcM 4 c) (u := V m ρ 0 (src 0 c)) (v := V m ρ 4 c) rfl rfl (off := ![0, 1, 0, 0]) rfl ((k0_pay9 (castU (V m ρ 0 (src 0 c))) (xrow m ρ c (chS 4 c)) (wcol m ρ c (qn 0)))) (V_acc m ρ 0 (by decide) c).symm) $$ H0; iintro H4
  rw [wp_ret]; imodintro; iapply (hQ _)
  isplitl [HN]; · iexact HN
  isplitl [HX]; · iexact HX
  isplitl [HW]; · iexact HW
  isplitl [HXb]; · iexact HXb
  isplitl [HWb]; · iexact HWb
  isplitl [H4]; · iexact H4
  isplitl [O28]; · iexact O28
  isplitl [O29]; · iexact O29
  isplitl [O30]; · iexact O30
  iexact O31

theorem part7 (c : Dev nD) (v5 : BitVec 32) (v7 : BitVec 32) {Q : (Σ' (v163 : BitVec 32), BitVec 32) → sProp 𝕄}
    (hQ : ∀ w0 w1 : BitVec 32, iprop(Net m ρ c 5 3 1 ∗ whole c cc0_stg0_0 (xv m ρ c) ∗ whole c cc0_stg1_0 (wv m ρ c) ∗ whole c cc0_scratch1 (xbv m ρ c) ∗ whole c cc0_scratch2 (wbv m ρ c) ∗ dead c (srcM 28 c) ∗ dead c (srcM 29 c) ∗ dead c (srcM 30 c) ∗ dead c (srcM 31 c)) ⊢ Q ⟨w0, w1⟩) :
    iprop(Net m ρ c 4 2 1 ∗ whole c cc0_stg0_0 (xv m ρ c) ∗ whole c cc0_stg1_0 (wv m ρ c) ∗ whole c cc0_scratch1 (xbv m ρ c) ∗ whole c cc0_scratch2 (wbv m ρ c) ∗ holds c (srcM 4 c) (V m ρ 4 c) ∗ dead c (srcM 28 c) ∗ dead c (srcM 29 c) ∗ dead c (srcM 30 c) ∗ dead c (srcM 31 c))
      ⊢ wp frame (wpE (defs₀ (F := F)) 𝒱₀ (c : Thread nD τ) none) Set.univ (k0_part7 xM (Memref.isWhole_whole _) wM (Memref.isWhole_whole _) oM (Memref.isWhole_whole _) comM (Memref.isWhole_whole _) xbM (Memref.isWhole_whole _) wbM (Memref.isWhole_whole _) cc0_scratch3 c v5 v7) Q := by
  rw [k0_part7_eq_skeleton]; unfold k0_part7_skel
  simp only [Prog.lift, Prog.bind_op, Prog.bind_ret, Prog.pure_eq_ret]
  iintro ⟨HN, HX, HW, HXb, HWb, H4, O28, O29, O30, O31⟩
  iapply (step_waitS m ρ c (A := 4) (B := 2) (R := 1) (by decide) (by decide) (by decide) (rfl : _ = sendS 2)) $$ HN; iintro HN
  iapply (step_start m ρ c (A := 4) (B := 3) (R := 1) (by decide) (by decide) (by decide) (by decide) (by decide) (e₁ := rfl) (e₂ := rfl)
      (show (⟨k0_dev7 c, k0_dev7_lt c⟩ : Dev nD) = dst 4 c from Fin.ext (k0_dev7_eq c)) (rfl : _ = sendS 4) (rfl : _ = recvS 4)) $$ [HN H4]
  · isplitl [HN]; · iexact HN
    iexact H4
  iintro HN
  rw [wp_ret]; imodintro; iapply (hQ _ _)
  isplitl [HN]; · iexact HN
  isplitl [HX]; · iexact HX
  isplitl [HW]; · iexact HW
  isplitl [HXb]; · iexact HXb
  isplitl [HWb]; · iexact HWb
  isplitl [O28]; · iexact O28
  isplitl [O29]; · iexact O29
  isplitl [O30]; · iexact O30
  iexact O31

theorem part8 (c : Dev nD) (v125 : BitVec 32) (v163 : BitVec 32) (c0_i32_218 : BitVec 32) {Q : (PUnit) → sProp 𝕄}
    (hQ : iprop(Net m ρ c 5 3 2 ∗ whole c cc0_stg0_0 (xv m ρ c) ∗ whole c cc0_stg1_0 (wv m ρ c) ∗ whole c cc0_scratch1 (xbv m ρ c) ∗ whole c cc0_scratch2 (wbv m ρ c) ∗ holds c (srcM 5 c) (V m ρ 5 c) ∗ dead c (srcM 28 c) ∗ dead c (srcM 29 c) ∗ dead c (srcM 30 c) ∗ dead c (srcM 31 c)) ⊢ Q ⟨⟩) :
    iprop(Net m ρ c 5 3 1 ∗ whole c cc0_stg0_0 (xv m ρ c) ∗ whole c cc0_stg1_0 (wv m ρ c) ∗ whole c cc0_scratch1 (xbv m ρ c) ∗ whole c cc0_scratch2 (wbv m ρ c) ∗ dead c (srcM 28 c) ∗ dead c (srcM 29 c) ∗ dead c (srcM 30 c) ∗ dead c (srcM 31 c))
      ⊢ wp frame (wpE (defs₀ (F := F)) 𝒱₀ (c : Thread nD τ) none) Set.univ (k0_part8 xM (Memref.isWhole_whole _) wM (Memref.isWhole_whole _) oM (Memref.isWhole_whole _) comM (Memref.isWhole_whole _) xbM (Memref.isWhole_whole _) wbM (Memref.isWhole_whole _) cc0_scratch3 c v125 v163 c0_i32_218) Q := by
  rw [k0_part8_eq_skeleton]; unfold k0_part8_skel
  simp only [Prog.lift, Prog.bind_op, Prog.bind_ret, Prog.pure_eq_ret]
  iintro ⟨HN, HX, HW, HXb, HWb, O28, O29, O30, O31⟩
  iapply (step_waitR m ρ c (A := 5) (B := 3) (R := 1) (by decide) (by decide) (by decide) (rfl : _ = recvS 1)) $$ HN; iintro ⟨HN, H1⟩
  iapply (load_slot c 2 1 (M := dstM 1 c) (v := V m ρ 1 (src 1 c)) rfl (off := ![2, 1, 0, 0]) rfl) $$ H1; iintro H1
  iapply (load_row m ρ c (chS 5 c) (show k0_off3 c 0#32 = ![512 * (chS 5 c).val, 0] from off3_at c 0 5 rfl (by decide))) $$ HXb; iintro HXb
  iapply (load_col m ρ c (qn 1) (off := ![0, 1024]) rfl) $$ HWb; iintro HWb
  iapply (load_slot c 2 1 (M := dstM 1 c) (v := V m ρ 1 (src 1 c)) rfl (off := ![2, 1, 0, 0]) rfl) $$ H1; iintro H1
  iapply (store_over c 2 1 (M := dstM 1 c) (M₁ := srcM 5 c) (u := V m ρ 1 (src 1 c)) (v := V m ρ 5 c) rfl rfl (off := ![2, 1, 0, 0]) rfl ((k0_pay10 (castU (V m ρ 1 (src 1 c))) (xrow m ρ c (chS 5 c)) (wcol m ρ c (qn 1)))) (V_acc m ρ 1 (by decide) c).symm) $$ H1; iintro H5
  rw [wp_ret]; imodintro; iapply (hQ)
  isplitl [HN]; · iexact HN
  isplitl [HX]; · iexact HX
  isplitl [HW]; · iexact HW
  isplitl [HXb]; · iexact HXb
  isplitl [HWb]; · iexact HWb
  isplitl [H5]; · iexact H5
  isplitl [O28]; · iexact O28
  isplitl [O29]; · iexact O29
  isplitl [O30]; · iexact O30
  iexact O31

theorem part9 (c : Dev nD) (v5 : BitVec 32) (v7 : BitVec 32) {Q : (FVec F S512x512 .f32) → sProp 𝕄}
    (hQ : iprop(Net m ρ c 6 4 3 ∗ whole c cc0_stg0_0 (xv m ρ c) ∗ whole c cc0_stg1_0 (wv m ρ c) ∗ whole c cc0_scratch1 (xbv m ρ c) ∗ whole c cc0_scratch2 (wbv m ρ c) ∗ holds c (dstM 2 c) (V m ρ 2 (src 2 c)) ∗ dead c (srcM 28 c) ∗ dead c (srcM 29 c) ∗ dead c (srcM 30 c) ∗ dead c (srcM 31 c)) ⊢ Q (k0_pay11 (castU (V m ρ 2 (src 2 c))))) :
    iprop(Net m ρ c 5 3 2 ∗ whole c cc0_stg0_0 (xv m ρ c) ∗ whole c cc0_stg1_0 (wv m ρ c) ∗ whole c cc0_scratch1 (xbv m ρ c) ∗ whole c cc0_scratch2 (wbv m ρ c) ∗ holds c (srcM 5 c) (V m ρ 5 c) ∗ dead c (srcM 28 c) ∗ dead c (srcM 29 c) ∗ dead c (srcM 30 c) ∗ dead c (srcM 31 c))
      ⊢ wp frame (wpE (defs₀ (F := F)) 𝒱₀ (c : Thread nD τ) none) Set.univ (k0_part9 xM (Memref.isWhole_whole _) wM (Memref.isWhole_whole _) oM (Memref.isWhole_whole _) comM (Memref.isWhole_whole _) xbM (Memref.isWhole_whole _) wbM (Memref.isWhole_whole _) cc0_scratch3 c v5 v7) Q := by
  rw [k0_part9_eq_skeleton]; unfold k0_part9_skel
  simp only [Prog.lift, Prog.bind_op, Prog.bind_ret, Prog.pure_eq_ret]
  iintro ⟨HN, HX, HW, HXb, HWb, H5, O28, O29, O30, O31⟩
  iapply (step_waitS m ρ c (A := 5) (B := 3) (R := 2) (by decide) (by decide) (by decide) (rfl : _ = sendS 3)) $$ HN; iintro HN
  iapply (step_start m ρ c (A := 5) (B := 4) (R := 2) (by decide) (by decide) (by decide) (by decide) (by decide) (e₁ := rfl) (e₂ := rfl)
      (show (⟨k0_dev8 c, k0_dev8_lt c⟩ : Dev nD) = dst 5 c from Fin.ext (k0_dev8_eq c)) (rfl : _ = sendS 5) (rfl : _ = recvS 5)) $$ [HN H5]
  · isplitl [HN]; · iexact HN
    iexact H5
  iintro HN
  iapply (step_waitR m ρ c (A := 6) (B := 4) (R := 2) (by decide) (by decide) (by decide) (rfl : _ = recvS 2)) $$ HN; iintro ⟨HN, H2⟩
  iapply (load_slot c 1 1 (M := dstM 2 c) (v := V m ρ 2 (src 2 c)) rfl (off := ![1, 1, 0, 0]) rfl) $$ H2; iintro H2
  rw [wp_ret]; imodintro; iapply (hQ)
  isplitl [HN]; · iexact HN
  isplitl [HX]; · iexact HX
  isplitl [HW]; · iexact HW
  isplitl [HXb]; · iexact HXb
  isplitl [HWb]; · iexact HWb
  isplitl [H2]; · iexact H2
  isplitl [O28]; · iexact O28
  isplitl [O29]; · iexact O29
  isplitl [O30]; · iexact O30
  iexact O31

theorem part10 (c : Dev nD) (v7 : BitVec 32) (v122 : BitVec 32) {Q : (PUnit) → sProp 𝕄}
    (hQ : iprop(Net m ρ c 6 5 3 ∗ whole c cc0_stg0_0 (xv m ρ c) ∗ whole c cc0_stg1_0 (wv m ρ c) ∗ whole c cc0_scratch1 (xbv m ρ c) ∗ whole c cc0_scratch2 (wbv m ρ c) ∗ holds c (srcM 6 c) (V m ρ 6 c) ∗ dead c (srcM 28 c) ∗ dead c (srcM 29 c) ∗ dead c (srcM 30 c) ∗ dead c (srcM 31 c)) ⊢ Q ⟨⟩) :
    iprop(Net m ρ c 6 4 3 ∗ whole c cc0_stg0_0 (xv m ρ c) ∗ whole c cc0_stg1_0 (wv m ρ c) ∗ whole c cc0_scratch1 (xbv m ρ c) ∗ whole c cc0_scratch2 (wbv m ρ c) ∗ holds c (dstM 2 c) (V m ρ 2 (src 2 c)) ∗ dead c (srcM 28 c) ∗ dead c (srcM 29 c) ∗ dead c (srcM 30 c) ∗ dead c (srcM 31 c))
      ⊢ wp frame (wpE (defs₀ (F := F)) 𝒱₀ (c : Thread nD τ) none) Set.univ (k0_part10 xM (Memref.isWhole_whole _) wM (Memref.isWhole_whole _) oM (Memref.isWhole_whole _) comM (Memref.isWhole_whole _) xbM (Memref.isWhole_whole _) wbM (Memref.isWhole_whole _) cc0_scratch3 c v7 v122 (k0_pay11 (castU (V m ρ 2 (src 2 c))))) Q := by
  rw [k0_part10_eq_skeleton]; unfold k0_part10_skel
  simp only [Prog.lift, Prog.bind_op, Prog.bind_ret, Prog.pure_eq_ret]
  iintro ⟨HN, HX, HW, HXb, HWb, H2, O28, O29, O30, O31⟩
  iapply (load_row m ρ c (chS 6 c) (show k0_off2 c 0#32 = ![512 * (chS 6 c).val, 0] from off2_at c 0 6 rfl rfl)) $$ HXb; iintro HXb
  iapply (load_col m ρ c (qn 2) (off := ![0, 512]) rfl) $$ HWb; iintro HWb
  iapply (load_slot c 1 1 (M := dstM 2 c) (v := V m ρ 2 (src 2 c)) rfl (off := ![1, 1, 0, 0]) rfl) $$ H2; iintro H2
  iapply (store_over c 1 1 (M := dstM 2 c) (M₁ := srcM 6 c) (u := V m ρ 2 (src 2 c)) (v := V m ρ 6 c) rfl rfl (off := ![1, 1, 0, 0]) rfl ((k0_pay12 (k0_pay11 (castU (V m ρ 2 (src 2 c)))) (xrow m ρ c (chS 6 c)) (wcol m ρ c (qn 2)))) (V_acc m ρ 2 (by decide) c).symm) $$ H2; iintro H6
  iapply (step_waitS m ρ c (A := 6) (B := 4) (R := 3) (by decide) (by decide) (by decide) (rfl : _ = sendS 4)) $$ HN; iintro HN
  rw [wp_ret]; imodintro; iapply (hQ)
  isplitl [HN]; · iexact HN
  isplitl [HX]; · iexact HX
  isplitl [HW]; · iexact HW
  isplitl [HXb]; · iexact HXb
  isplitl [HWb]; · iexact HWb
  isplitl [H6]; · iexact H6
  isplitl [O28]; · iexact O28
  isplitl [O29]; · iexact O29
  isplitl [O30]; · iexact O30
  iexact O31

theorem part11 (c : Dev nD) (v5 : BitVec 32) (v125 : BitVec 32) {Q : (FVec F S1x1x512x512 .bf16) → sProp 𝕄}
    (hQ : iprop(Net m ρ c 7 5 4 ∗ whole c cc0_stg0_0 (xv m ρ c) ∗ whole c cc0_stg1_0 (wv m ρ c) ∗ whole c cc0_scratch1 (xbv m ρ c) ∗ whole c cc0_scratch2 (wbv m ρ c) ∗ holds c (dstM 3 c) (V m ρ 3 (src 3 c)) ∗ dead c (srcM 28 c) ∗ dead c (srcM 29 c) ∗ dead c (srcM 30 c) ∗ dead c (srcM 31 c)) ⊢ Q (k0_pay13 (castU (V m ρ 3 (src 3 c))) (xrow m ρ c (chS 7 c)) (wcol m ρ c (qn 3)))) :
    iprop(Net m ρ c 6 5 3 ∗ whole c cc0_stg0_0 (xv m ρ c) ∗ whole c cc0_stg1_0 (wv m ρ c) ∗ whole c cc0_scratch1 (xbv m ρ c) ∗ whole c cc0_scratch2 (wbv m ρ c) ∗ holds c (srcM 6 c) (V m ρ 6 c) ∗ dead c (srcM 28 c) ∗ dead c (srcM 29 c) ∗ dead c (srcM 30 c) ∗ dead c (srcM 31 c))
      ⊢ wp frame (wpE (defs₀ (F := F)) 𝒱₀ (c : Thread nD τ) none) Set.univ (k0_part11 xM (Memref.isWhole_whole _) wM (Memref.isWhole_whole _) oM (Memref.isWhole_whole _) comM (Memref.isWhole_whole _) xbM (Memref.isWhole_whole _) wbM (Memref.isWhole_whole _) cc0_scratch3 c v5 v125) Q := by
  rw [k0_part11_eq_skeleton]; unfold k0_part11_skel
  simp only [Prog.lift, Prog.bind_op, Prog.bind_ret, Prog.pure_eq_ret]
  iintro ⟨HN, HX, HW, HXb, HWb, H6, O28, O29, O30, O31⟩
  iapply (step_start m ρ c (A := 6) (B := 5) (R := 3) (by decide) (by decide) (by decide) (by decide) (by decide) (e₁ := rfl) (e₂ := rfl)
      (show (⟨k0_dev9 c, k0_dev9_lt c⟩ : Dev nD) = dst 6 c from Fin.ext (k0_dev9_eq c)) (rfl : _ = sendS 6) (rfl : _ = recvS 6)) $$ [HN H6]
  · isplitl [HN]; · iexact HN
    iexact H6
  iintro HN
  iapply (step_waitR m ρ c (A := 7) (B := 5) (R := 3) (by decide) (by decide) (by decide) (rfl : _ = recvS 3)) $$ HN; iintro ⟨HN, H3⟩
  iapply (load_slot c 3 1 (M := dstM 3 c) (v := V m ρ 3 (src 3 c)) rfl (off := ![3, 1, 0, 0]) rfl) $$ H3; iintro H3
  iapply (load_row m ρ c (chS 7 c) (show k0_off3 c 0#32 = ![512 * (chS 7 c).val, 0] from off3_at c 0 7 rfl (by decide))) $$ HXb; iintro HXb
  iapply (load_col m ρ c (qn 3) (off := ![0, 1536]) rfl) $$ HWb; iintro HWb
  iapply (load_slot c 3 1 (M := dstM 3 c) (v := V m ρ 3 (src 3 c)) rfl (off := ![3, 1, 0, 0]) rfl) $$ H3; iintro H3
  rw [wp_ret]; imodintro; iapply (hQ)
  isplitl [HN]; · iexact HN
  isplitl [HX]; · iexact HX
  isplitl [HW]; · iexact HW
  isplitl [HXb]; · iexact HXb
  isplitl [HWb]; · iexact HWb
  isplitl [H3]; · iexact H3
  isplitl [O28]; · iexact O28
  isplitl [O29]; · iexact O29
  isplitl [O30]; · iexact O30
  iexact O31

theorem part12 (c : Dev nD) (v2 : BitVec 32) (v5 : BitVec 32) {Q : (Σ' (v277 : BitVec 32), BitVec 32) → sProp 𝕄}
    (hQ : ∀ w0 w1 : BitVec 32, iprop(Net m ρ c 8 6 4 ∗ whole c cc0_stg0_0 (xv m ρ c) ∗ whole c cc0_stg1_0 (wv m ρ c) ∗ whole c cc0_scratch1 (xbv m ρ c) ∗ whole c cc0_scratch2 (wbv m ρ c) ∗ dead c (srcM 28 c) ∗ dead c (srcM 29 c) ∗ dead c (srcM 30 c) ∗ dead c (srcM 31 c)) ⊢ Q ⟨w0, w1⟩) :
    iprop(Net m ρ c 7 5 4 ∗ whole c cc0_stg0_0 (xv m ρ c) ∗ whole c cc0_stg1_0 (wv m ρ c) ∗ whole c cc0_scratch1 (xbv m ρ c) ∗ whole c cc0_scratch2 (wbv m ρ c) ∗ holds c (dstM 3 c) (V m ρ 3 (src 3 c)) ∗ dead c (srcM 28 c) ∗ dead c (srcM 29 c) ∗ dead c (srcM 30 c) ∗ dead c (srcM 31 c))
      ⊢ wp frame (wpE (defs₀ (F := F)) 𝒱₀ (c : Thread nD τ) none) Set.univ (k0_part12 xM (Memref.isWhole_whole _) wM (Memref.isWhole_whole _) oM (Memref.isWhole_whole _) comM (Memref.isWhole_whole _) xbM (Memref.isWhole_whole _) wbM (Memref.isWhole_whole _) cc0_scratch3 c v2 v5 (k0_pay13 (castU (V m ρ 3 (src 3 c))) (xrow m ρ c (chS 7 c)) (wcol m ρ c (qn 3)))) Q := by
  rw [k0_part12_eq_skeleton]; unfold k0_part12_skel
  simp only [Prog.lift, Prog.bind_op, Prog.bind_ret, Prog.pure_eq_ret]
  iintro ⟨HN, HX, HW, HXb, HWb, H3, O28, O29, O30, O31⟩
  iapply (store_over c 3 1 (M := dstM 3 c) (M₁ := srcM 7 c) (u := V m ρ 3 (src 3 c)) (v := V m ρ 7 c) rfl rfl (off := ![3, 1, 0, 0]) rfl ((k0_pay13 (castU (V m ρ 3 (src 3 c))) (xrow m ρ c (chS 7 c)) (wcol m ρ c (qn 3)))) (V_acc m ρ 3 (by decide) c).symm) $$ H3; iintro H7
  iapply (step_waitS m ρ c (A := 7) (B := 5) (R := 4) (by decide) (by decide) (by decide) (rfl : _ = sendS 5)) $$ HN; iintro HN
  iapply (step_start m ρ c (A := 7) (B := 6) (R := 4) (by decide) (by decide) (by decide) (by decide) (by decide) (e₁ := rfl) (e₂ := rfl)
      (show (⟨k0_dev10 c, k0_dev10_lt c⟩ : Dev nD) = dst 7 c from Fin.ext (k0_dev10_eq c)) (rfl : _ = sendS 7) (rfl : _ = recvS 7)) $$ [HN H7]
  · isplitl [HN]; · iexact HN
    iexact H7
  iintro HN
  rw [wp_ret]; imodintro; iapply (hQ _ _)
  isplitl [HN]; · iexact HN
  isplitl [HX]; · iexact HX
  isplitl [HW]; · iexact HW
  isplitl [HXb]; · iexact HXb
  isplitl [HWb]; · iexact HWb
  isplitl [O28]; · iexact O28
  isplitl [O29]; · iexact O29
  isplitl [O30]; · iexact O30
  iexact O31

theorem part13 (c : Dev nD) (v7 : BitVec 32) (v277 : BitVec 32) (v278 : BitVec 32) {Q : (BitVec 32) → sProp 𝕄}
    (hQ : ∀ w0 : BitVec 32, iprop(Net m ρ c 8 6 5 ∗ whole c cc0_stg0_0 (xv m ρ c) ∗ whole c cc0_stg1_0 (wv m ρ c) ∗ whole c cc0_scratch1 (xbv m ρ c) ∗ whole c cc0_scratch2 (wbv m ρ c) ∗ holds c (srcM 8 c) (V m ρ 8 c) ∗ dead c (srcM 28 c) ∗ dead c (srcM 29 c) ∗ dead c (srcM 30 c) ∗ dead c (srcM 31 c)) ⊢ Q w0) :
    iprop(Net m ρ c 8 6 4 ∗ whole c cc0_stg0_0 (xv m ρ c) ∗ whole c cc0_stg1_0 (wv m ρ c) ∗ whole c cc0_scratch1 (xbv m ρ c) ∗ whole c cc0_scratch2 (wbv m ρ c) ∗ dead c (srcM 28 c) ∗ dead c (srcM 29 c) ∗ dead c (srcM 30 c) ∗ dead c (srcM 31 c))
      ⊢ wp frame (wpE (defs₀ (F := F)) 𝒱₀ (c : Thread nD τ) none) Set.univ (k0_part13 xM (Memref.isWhole_whole _) wM (Memref.isWhole_whole _) oM (Memref.isWhole_whole _) comM (Memref.isWhole_whole _) xbM (Memref.isWhole_whole _) wbM (Memref.isWhole_whole _) cc0_scratch3 c v7 v277 v278) Q := by
  rw [k0_part13_eq_skeleton]; unfold k0_part13_skel
  simp only [Prog.lift, Prog.bind_op, Prog.bind_ret, Prog.pure_eq_ret]
  iintro ⟨HN, HX, HW, HXb, HWb, O28, O29, O30, O31⟩
  iapply (step_waitR m ρ c (A := 8) (B := 6) (R := 4) (by decide) (by decide) (by decide) (rfl : _ = recvS 4)) $$ HN; iintro ⟨HN, H4⟩
  iapply (load_slot c 0 2 (M := dstM 4 c) (v := V m ρ 4 (src 4 c)) rfl (off := ![0, 2, 0, 0]) rfl) $$ H4; iintro H4
  iapply (load_row m ρ c (chS 8 c) (show k0_off2 c 1#32 = ![512 * (chS 8 c).val, 0] from off2_at c 1 8 rfl rfl)) $$ HXb; iintro HXb
  iapply (load_col m ρ c (qn 4) (off := ![0, 0]) rfl) $$ HWb; iintro HWb
  iapply (load_slot c 0 2 (M := dstM 4 c) (v := V m ρ 4 (src 4 c)) rfl (off := ![0, 2, 0, 0]) rfl) $$ H4; iintro H4
  iapply (store_over c 0 2 (M := dstM 4 c) (M₁ := srcM 8 c) (u := V m ρ 4 (src 4 c)) (v := V m ρ 8 c) rfl rfl (off := ![0, 2, 0, 0]) rfl ((k0_pay14 (castU (V m ρ 4 (src 4 c))) (xrow m ρ c (chS 8 c)) (wcol m ρ c (qn 4)))) (V_acc m ρ 4 (by decide) c).symm) $$ H4; iintro H8
  rw [wp_ret]; imodintro; iapply (hQ _)
  isplitl [HN]; · iexact HN
  isplitl [HX]; · iexact HX
  isplitl [HW]; · iexact HW
  isplitl [HXb]; · iexact HXb
  isplitl [HWb]; · iexact HWb
  isplitl [H8]; · iexact H8
  isplitl [O28]; · iexact O28
  isplitl [O29]; · iexact O29
  isplitl [O30]; · iexact O30
  iexact O31

theorem part14 (c : Dev nD) (v5 : BitVec 32) (v7 : BitVec 32) {Q : (PUnit) → sProp 𝕄}
    (hQ : iprop(Net m ρ c 9 7 5 ∗ whole c cc0_stg0_0 (xv m ρ c) ∗ whole c cc0_stg1_0 (wv m ρ c) ∗ whole c cc0_scratch1 (xbv m ρ c) ∗ whole c cc0_scratch2 (wbv m ρ c) ∗ dead c (srcM 28 c) ∗ dead c (srcM 29 c) ∗ dead c (srcM 30 c) ∗ dead c (srcM 31 c)) ⊢ Q ⟨⟩) :
    iprop(Net m ρ c 8 6 5 ∗ whole c cc0_stg0_0 (xv m ρ c) ∗ whole c cc0_stg1_0 (wv m ρ c) ∗ whole c cc0_scratch1 (xbv m ρ c) ∗ whole c cc0_scratch2 (wbv m ρ c) ∗ holds c (srcM 8 c) (V m ρ 8 c) ∗ dead c (srcM 28 c) ∗ dead c (srcM 29 c) ∗ dead c (srcM 30 c) ∗ dead c (srcM 31 c))
      ⊢ wp frame (wpE (defs₀ (F := F)) 𝒱₀ (c : Thread nD τ) none) Set.univ (k0_part14 xM (Memref.isWhole_whole _) wM (Memref.isWhole_whole _) oM (Memref.isWhole_whole _) comM (Memref.isWhole_whole _) xbM (Memref.isWhole_whole _) wbM (Memref.isWhole_whole _) cc0_scratch3 c v5 v7) Q := by
  rw [k0_part14_eq_skeleton]; unfold k0_part14_skel
  simp only [Prog.lift, Prog.bind_op, Prog.bind_ret, Prog.pure_eq_ret]
  iintro ⟨HN, HX, HW, HXb, HWb, H8, O28, O29, O30, O31⟩
  iapply (step_waitS m ρ c (A := 8) (B := 6) (R := 5) (by decide) (by decide) (by decide) (rfl : _ = sendS 6)) $$ HN; iintro HN
  iapply (step_start m ρ c (A := 8) (B := 7) (R := 5) (by decide) (by decide) (by decide) (by decide) (by decide) (e₁ := rfl) (e₂ := rfl)
      (show (⟨k0_dev11 c, k0_dev11_lt c⟩ : Dev nD) = dst 8 c from Fin.ext (k0_dev11_eq c)) (rfl : _ = sendS 8) (rfl : _ = recvS 8)) $$ [HN H8]
  · isplitl [HN]; · iexact HN
    iexact H8
  iintro HN
  rw [wp_ret]; imodintro; iapply (hQ)
  isplitl [HN]; · iexact HN
  isplitl [HX]; · iexact HX
  isplitl [HW]; · iexact HW
  isplitl [HXb]; · iexact HXb
  isplitl [HWb]; · iexact HWb
  isplitl [O28]; · iexact O28
  isplitl [O29]; · iexact O29
  isplitl [O30]; · iexact O30
  iexact O31

theorem part15 (c : Dev nD) (v280 : BitVec 32) {Q : (PUnit) → sProp 𝕄}
    (hQ : iprop(Net m ρ c 9 8 6 ∗ whole c cc0_stg0_0 (xv m ρ c) ∗ whole c cc0_stg1_0 (wv m ρ c) ∗ whole c cc0_scratch1 (xbv m ρ c) ∗ whole c cc0_scratch2 (wbv m ρ c) ∗ holds c (srcM 9 c) (V m ρ 9 c) ∗ dead c (srcM 28 c) ∗ dead c (srcM 29 c) ∗ dead c (srcM 30 c) ∗ dead c (srcM 31 c)) ⊢ Q ⟨⟩) :
    iprop(Net m ρ c 9 7 5 ∗ whole c cc0_stg0_0 (xv m ρ c) ∗ whole c cc0_stg1_0 (wv m ρ c) ∗ whole c cc0_scratch1 (xbv m ρ c) ∗ whole c cc0_scratch2 (wbv m ρ c) ∗ dead c (srcM 28 c) ∗ dead c (srcM 29 c) ∗ dead c (srcM 30 c) ∗ dead c (srcM 31 c))
      ⊢ wp frame (wpE (defs₀ (F := F)) 𝒱₀ (c : Thread nD τ) none) Set.univ (k0_part15 xM (Memref.isWhole_whole _) wM (Memref.isWhole_whole _) oM (Memref.isWhole_whole _) comM (Memref.isWhole_whole _) xbM (Memref.isWhole_whole _) wbM (Memref.isWhole_whole _) cc0_scratch3 c v280) Q := by
  rw [k0_part15_eq_skeleton]; unfold k0_part15_skel
  simp only [Prog.lift, Prog.bind_op, Prog.bind_ret, Prog.pure_eq_ret]
  iintro ⟨HN, HX, HW, HXb, HWb, O28, O29, O30, O31⟩
  iapply (step_waitR m ρ c (A := 9) (B := 7) (R := 5) (by decide) (by decide) (by decide) (rfl : _ = recvS 5)) $$ HN; iintro ⟨HN, H5⟩
  iapply (load_slot c 2 2 (M := dstM 5 c) (v := V m ρ 5 (src 5 c)) rfl (off := ![2, 2, 0, 0]) rfl) $$ H5; iintro H5
  iapply (load_row m ρ c (chS 9 c) (show k0_off3 c 1#32 = ![512 * (chS 9 c).val, 0] from off3_at c 1 9 rfl (by decide))) $$ HXb; iintro HXb
  iapply (load_col m ρ c (qn 5) (off := ![0, 1024]) rfl) $$ HWb; iintro HWb
  iapply (load_slot c 2 2 (M := dstM 5 c) (v := V m ρ 5 (src 5 c)) rfl (off := ![2, 2, 0, 0]) rfl) $$ H5; iintro H5
  iapply (store_over c 2 2 (M := dstM 5 c) (M₁ := srcM 9 c) (u := V m ρ 5 (src 5 c)) (v := V m ρ 9 c) rfl rfl (off := ![2, 2, 0, 0]) rfl ((k0_pay15 (castU (V m ρ 5 (src 5 c))) (xrow m ρ c (chS 9 c)) (wcol m ρ c (qn 5)))) (V_acc m ρ 5 (by decide) c).symm) $$ H5; iintro H9
  iapply (step_waitS m ρ c (A := 9) (B := 7) (R := 6) (by decide) (by decide) (by decide) (rfl : _ = sendS 7)) $$ HN; iintro HN
  rw [wp_ret]; imodintro; iapply (hQ)
  isplitl [HN]; · iexact HN
  isplitl [HX]; · iexact HX
  isplitl [HW]; · iexact HW
  isplitl [HXb]; · iexact HXb
  isplitl [HWb]; · iexact HWb
  isplitl [H9]; · iexact H9
  isplitl [O28]; · iexact O28
  isplitl [O29]; · iexact O29
  isplitl [O30]; · iexact O30
  iexact O31

theorem part16 (c : Dev nD) (v5 : BitVec 32) (v7 : BitVec 32) (v277 : BitVec 32) {Q : (Σ' (v365 : FVec F S512x512 .f32), BitVec 32) → sProp 𝕄}
    (hQ : ∀ w1 : BitVec 32, iprop(Net m ρ c 10 8 7 ∗ whole c cc0_stg0_0 (xv m ρ c) ∗ whole c cc0_stg1_0 (wv m ρ c) ∗ whole c cc0_scratch1 (xbv m ρ c) ∗ whole c cc0_scratch2 (wbv m ρ c) ∗ holds c (dstM 6 c) (V m ρ 6 (src 6 c)) ∗ dead c (srcM 28 c) ∗ dead c (srcM 29 c) ∗ dead c (srcM 30 c) ∗ dead c (srcM 31 c)) ⊢ Q ⟨k0_pay16 (castU (V m ρ 6 (src 6 c))), w1⟩) :
    iprop(Net m ρ c 9 8 6 ∗ whole c cc0_stg0_0 (xv m ρ c) ∗ whole c cc0_stg1_0 (wv m ρ c) ∗ whole c cc0_scratch1 (xbv m ρ c) ∗ whole c cc0_scratch2 (wbv m ρ c) ∗ holds c (srcM 9 c) (V m ρ 9 c) ∗ dead c (srcM 28 c) ∗ dead c (srcM 29 c) ∗ dead c (srcM 30 c) ∗ dead c (srcM 31 c))
      ⊢ wp frame (wpE (defs₀ (F := F)) 𝒱₀ (c : Thread nD τ) none) Set.univ (k0_part16 xM (Memref.isWhole_whole _) wM (Memref.isWhole_whole _) oM (Memref.isWhole_whole _) comM (Memref.isWhole_whole _) xbM (Memref.isWhole_whole _) wbM (Memref.isWhole_whole _) cc0_scratch3 c v5 v7 v277) Q := by
  rw [k0_part16_eq_skeleton]; unfold k0_part16_skel
  simp only [Prog.lift, Prog.bind_op, Prog.bind_ret, Prog.pure_eq_ret]
  iintro ⟨HN, HX, HW, HXb, HWb, H9, O28, O29, O30, O31⟩
  iapply (step_start m ρ c (A := 9) (B := 8) (R := 6) (by decide) (by decide) (by decide) (by decide) (by decide) (e₁ := rfl) (e₂ := rfl)
      (show (⟨k0_dev12 c, k0_dev12_lt c⟩ : Dev nD) = dst 9 c from Fin.ext (k0_dev12_eq c)) (rfl : _ = sendS 9) (rfl : _ = recvS 9)) $$ [HN H9]
  · isplitl [HN]; · iexact HN
    iexact H9
  iintro HN
  iapply (step_waitR m ρ c (A := 10) (B := 8) (R := 6) (by decide) (by decide) (by decide) (rfl : _ = recvS 6)) $$ HN; iintro ⟨HN, H6⟩
  iapply (load_slot c 1 2 (M := dstM 6 c) (v := V m ρ 6 (src 6 c)) rfl (off := ![1, 2, 0, 0]) rfl) $$ H6; iintro H6
  rw [wp_ret]; imodintro; iapply (hQ _)
  isplitl [HN]; · iexact HN
  isplitl [HX]; · iexact HX
  isplitl [HW]; · iexact HW
  isplitl [HXb]; · iexact HXb
  isplitl [HWb]; · iexact HWb
  isplitl [H6]; · iexact H6
  isplitl [O28]; · iexact O28
  isplitl [O29]; · iexact O29
  isplitl [O30]; · iexact O30
  iexact O31

theorem part17 (c : Dev nD) (v7 : BitVec 32) (v366 : BitVec 32) {Q : (PUnit) → sProp 𝕄}
    (hQ : iprop(Net m ρ c 10 9 7 ∗ whole c cc0_stg0_0 (xv m ρ c) ∗ whole c cc0_stg1_0 (wv m ρ c) ∗ whole c cc0_scratch1 (xbv m ρ c) ∗ whole c cc0_scratch2 (wbv m ρ c) ∗ holds c (srcM 10 c) (V m ρ 10 c) ∗ dead c (srcM 28 c) ∗ dead c (srcM 29 c) ∗ dead c (srcM 30 c) ∗ dead c (srcM 31 c)) ⊢ Q ⟨⟩) :
    iprop(Net m ρ c 10 8 7 ∗ whole c cc0_stg0_0 (xv m ρ c) ∗ whole c cc0_stg1_0 (wv m ρ c) ∗ whole c cc0_scratch1 (xbv m ρ c) ∗ whole c cc0_scratch2 (wbv m ρ c) ∗ holds c (dstM 6 c) (V m ρ 6 (src 6 c)) ∗ dead c (srcM 28 c) ∗ dead c (srcM 29 c) ∗ dead c (srcM 30 c) ∗ dead c (srcM 31 c))
      ⊢ wp frame (wpE (defs₀ (F := F)) 𝒱₀ (c : Thread nD τ) none) Set.univ (k0_part17 xM (Memref.isWhole_whole _) wM (Memref.isWhole_whole _) oM (Memref.isWhole_whole _) comM (Memref.isWhole_whole _) xbM (Memref.isWhole_whole _) wbM (Memref.isWhole_whole _) cc0_scratch3 c v7 (k0_pay16 (castU (V m ρ 6 (src 6 c)))) v366) Q := by
  rw [k0_part17_eq_skeleton]; unfold k0_part17_skel
  simp only [Prog.lift, Prog.bind_op, Prog.bind_ret, Prog.pure_eq_ret]
  iintro ⟨HN, HX, HW, HXb, HWb, H6, O28, O29, O30, O31⟩
  iapply (load_row m ρ c (chS 10 c) (show k0_off2 c 1#32 = ![512 * (chS 10 c).val, 0] from off2_at c 1 10 rfl rfl)) $$ HXb; iintro HXb
  iapply (load_col m ρ c (qn 6) (off := ![0, 512]) rfl) $$ HWb; iintro HWb
  iapply (load_slot c 1 2 (M := dstM 6 c) (v := V m ρ 6 (src 6 c)) rfl (off := ![1, 2, 0, 0]) rfl) $$ H6; iintro H6
  iapply (store_over c 1 2 (M := dstM 6 c) (M₁ := srcM 10 c) (u := V m ρ 6 (src 6 c)) (v := V m ρ 10 c) rfl rfl (off := ![1, 2, 0, 0]) rfl ((k0_pay17 (k0_pay16 (castU (V m ρ 6 (src 6 c)))) (xrow m ρ c (chS 10 c)) (wcol m ρ c (qn 6)))) (V_acc m ρ 6 (by decide) c).symm) $$ H6; iintro H10
  iapply (step_waitS m ρ c (A := 10) (B := 8) (R := 7) (by decide) (by decide) (by decide) (rfl : _ = sendS 8)) $$ HN; iintro HN
  rw [wp_ret]; imodintro; iapply (hQ)
  isplitl [HN]; · iexact HN
  isplitl [HX]; · iexact HX
  isplitl [HW]; · iexact HW
  isplitl [HXb]; · iexact HXb
  isplitl [HWb]; · iexact HWb
  isplitl [H10]; · iexact H10
  isplitl [O28]; · iexact O28
  isplitl [O29]; · iexact O29
  isplitl [O30]; · iexact O30
  iexact O31

theorem part18 (c : Dev nD) (v5 : BitVec 32) (v280 : BitVec 32) {Q : (PUnit) → sProp 𝕄}
    (hQ : iprop(Net m ρ c 11 9 8 ∗ whole c cc0_stg0_0 (xv m ρ c) ∗ whole c cc0_stg1_0 (wv m ρ c) ∗ whole c cc0_scratch1 (xbv m ρ c) ∗ whole c cc0_scratch2 (wbv m ρ c) ∗ holds c (srcM 11 c) (V m ρ 11 c) ∗ dead c (srcM 28 c) ∗ dead c (srcM 29 c) ∗ dead c (srcM 30 c) ∗ dead c (srcM 31 c)) ⊢ Q ⟨⟩) :
    iprop(Net m ρ c 10 9 7 ∗ whole c cc0_stg0_0 (xv m ρ c) ∗ whole c cc0_stg1_0 (wv m ρ c) ∗ whole c cc0_scratch1 (xbv m ρ c) ∗ whole c cc0_scratch2 (wbv m ρ c) ∗ holds c (srcM 10 c) (V m ρ 10 c) ∗ dead c (srcM 28 c) ∗ dead c (srcM 29 c) ∗ dead c (srcM 30 c) ∗ dead c (srcM 31 c))
      ⊢ wp frame (wpE (defs₀ (F := F)) 𝒱₀ (c : Thread nD τ) none) Set.univ (k0_part18 xM (Memref.isWhole_whole _) wM (Memref.isWhole_whole _) oM (Memref.isWhole_whole _) comM (Memref.isWhole_whole _) xbM (Memref.isWhole_whole _) wbM (Memref.isWhole_whole _) cc0_scratch3 c v5 v280) Q := by
  rw [k0_part18_eq_skeleton]; unfold k0_part18_skel
  simp only [Prog.lift, Prog.bind_op, Prog.bind_ret, Prog.pure_eq_ret]
  iintro ⟨HN, HX, HW, HXb, HWb, H10, O28, O29, O30, O31⟩
  iapply (step_start m ρ c (A := 10) (B := 9) (R := 7) (by decide) (by decide) (by decide) (by decide) (by decide) (e₁ := rfl) (e₂ := rfl)
      (show (⟨k0_dev13 c, k0_dev13_lt c⟩ : Dev nD) = dst 10 c from Fin.ext (k0_dev13_eq c)) (rfl : _ = sendS 10) (rfl : _ = recvS 10)) $$ [HN H10]
  · isplitl [HN]; · iexact HN
    iexact H10
  iintro HN
  iapply (step_waitR m ρ c (A := 11) (B := 9) (R := 7) (by decide) (by decide) (by decide) (rfl : _ = recvS 7)) $$ HN; iintro ⟨HN, H7⟩
  iapply (load_slot c 3 2 (M := dstM 7 c) (v := V m ρ 7 (src 7 c)) rfl (off := ![3, 2, 0, 0]) rfl) $$ H7; iintro H7
  iapply (load_row m ρ c (chS 11 c) (show k0_off3 c 1#32 = ![512 * (chS 11 c).val, 0] from off3_at c 1 11 rfl (by decide))) $$ HXb; iintro HXb
  iapply (load_col m ρ c (qn 7) (off := ![0, 1536]) rfl) $$ HWb; iintro HWb
  iapply (load_slot c 3 2 (M := dstM 7 c) (v := V m ρ 7 (src 7 c)) rfl (off := ![3, 2, 0, 0]) rfl) $$ H7; iintro H7
  iapply (store_over c 3 2 (M := dstM 7 c) (M₁ := srcM 11 c) (u := V m ρ 7 (src 7 c)) (v := V m ρ 11 c) rfl rfl (off := ![3, 2, 0, 0]) rfl ((k0_pay18 (castU (V m ρ 7 (src 7 c))) (xrow m ρ c (chS 11 c)) (wcol m ρ c (qn 7)))) (V_acc m ρ 7 (by decide) c).symm) $$ H7; iintro H11
  rw [wp_ret]; imodintro; iapply (hQ)
  isplitl [HN]; · iexact HN
  isplitl [HX]; · iexact HX
  isplitl [HW]; · iexact HW
  isplitl [HXb]; · iexact HXb
  isplitl [HWb]; · iexact HWb
  isplitl [H11]; · iexact H11
  isplitl [O28]; · iexact O28
  isplitl [O29]; · iexact O29
  isplitl [O30]; · iexact O30
  iexact O31

theorem part19 (c : Dev nD) (v2 : BitVec 32) (v5 : BitVec 32) {Q : (Σ' (v432 : BitVec 32), BitVec 32) → sProp 𝕄}
    (hQ : ∀ w0 w1 : BitVec 32, iprop(Net m ρ c 12 10 8 ∗ whole c cc0_stg0_0 (xv m ρ c) ∗ whole c cc0_stg1_0 (wv m ρ c) ∗ whole c cc0_scratch1 (xbv m ρ c) ∗ whole c cc0_scratch2 (wbv m ρ c) ∗ dead c (srcM 28 c) ∗ dead c (srcM 29 c) ∗ dead c (srcM 30 c) ∗ dead c (srcM 31 c)) ⊢ Q ⟨w0, w1⟩) :
    iprop(Net m ρ c 11 9 8 ∗ whole c cc0_stg0_0 (xv m ρ c) ∗ whole c cc0_stg1_0 (wv m ρ c) ∗ whole c cc0_scratch1 (xbv m ρ c) ∗ whole c cc0_scratch2 (wbv m ρ c) ∗ holds c (srcM 11 c) (V m ρ 11 c) ∗ dead c (srcM 28 c) ∗ dead c (srcM 29 c) ∗ dead c (srcM 30 c) ∗ dead c (srcM 31 c))
      ⊢ wp frame (wpE (defs₀ (F := F)) 𝒱₀ (c : Thread nD τ) none) Set.univ (k0_part19 xM (Memref.isWhole_whole _) wM (Memref.isWhole_whole _) oM (Memref.isWhole_whole _) comM (Memref.isWhole_whole _) xbM (Memref.isWhole_whole _) wbM (Memref.isWhole_whole _) cc0_scratch3 c v2 v5) Q := by
  rw [k0_part19_eq_skeleton]; unfold k0_part19_skel
  simp only [Prog.lift, Prog.bind_op, Prog.bind_ret, Prog.pure_eq_ret]
  iintro ⟨HN, HX, HW, HXb, HWb, H11, O28, O29, O30, O31⟩
  iapply (step_waitS m ρ c (A := 11) (B := 9) (R := 8) (by decide) (by decide) (by decide) (rfl : _ = sendS 9)) $$ HN; iintro HN
  iapply (step_start m ρ c (A := 11) (B := 10) (R := 8) (by decide) (by decide) (by decide) (by decide) (by decide) (e₁ := rfl) (e₂ := rfl)
      (show (⟨k0_dev14 c, k0_dev14_lt c⟩ : Dev nD) = dst 11 c from Fin.ext (k0_dev14_eq c)) (rfl : _ = sendS 11) (rfl : _ = recvS 11)) $$ [HN H11]
  · isplitl [HN]; · iexact HN
    iexact H11
  iintro HN
  rw [wp_ret]; imodintro; iapply (hQ _ _)
  isplitl [HN]; · iexact HN
  isplitl [HX]; · iexact HX
  isplitl [HW]; · iexact HW
  isplitl [HXb]; · iexact HXb
  isplitl [HWb]; · iexact HWb
  isplitl [O28]; · iexact O28
  isplitl [O29]; · iexact O29
  isplitl [O30]; · iexact O30
  iexact O31

theorem part20 (c : Dev nD) (v7 : BitVec 32) (v432 : BitVec 32) (v434 : BitVec 32) {Q : (BitVec 32) → sProp 𝕄}
    (hQ : ∀ w0 : BitVec 32, iprop(Net m ρ c 12 10 9 ∗ whole c cc0_stg0_0 (xv m ρ c) ∗ whole c cc0_stg1_0 (wv m ρ c) ∗ whole c cc0_scratch1 (xbv m ρ c) ∗ whole c cc0_scratch2 (wbv m ρ c) ∗ holds c (srcM 12 c) (V m ρ 12 c) ∗ dead c (srcM 28 c) ∗ dead c (srcM 29 c) ∗ dead c (srcM 30 c) ∗ dead c (srcM 31 c)) ⊢ Q w0) :
    iprop(Net m ρ c 12 10 8 ∗ whole c cc0_stg0_0 (xv m ρ c) ∗ whole c cc0_stg1_0 (wv m ρ c) ∗ whole c cc0_scratch1 (xbv m ρ c) ∗ whole c cc0_scratch2 (wbv m ρ c) ∗ dead c (srcM 28 c) ∗ dead c (srcM 29 c) ∗ dead c (srcM 30 c) ∗ dead c (srcM 31 c))
      ⊢ wp frame (wpE (defs₀ (F := F)) 𝒱₀ (c : Thread nD τ) none) Set.univ (k0_part20 xM (Memref.isWhole_whole _) wM (Memref.isWhole_whole _) oM (Memref.isWhole_whole _) comM (Memref.isWhole_whole _) xbM (Memref.isWhole_whole _) wbM (Memref.isWhole_whole _) cc0_scratch3 c v7 v432 v434) Q := by
  rw [k0_part20_eq_skeleton]; unfold k0_part20_skel
  simp only [Prog.lift, Prog.bind_op, Prog.bind_ret, Prog.pure_eq_ret]
  iintro ⟨HN, HX, HW, HXb, HWb, O28, O29, O30, O31⟩
  iapply (step_waitR m ρ c (A := 12) (B := 10) (R := 8) (by decide) (by decide) (by decide) (rfl : _ = recvS 8)) $$ HN; iintro ⟨HN, H8⟩
  iapply (load_slot c 0 0 (M := dstM 8 c) (v := V m ρ 8 (src 8 c)) rfl (off := ![0, 0, 0, 0]) rfl) $$ H8; iintro H8
  iapply (load_row m ρ c (chS 12 c) (show k0_off2 c 2#32 = ![512 * (chS 12 c).val, 0] from off2_at c 2 12 rfl rfl)) $$ HXb; iintro HXb
  iapply (load_col m ρ c (qn 8) (off := ![0, 0]) rfl) $$ HWb; iintro HWb
  iapply (load_slot c 0 0 (M := dstM 8 c) (v := V m ρ 8 (src 8 c)) rfl (off := ![0, 0, 0, 0]) rfl) $$ H8; iintro H8
  iapply (store_over c 0 0 (M := dstM 8 c) (M₁ := srcM 12 c) (u := V m ρ 8 (src 8 c)) (v := V m ρ 12 c) rfl rfl (off := ![0, 0, 0, 0]) rfl ((k0_pay19 (castU (V m ρ 8 (src 8 c))) (xrow m ρ c (chS 12 c)) (wcol m ρ c (qn 8)))) (V_acc m ρ 8 (by decide) c).symm) $$ H8; iintro H12
  rw [wp_ret]; imodintro; iapply (hQ _)
  isplitl [HN]; · iexact HN
  isplitl [HX]; · iexact HX
  isplitl [HW]; · iexact HW
  isplitl [HXb]; · iexact HXb
  isplitl [HWb]; · iexact HWb
  isplitl [H12]; · iexact H12
  isplitl [O28]; · iexact O28
  isplitl [O29]; · iexact O29
  isplitl [O30]; · iexact O30
  iexact O31

end Cert.RingProof

end
-- ==== Proof.Walk2.lean ====
/-
# The walk of the two-way ring's body: parts 21 to 38

Each part of the body takes the device's state before it to the state after it.
-/
module

public import proofs.«01_k».proof.Proof.Mem

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ) (ρ : Dev nD → PrngReg)

theorem part21 (c : Dev nD) (v5 : BitVec 32) (v7 : BitVec 32) {Q : (PUnit) → sProp 𝕄}
    (hQ : iprop(Net m ρ c 13 11 9 ∗ whole c cc0_stg0_0 (xv m ρ c) ∗ whole c cc0_stg1_0 (wv m ρ c) ∗ whole c cc0_scratch1 (xbv m ρ c) ∗ whole c cc0_scratch2 (wbv m ρ c) ∗ dead c (srcM 28 c) ∗ dead c (srcM 29 c) ∗ dead c (srcM 30 c) ∗ dead c (srcM 31 c)) ⊢ Q ⟨⟩) :
    iprop(Net m ρ c 12 10 9 ∗ whole c cc0_stg0_0 (xv m ρ c) ∗ whole c cc0_stg1_0 (wv m ρ c) ∗ whole c cc0_scratch1 (xbv m ρ c) ∗ whole c cc0_scratch2 (wbv m ρ c) ∗ holds c (srcM 12 c) (V m ρ 12 c) ∗ dead c (srcM 28 c) ∗ dead c (srcM 29 c) ∗ dead c (srcM 30 c) ∗ dead c (srcM 31 c))
      ⊢ wp frame (wpE (defs₀ (F := F)) 𝒱₀ (c : Thread nD τ) none) Set.univ (k0_part21 xM (Memref.isWhole_whole _) wM (Memref.isWhole_whole _) oM (Memref.isWhole_whole _) comM (Memref.isWhole_whole _) xbM (Memref.isWhole_whole _) wbM (Memref.isWhole_whole _) cc0_scratch3 c v5 v7) Q := by
  rw [k0_part21_eq_skeleton]; unfold k0_part21_skel
  simp only [Prog.lift, Prog.bind_op, Prog.bind_ret, Prog.pure_eq_ret]
  iintro ⟨HN, HX, HW, HXb, HWb, H12, O28, O29, O30, O31⟩
  iapply (step_waitS m ρ c (A := 12) (B := 10) (R := 9) (by decide) (by decide) (by decide) (rfl : _ = sendS 10)) $$ HN; iintro HN
  iapply (step_start m ρ c (A := 12) (B := 11) (R := 9) (by decide) (by decide) (by decide) (by decide) (by decide) (e₁ := rfl) (e₂ := rfl)
      (show (⟨k0_dev15 c, k0_dev15_lt c⟩ : Dev nD) = dst 12 c from Fin.ext (k0_dev15_eq c)) (rfl : _ = sendS 12) (rfl : _ = recvS 12)) $$ [HN H12]
  · isplitl [HN]; · iexact HN
    iexact H12
  iintro HN
  rw [wp_ret]; imodintro; iapply (hQ)
  isplitl [HN]; · iexact HN
  isplitl [HX]; · iexact HX
  isplitl [HW]; · iexact HW
  isplitl [HXb]; · iexact HXb
  isplitl [HWb]; · iexact HWb
  isplitl [O28]; · iexact O28
  isplitl [O29]; · iexact O29
  isplitl [O30]; · iexact O30
  iexact O31

theorem part22 (c : Dev nD) (v435 : BitVec 32) {Q : (PUnit) → sProp 𝕄}
    (hQ : iprop(Net m ρ c 13 12 10 ∗ whole c cc0_stg0_0 (xv m ρ c) ∗ whole c cc0_stg1_0 (wv m ρ c) ∗ whole c cc0_scratch1 (xbv m ρ c) ∗ whole c cc0_scratch2 (wbv m ρ c) ∗ holds c (srcM 13 c) (V m ρ 13 c) ∗ dead c (srcM 28 c) ∗ dead c (srcM 29 c) ∗ dead c (srcM 30 c) ∗ dead c (srcM 31 c)) ⊢ Q ⟨⟩) :
    iprop(Net m ρ c 13 11 9 ∗ whole c cc0_stg0_0 (xv m ρ c) ∗ whole c cc0_stg1_0 (wv m ρ c) ∗ whole c cc0_scratch1 (xbv m ρ c) ∗ whole c cc0_scratch2 (wbv m ρ c) ∗ dead c (srcM 28 c) ∗ dead c (srcM 29 c) ∗ dead c (srcM 30 c) ∗ dead c (srcM 31 c))
      ⊢ wp frame (wpE (defs₀ (F := F)) 𝒱₀ (c : Thread nD τ) none) Set.univ (k0_part22 xM (Memref.isWhole_whole _) wM (Memref.isWhole_whole _) oM (Memref.isWhole_whole _) comM (Memref.isWhole_whole _) xbM (Memref.isWhole_whole _) wbM (Memref.isWhole_whole _) cc0_scratch3 c v435) Q := by
  rw [k0_part22_eq_skeleton]; unfold k0_part22_skel
  simp only [Prog.lift, Prog.bind_op, Prog.bind_ret, Prog.pure_eq_ret]
  iintro ⟨HN, HX, HW, HXb, HWb, O28, O29, O30, O31⟩
  iapply (step_waitR m ρ c (A := 13) (B := 11) (R := 9) (by decide) (by decide) (by decide) (rfl : _ = recvS 9)) $$ HN; iintro ⟨HN, H9⟩
  iapply (load_slot c 2 0 (M := dstM 9 c) (v := V m ρ 9 (src 9 c)) rfl (off := ![2, 0, 0, 0]) rfl) $$ H9; iintro H9
  iapply (load_row m ρ c (chS 13 c) (show k0_off3 c 2#32 = ![512 * (chS 13 c).val, 0] from off3_at c 2 13 rfl (by decide))) $$ HXb; iintro HXb
  iapply (load_col m ρ c (qn 9) (off := ![0, 1024]) rfl) $$ HWb; iintro HWb
  iapply (load_slot c 2 0 (M := dstM 9 c) (v := V m ρ 9 (src 9 c)) rfl (off := ![2, 0, 0, 0]) rfl) $$ H9; iintro H9
  iapply (store_over c 2 0 (M := dstM 9 c) (M₁ := srcM 13 c) (u := V m ρ 9 (src 9 c)) (v := V m ρ 13 c) rfl rfl (off := ![2, 0, 0, 0]) rfl ((k0_pay20 (castU (V m ρ 9 (src 9 c))) (xrow m ρ c (chS 13 c)) (wcol m ρ c (qn 9)))) (V_acc m ρ 9 (by decide) c).symm) $$ H9; iintro H13
  iapply (step_waitS m ρ c (A := 13) (B := 11) (R := 10) (by decide) (by decide) (by decide) (rfl : _ = sendS 11)) $$ HN; iintro HN
  rw [wp_ret]; imodintro; iapply (hQ)
  isplitl [HN]; · iexact HN
  isplitl [HX]; · iexact HX
  isplitl [HW]; · iexact HW
  isplitl [HXb]; · iexact HXb
  isplitl [HWb]; · iexact HWb
  isplitl [H13]; · iexact H13
  isplitl [O28]; · iexact O28
  isplitl [O29]; · iexact O29
  isplitl [O30]; · iexact O30
  iexact O31

theorem part23 (c : Dev nD) (v5 : BitVec 32) (v7 : BitVec 32) (v432 : BitVec 32) {Q : (FVec F S512x512 .f32) → sProp 𝕄}
    (hQ : iprop(Net m ρ c 14 12 11 ∗ whole c cc0_stg0_0 (xv m ρ c) ∗ whole c cc0_stg1_0 (wv m ρ c) ∗ whole c cc0_scratch1 (xbv m ρ c) ∗ whole c cc0_scratch2 (wbv m ρ c) ∗ holds c (dstM 10 c) (V m ρ 10 (src 10 c)) ∗ dead c (srcM 28 c) ∗ dead c (srcM 29 c) ∗ dead c (srcM 30 c) ∗ dead c (srcM 31 c)) ⊢ Q (k0_pay21 (castU (V m ρ 10 (src 10 c))))) :
    iprop(Net m ρ c 13 12 10 ∗ whole c cc0_stg0_0 (xv m ρ c) ∗ whole c cc0_stg1_0 (wv m ρ c) ∗ whole c cc0_scratch1 (xbv m ρ c) ∗ whole c cc0_scratch2 (wbv m ρ c) ∗ holds c (srcM 13 c) (V m ρ 13 c) ∗ dead c (srcM 28 c) ∗ dead c (srcM 29 c) ∗ dead c (srcM 30 c) ∗ dead c (srcM 31 c))
      ⊢ wp frame (wpE (defs₀ (F := F)) 𝒱₀ (c : Thread nD τ) none) Set.univ (k0_part23 xM (Memref.isWhole_whole _) wM (Memref.isWhole_whole _) oM (Memref.isWhole_whole _) comM (Memref.isWhole_whole _) xbM (Memref.isWhole_whole _) wbM (Memref.isWhole_whole _) cc0_scratch3 c v5 v7 v432) Q := by
  rw [k0_part23_eq_skeleton]; unfold k0_part23_skel
  simp only [Prog.lift, Prog.bind_op, Prog.bind_ret, Prog.pure_eq_ret]
  iintro ⟨HN, HX, HW, HXb, HWb, H13, O28, O29, O30, O31⟩
  iapply (step_start m ρ c (A := 13) (B := 12) (R := 10) (by decide) (by decide) (by decide) (by decide) (by decide) (e₁ := rfl) (e₂ := rfl)
      (show (⟨k0_dev16 c, k0_dev16_lt c⟩ : Dev nD) = dst 13 c from Fin.ext (k0_dev16_eq c)) (rfl : _ = sendS 13) (rfl : _ = recvS 13)) $$ [HN H13]
  · isplitl [HN]; · iexact HN
    iexact H13
  iintro HN
  iapply (step_waitR m ρ c (A := 14) (B := 12) (R := 10) (by decide) (by decide) (by decide) (rfl : _ = recvS 10)) $$ HN; iintro ⟨HN, H10⟩
  iapply (load_slot c 1 0 (M := dstM 10 c) (v := V m ρ 10 (src 10 c)) rfl (off := ![1, 0, 0, 0]) rfl) $$ H10; iintro H10
  rw [wp_ret]; imodintro; iapply (hQ)
  isplitl [HN]; · iexact HN
  isplitl [HX]; · iexact HX
  isplitl [HW]; · iexact HW
  isplitl [HXb]; · iexact HXb
  isplitl [HWb]; · iexact HWb
  isplitl [H10]; · iexact H10
  isplitl [O28]; · iexact O28
  isplitl [O29]; · iexact O29
  isplitl [O30]; · iexact O30
  iexact O31

theorem part24 (c : Dev nD) (v7 : BitVec 32) {Q : (PUnit) → sProp 𝕄}
    (hQ : iprop(Net m ρ c 14 13 11 ∗ whole c cc0_stg0_0 (xv m ρ c) ∗ whole c cc0_stg1_0 (wv m ρ c) ∗ whole c cc0_scratch1 (xbv m ρ c) ∗ whole c cc0_scratch2 (wbv m ρ c) ∗ holds c (srcM 14 c) (V m ρ 14 c) ∗ dead c (srcM 28 c) ∗ dead c (srcM 29 c) ∗ dead c (srcM 30 c) ∗ dead c (srcM 31 c)) ⊢ Q ⟨⟩) :
    iprop(Net m ρ c 14 12 11 ∗ whole c cc0_stg0_0 (xv m ρ c) ∗ whole c cc0_stg1_0 (wv m ρ c) ∗ whole c cc0_scratch1 (xbv m ρ c) ∗ whole c cc0_scratch2 (wbv m ρ c) ∗ holds c (dstM 10 c) (V m ρ 10 (src 10 c)) ∗ dead c (srcM 28 c) ∗ dead c (srcM 29 c) ∗ dead c (srcM 30 c) ∗ dead c (srcM 31 c))
      ⊢ wp frame (wpE (defs₀ (F := F)) 𝒱₀ (c : Thread nD τ) none) Set.univ (k0_part24 xM (Memref.isWhole_whole _) wM (Memref.isWhole_whole _) oM (Memref.isWhole_whole _) comM (Memref.isWhole_whole _) xbM (Memref.isWhole_whole _) wbM (Memref.isWhole_whole _) cc0_scratch3 c v7 (k0_pay21 (castU (V m ρ 10 (src 10 c))))) Q := by
  rw [k0_part24_eq_skeleton]; unfold k0_part24_skel
  simp only [Prog.lift, Prog.bind_op, Prog.bind_ret, Prog.pure_eq_ret]
  iintro ⟨HN, HX, HW, HXb, HWb, H10, O28, O29, O30, O31⟩
  iapply (load_row m ρ c (chS 14 c) (show k0_off2 c 2#32 = ![512 * (chS 14 c).val, 0] from off2_at c 2 14 rfl rfl)) $$ HXb; iintro HXb
  iapply (load_col m ρ c (qn 10) (off := ![0, 512]) rfl) $$ HWb; iintro HWb
  iapply (load_slot c 1 0 (M := dstM 10 c) (v := V m ρ 10 (src 10 c)) rfl (off := ![1, 0, 0, 0]) rfl) $$ H10; iintro H10
  iapply (store_over c 1 0 (M := dstM 10 c) (M₁ := srcM 14 c) (u := V m ρ 10 (src 10 c)) (v := V m ρ 14 c) rfl rfl (off := ![1, 0, 0, 0]) rfl ((k0_pay22 (k0_pay21 (castU (V m ρ 10 (src 10 c)))) (xrow m ρ c (chS 14 c)) (wcol m ρ c (qn 10)))) (V_acc m ρ 10 (by decide) c).symm) $$ H10; iintro H14
  iapply (step_waitS m ρ c (A := 14) (B := 12) (R := 11) (by decide) (by decide) (by decide) (rfl : _ = sendS 12)) $$ HN; iintro HN
  rw [wp_ret]; imodintro; iapply (hQ)
  isplitl [HN]; · iexact HN
  isplitl [HX]; · iexact HX
  isplitl [HW]; · iexact HW
  isplitl [HXb]; · iexact HXb
  isplitl [HWb]; · iexact HWb
  isplitl [H14]; · iexact H14
  isplitl [O28]; · iexact O28
  isplitl [O29]; · iexact O29
  isplitl [O30]; · iexact O30
  iexact O31

theorem part25 (c : Dev nD) (v5 : BitVec 32) (v435 : BitVec 32) {Q : (PUnit) → sProp 𝕄}
    (hQ : iprop(Net m ρ c 15 13 12 ∗ whole c cc0_stg0_0 (xv m ρ c) ∗ whole c cc0_stg1_0 (wv m ρ c) ∗ whole c cc0_scratch1 (xbv m ρ c) ∗ whole c cc0_scratch2 (wbv m ρ c) ∗ holds c (srcM 15 c) (V m ρ 15 c) ∗ dead c (srcM 28 c) ∗ dead c (srcM 29 c) ∗ dead c (srcM 30 c) ∗ dead c (srcM 31 c)) ⊢ Q ⟨⟩) :
    iprop(Net m ρ c 14 13 11 ∗ whole c cc0_stg0_0 (xv m ρ c) ∗ whole c cc0_stg1_0 (wv m ρ c) ∗ whole c cc0_scratch1 (xbv m ρ c) ∗ whole c cc0_scratch2 (wbv m ρ c) ∗ holds c (srcM 14 c) (V m ρ 14 c) ∗ dead c (srcM 28 c) ∗ dead c (srcM 29 c) ∗ dead c (srcM 30 c) ∗ dead c (srcM 31 c))
      ⊢ wp frame (wpE (defs₀ (F := F)) 𝒱₀ (c : Thread nD τ) none) Set.univ (k0_part25 xM (Memref.isWhole_whole _) wM (Memref.isWhole_whole _) oM (Memref.isWhole_whole _) comM (Memref.isWhole_whole _) xbM (Memref.isWhole_whole _) wbM (Memref.isWhole_whole _) cc0_scratch3 c v5 v435) Q := by
  rw [k0_part25_eq_skeleton]; unfold k0_part25_skel
  simp only [Prog.lift, Prog.bind_op, Prog.bind_ret, Prog.pure_eq_ret]
  iintro ⟨HN, HX, HW, HXb, HWb, H14, O28, O29, O30, O31⟩
  iapply (step_start m ρ c (A := 14) (B := 13) (R := 11) (by decide) (by decide) (by decide) (by decide) (by decide) (e₁ := rfl) (e₂ := rfl)
      (show (⟨k0_dev17 c, k0_dev17_lt c⟩ : Dev nD) = dst 14 c from Fin.ext (k0_dev17_eq c)) (rfl : _ = sendS 14) (rfl : _ = recvS 14)) $$ [HN H14]
  · isplitl [HN]; · iexact HN
    iexact H14
  iintro HN
  iapply (step_waitR m ρ c (A := 15) (B := 13) (R := 11) (by decide) (by decide) (by decide) (rfl : _ = recvS 11)) $$ HN; iintro ⟨HN, H11⟩
  iapply (load_slot c 3 0 (M := dstM 11 c) (v := V m ρ 11 (src 11 c)) rfl (off := ![3, 0, 0, 0]) rfl) $$ H11; iintro H11
  iapply (load_row m ρ c (chS 15 c) (show k0_off3 c 2#32 = ![512 * (chS 15 c).val, 0] from off3_at c 2 15 rfl (by decide))) $$ HXb; iintro HXb
  iapply (load_col m ρ c (qn 11) (off := ![0, 1536]) rfl) $$ HWb; iintro HWb
  iapply (load_slot c 3 0 (M := dstM 11 c) (v := V m ρ 11 (src 11 c)) rfl (off := ![3, 0, 0, 0]) rfl) $$ H11; iintro H11
  iapply (store_over c 3 0 (M := dstM 11 c) (M₁ := srcM 15 c) (u := V m ρ 11 (src 11 c)) (v := V m ρ 15 c) rfl rfl (off := ![3, 0, 0, 0]) rfl ((k0_pay23 (castU (V m ρ 11 (src 11 c))) (xrow m ρ c (chS 15 c)) (wcol m ρ c (qn 11)))) (V_acc m ρ 11 (by decide) c).symm) $$ H11; iintro H15
  rw [wp_ret]; imodintro; iapply (hQ)
  isplitl [HN]; · iexact HN
  isplitl [HX]; · iexact HX
  isplitl [HW]; · iexact HW
  isplitl [HXb]; · iexact HXb
  isplitl [HWb]; · iexact HWb
  isplitl [H15]; · iexact H15
  isplitl [O28]; · iexact O28
  isplitl [O29]; · iexact O29
  isplitl [O30]; · iexact O30
  iexact O31

theorem part26 (c : Dev nD) (v2 : BitVec 32) (v5 : BitVec 32) {Q : (Σ' (v587 : BitVec 32), BitVec 32) → sProp 𝕄}
    (hQ : ∀ w0 w1 : BitVec 32, iprop(Net m ρ c 16 14 12 ∗ whole c cc0_stg0_0 (xv m ρ c) ∗ whole c cc0_stg1_0 (wv m ρ c) ∗ whole c cc0_scratch1 (xbv m ρ c) ∗ whole c cc0_scratch2 (wbv m ρ c) ∗ dead c (srcM 28 c) ∗ dead c (srcM 29 c) ∗ dead c (srcM 30 c) ∗ dead c (srcM 31 c)) ⊢ Q ⟨w0, w1⟩) :
    iprop(Net m ρ c 15 13 12 ∗ whole c cc0_stg0_0 (xv m ρ c) ∗ whole c cc0_stg1_0 (wv m ρ c) ∗ whole c cc0_scratch1 (xbv m ρ c) ∗ whole c cc0_scratch2 (wbv m ρ c) ∗ holds c (srcM 15 c) (V m ρ 15 c) ∗ dead c (srcM 28 c) ∗ dead c (srcM 29 c) ∗ dead c (srcM 30 c) ∗ dead c (srcM 31 c))
      ⊢ wp frame (wpE (defs₀ (F := F)) 𝒱₀ (c : Thread nD τ) none) Set.univ (k0_part26 xM (Memref.isWhole_whole _) wM (Memref.isWhole_whole _) oM (Memref.isWhole_whole _) comM (Memref.isWhole_whole _) xbM (Memref.isWhole_whole _) wbM (Memref.isWhole_whole _) cc0_scratch3 c v2 v5) Q := by
  rw [k0_part26_eq_skeleton]; unfold k0_part26_skel
  simp only [Prog.lift, Prog.bind_op, Prog.bind_ret, Prog.pure_eq_ret]
  iintro ⟨HN, HX, HW, HXb, HWb, H15, O28, O29, O30, O31⟩
  iapply (step_waitS m ρ c (A := 15) (B := 13) (R := 12) (by decide) (by decide) (by decide) (rfl : _ = sendS 13)) $$ HN; iintro HN
  iapply (step_start m ρ c (A := 15) (B := 14) (R := 12) (by decide) (by decide) (by decide) (by decide) (by decide) (e₁ := rfl) (e₂ := rfl)
      (show (⟨k0_dev18 c, k0_dev18_lt c⟩ : Dev nD) = dst 15 c from Fin.ext (k0_dev18_eq c)) (rfl : _ = sendS 15) (rfl : _ = recvS 15)) $$ [HN H15]
  · isplitl [HN]; · iexact HN
    iexact H15
  iintro HN
  rw [wp_ret]; imodintro; iapply (hQ _ _)
  isplitl [HN]; · iexact HN
  isplitl [HX]; · iexact HX
  isplitl [HW]; · iexact HW
  isplitl [HXb]; · iexact HXb
  isplitl [HWb]; · iexact HWb
  isplitl [O28]; · iexact O28
  isplitl [O29]; · iexact O29
  isplitl [O30]; · iexact O30
  iexact O31

theorem part27 (c : Dev nD) (v7 : BitVec 32) (v587 : BitVec 32) {Q : (PUnit) → sProp 𝕄}
    (hQ : iprop(Net m ρ c 16 14 13 ∗ whole c cc0_stg0_0 (xv m ρ c) ∗ whole c cc0_stg1_0 (wv m ρ c) ∗ whole c cc0_scratch1 (xbv m ρ c) ∗ whole c cc0_scratch2 (wbv m ρ c) ∗ holds c (srcM 16 c) (V m ρ 16 c) ∗ dead c (srcM 28 c) ∗ dead c (srcM 29 c) ∗ dead c (srcM 30 c) ∗ dead c (srcM 31 c)) ⊢ Q ⟨⟩) :
    iprop(Net m ρ c 16 14 12 ∗ whole c cc0_stg0_0 (xv m ρ c) ∗ whole c cc0_stg1_0 (wv m ρ c) ∗ whole c cc0_scratch1 (xbv m ρ c) ∗ whole c cc0_scratch2 (wbv m ρ c) ∗ dead c (srcM 28 c) ∗ dead c (srcM 29 c) ∗ dead c (srcM 30 c) ∗ dead c (srcM 31 c))
      ⊢ wp frame (wpE (defs₀ (F := F)) 𝒱₀ (c : Thread nD τ) none) Set.univ (k0_part27 xM (Memref.isWhole_whole _) wM (Memref.isWhole_whole _) oM (Memref.isWhole_whole _) comM (Memref.isWhole_whole _) xbM (Memref.isWhole_whole _) wbM (Memref.isWhole_whole _) cc0_scratch3 c v7 v587) Q := by
  rw [k0_part27_eq_skeleton]; unfold k0_part27_skel
  simp only [Prog.lift, Prog.bind_op, Prog.bind_ret, Prog.pure_eq_ret]
  iintro ⟨HN, HX, HW, HXb, HWb, O28, O29, O30, O31⟩
  iapply (step_waitR m ρ c (A := 16) (B := 14) (R := 12) (by decide) (by decide) (by decide) (rfl : _ = recvS 12)) $$ HN; iintro ⟨HN, H12⟩
  iapply (load_slot c 0 1 (M := dstM 12 c) (v := V m ρ 12 (src 12 c)) rfl (off := ![0, 1, 0, 0]) rfl) $$ H12; iintro H12
  iapply (load_row m ρ c (chS 16 c) (show k0_off2 c 3#32 = ![512 * (chS 16 c).val, 0] from off2_at c 3 16 rfl rfl)) $$ HXb; iintro HXb
  iapply (load_col m ρ c (qn 12) (off := ![0, 0]) rfl) $$ HWb; iintro HWb
  iapply (load_slot c 0 1 (M := dstM 12 c) (v := V m ρ 12 (src 12 c)) rfl (off := ![0, 1, 0, 0]) rfl) $$ H12; iintro H12
  iapply (store_over c 0 1 (M := dstM 12 c) (M₁ := srcM 16 c) (u := V m ρ 12 (src 12 c)) (v := V m ρ 16 c) rfl rfl (off := ![0, 1, 0, 0]) rfl ((k0_pay24 (castU (V m ρ 12 (src 12 c))) (xrow m ρ c (chS 16 c)) (wcol m ρ c (qn 12)))) (V_acc m ρ 12 (by decide) c).symm) $$ H12; iintro H16
  rw [wp_ret]; imodintro; iapply (hQ)
  isplitl [HN]; · iexact HN
  isplitl [HX]; · iexact HX
  isplitl [HW]; · iexact HW
  isplitl [HXb]; · iexact HXb
  isplitl [HWb]; · iexact HWb
  isplitl [H16]; · iexact H16
  isplitl [O28]; · iexact O28
  isplitl [O29]; · iexact O29
  isplitl [O30]; · iexact O30
  iexact O31

theorem part28 (c : Dev nD) (v5 : BitVec 32) (v7 : BitVec 32) {Q : (PUnit) → sProp 𝕄}
    (hQ : iprop(Net m ρ c 17 15 13 ∗ whole c cc0_stg0_0 (xv m ρ c) ∗ whole c cc0_stg1_0 (wv m ρ c) ∗ whole c cc0_scratch1 (xbv m ρ c) ∗ whole c cc0_scratch2 (wbv m ρ c) ∗ dead c (srcM 28 c) ∗ dead c (srcM 29 c) ∗ dead c (srcM 30 c) ∗ dead c (srcM 31 c)) ⊢ Q ⟨⟩) :
    iprop(Net m ρ c 16 14 13 ∗ whole c cc0_stg0_0 (xv m ρ c) ∗ whole c cc0_stg1_0 (wv m ρ c) ∗ whole c cc0_scratch1 (xbv m ρ c) ∗ whole c cc0_scratch2 (wbv m ρ c) ∗ holds c (srcM 16 c) (V m ρ 16 c) ∗ dead c (srcM 28 c) ∗ dead c (srcM 29 c) ∗ dead c (srcM 30 c) ∗ dead c (srcM 31 c))
      ⊢ wp frame (wpE (defs₀ (F := F)) 𝒱₀ (c : Thread nD τ) none) Set.univ (k0_part28 xM (Memref.isWhole_whole _) wM (Memref.isWhole_whole _) oM (Memref.isWhole_whole _) comM (Memref.isWhole_whole _) xbM (Memref.isWhole_whole _) wbM (Memref.isWhole_whole _) cc0_scratch3 c v5 v7) Q := by
  rw [k0_part28_eq_skeleton]; unfold k0_part28_skel
  simp only [Prog.lift, Prog.bind_op, Prog.bind_ret, Prog.pure_eq_ret]
  iintro ⟨HN, HX, HW, HXb, HWb, H16, O28, O29, O30, O31⟩
  iapply (step_waitS m ρ c (A := 16) (B := 14) (R := 13) (by decide) (by decide) (by decide) (rfl : _ = sendS 14)) $$ HN; iintro HN
  iapply (step_start m ρ c (A := 16) (B := 15) (R := 13) (by decide) (by decide) (by decide) (by decide) (by decide) (e₁ := rfl) (e₂ := rfl)
      (show (⟨k0_dev19 c, k0_dev19_lt c⟩ : Dev nD) = dst 16 c from Fin.ext (k0_dev19_eq c)) (rfl : _ = sendS 16) (rfl : _ = recvS 16)) $$ [HN H16]
  · isplitl [HN]; · iexact HN
    iexact H16
  iintro HN
  rw [wp_ret]; imodintro; iapply (hQ)
  isplitl [HN]; · iexact HN
  isplitl [HX]; · iexact HX
  isplitl [HW]; · iexact HW
  isplitl [HXb]; · iexact HXb
  isplitl [HWb]; · iexact HWb
  isplitl [O28]; · iexact O28
  isplitl [O29]; · iexact O29
  isplitl [O30]; · iexact O30
  iexact O31

theorem part29 (c : Dev nD) (v590 : BitVec 32) {Q : (PUnit) → sProp 𝕄}
    (hQ : iprop(Net m ρ c 17 16 14 ∗ whole c cc0_stg0_0 (xv m ρ c) ∗ whole c cc0_stg1_0 (wv m ρ c) ∗ whole c cc0_scratch1 (xbv m ρ c) ∗ whole c cc0_scratch2 (wbv m ρ c) ∗ holds c (srcM 17 c) (V m ρ 17 c) ∗ dead c (srcM 28 c) ∗ dead c (srcM 29 c) ∗ dead c (srcM 30 c) ∗ dead c (srcM 31 c)) ⊢ Q ⟨⟩) :
    iprop(Net m ρ c 17 15 13 ∗ whole c cc0_stg0_0 (xv m ρ c) ∗ whole c cc0_stg1_0 (wv m ρ c) ∗ whole c cc0_scratch1 (xbv m ρ c) ∗ whole c cc0_scratch2 (wbv m ρ c) ∗ dead c (srcM 28 c) ∗ dead c (srcM 29 c) ∗ dead c (srcM 30 c) ∗ dead c (srcM 31 c))
      ⊢ wp frame (wpE (defs₀ (F := F)) 𝒱₀ (c : Thread nD τ) none) Set.univ (k0_part29 xM (Memref.isWhole_whole _) wM (Memref.isWhole_whole _) oM (Memref.isWhole_whole _) comM (Memref.isWhole_whole _) xbM (Memref.isWhole_whole _) wbM (Memref.isWhole_whole _) cc0_scratch3 c v590) Q := by
  rw [k0_part29_eq_skeleton]; unfold k0_part29_skel
  simp only [Prog.lift, Prog.bind_op, Prog.bind_ret, Prog.pure_eq_ret]
  iintro ⟨HN, HX, HW, HXb, HWb, O28, O29, O30, O31⟩
  iapply (step_waitR m ρ c (A := 17) (B := 15) (R := 13) (by decide) (by decide) (by decide) (rfl : _ = recvS 13)) $$ HN; iintro ⟨HN, H13⟩
  iapply (load_slot c 2 1 (M := dstM 13 c) (v := V m ρ 13 (src 13 c)) rfl (off := ![2, 1, 0, 0]) rfl) $$ H13; iintro H13
  iapply (load_row m ρ c (chS 17 c) (show k0_off3 c 3#32 = ![512 * (chS 17 c).val, 0] from off3_at c 3 17 rfl (by decide))) $$ HXb; iintro HXb
  iapply (load_col m ρ c (qn 13) (off := ![0, 1024]) rfl) $$ HWb; iintro HWb
  iapply (load_slot c 2 1 (M := dstM 13 c) (v := V m ρ 13 (src 13 c)) rfl (off := ![2, 1, 0, 0]) rfl) $$ H13; iintro H13
  iapply (store_over c 2 1 (M := dstM 13 c) (M₁ := srcM 17 c) (u := V m ρ 13 (src 13 c)) (v := V m ρ 17 c) rfl rfl (off := ![2, 1, 0, 0]) rfl ((k0_pay25 (castU (V m ρ 13 (src 13 c))) (xrow m ρ c (chS 17 c)) (wcol m ρ c (qn 13)))) (V_acc m ρ 13 (by decide) c).symm) $$ H13; iintro H17
  iapply (step_waitS m ρ c (A := 17) (B := 15) (R := 14) (by decide) (by decide) (by decide) (rfl : _ = sendS 15)) $$ HN; iintro HN
  rw [wp_ret]; imodintro; iapply (hQ)
  isplitl [HN]; · iexact HN
  isplitl [HX]; · iexact HX
  isplitl [HW]; · iexact HW
  isplitl [HXb]; · iexact HXb
  isplitl [HWb]; · iexact HWb
  isplitl [H17]; · iexact H17
  isplitl [O28]; · iexact O28
  isplitl [O29]; · iexact O29
  isplitl [O30]; · iexact O30
  iexact O31

theorem part30 (c : Dev nD) (v5 : BitVec 32) (v7 : BitVec 32) (v587 : BitVec 32) {Q : (Σ' (v675 : FVec F S512x512 .f32), Vec F S512x512 .bf16) → sProp 𝕄}
    (hQ : iprop(Net m ρ c 18 16 15 ∗ whole c cc0_stg0_0 (xv m ρ c) ∗ whole c cc0_stg1_0 (wv m ρ c) ∗ whole c cc0_scratch1 (xbv m ρ c) ∗ whole c cc0_scratch2 (wbv m ρ c) ∗ holds c (dstM 14 c) (V m ρ 14 (src 14 c)) ∗ dead c (srcM 28 c) ∗ dead c (srcM 29 c) ∗ dead c (srcM 30 c) ∗ dead c (srcM 31 c)) ⊢ Q ⟨k0_pay26 (castU (V m ρ 14 (src 14 c))), (xrow m ρ c (chS 18 c))⟩) :
    iprop(Net m ρ c 17 16 14 ∗ whole c cc0_stg0_0 (xv m ρ c) ∗ whole c cc0_stg1_0 (wv m ρ c) ∗ whole c cc0_scratch1 (xbv m ρ c) ∗ whole c cc0_scratch2 (wbv m ρ c) ∗ holds c (srcM 17 c) (V m ρ 17 c) ∗ dead c (srcM 28 c) ∗ dead c (srcM 29 c) ∗ dead c (srcM 30 c) ∗ dead c (srcM 31 c))
      ⊢ wp frame (wpE (defs₀ (F := F)) 𝒱₀ (c : Thread nD τ) none) Set.univ (k0_part30 xM (Memref.isWhole_whole _) wM (Memref.isWhole_whole _) oM (Memref.isWhole_whole _) comM (Memref.isWhole_whole _) xbM (Memref.isWhole_whole _) wbM (Memref.isWhole_whole _) cc0_scratch3 c v5 v7 v587) Q := by
  rw [k0_part30_eq_skeleton]; unfold k0_part30_skel
  simp only [Prog.lift, Prog.bind_op, Prog.bind_ret, Prog.pure_eq_ret]
  iintro ⟨HN, HX, HW, HXb, HWb, H17, O28, O29, O30, O31⟩
  iapply (step_start m ρ c (A := 17) (B := 16) (R := 14) (by decide) (by decide) (by decide) (by decide) (by decide) (e₁ := rfl) (e₂ := rfl)
      (show (⟨k0_dev20 c, k0_dev20_lt c⟩ : Dev nD) = dst 17 c from Fin.ext (k0_dev20_eq c)) (rfl : _ = sendS 17) (rfl : _ = recvS 17)) $$ [HN H17]
  · isplitl [HN]; · iexact HN
    iexact H17
  iintro HN
  iapply (step_waitR m ρ c (A := 18) (B := 16) (R := 14) (by decide) (by decide) (by decide) (rfl : _ = recvS 14)) $$ HN; iintro ⟨HN, H14⟩
  iapply (load_slot c 1 1 (M := dstM 14 c) (v := V m ρ 14 (src 14 c)) rfl (off := ![1, 1, 0, 0]) rfl) $$ H14; iintro H14
  iapply (load_row m ρ c (chS 18 c) (show k0_off2 c 3#32 = ![512 * (chS 18 c).val, 0] from off2_at c 3 18 rfl rfl)) $$ HXb; iintro HXb
  rw [wp_ret]; imodintro; iapply (hQ)
  isplitl [HN]; · iexact HN
  isplitl [HX]; · iexact HX
  isplitl [HW]; · iexact HW
  isplitl [HXb]; · iexact HXb
  isplitl [HWb]; · iexact HWb
  isplitl [H14]; · iexact H14
  isplitl [O28]; · iexact O28
  isplitl [O29]; · iexact O29
  isplitl [O30]; · iexact O30
  iexact O31

theorem part31 (c : Dev nD) (v7 : BitVec 32) {Q : (PUnit) → sProp 𝕄}
    (hQ : iprop(Net m ρ c 18 17 15 ∗ whole c cc0_stg0_0 (xv m ρ c) ∗ whole c cc0_stg1_0 (wv m ρ c) ∗ whole c cc0_scratch1 (xbv m ρ c) ∗ whole c cc0_scratch2 (wbv m ρ c) ∗ holds c (srcM 18 c) (V m ρ 18 c) ∗ dead c (srcM 28 c) ∗ dead c (srcM 29 c) ∗ dead c (srcM 30 c) ∗ dead c (srcM 31 c)) ⊢ Q ⟨⟩) :
    iprop(Net m ρ c 18 16 15 ∗ whole c cc0_stg0_0 (xv m ρ c) ∗ whole c cc0_stg1_0 (wv m ρ c) ∗ whole c cc0_scratch1 (xbv m ρ c) ∗ whole c cc0_scratch2 (wbv m ρ c) ∗ holds c (dstM 14 c) (V m ρ 14 (src 14 c)) ∗ dead c (srcM 28 c) ∗ dead c (srcM 29 c) ∗ dead c (srcM 30 c) ∗ dead c (srcM 31 c))
      ⊢ wp frame (wpE (defs₀ (F := F)) 𝒱₀ (c : Thread nD τ) none) Set.univ (k0_part31 xM (Memref.isWhole_whole _) wM (Memref.isWhole_whole _) oM (Memref.isWhole_whole _) comM (Memref.isWhole_whole _) xbM (Memref.isWhole_whole _) wbM (Memref.isWhole_whole _) cc0_scratch3 v7 (k0_pay26 (castU (V m ρ 14 (src 14 c)))) (xrow m ρ c (chS 18 c))) Q := by
  rw [k0_part31_eq_skeleton]; unfold k0_part31_skel
  simp only [Prog.lift, Prog.bind_op, Prog.bind_ret, Prog.pure_eq_ret]
  iintro ⟨HN, HX, HW, HXb, HWb, H14, O28, O29, O30, O31⟩
  iapply (load_col m ρ c (qn 14) (off := ![0, 512]) rfl) $$ HWb; iintro HWb
  iapply (load_slot c 1 1 (M := dstM 14 c) (v := V m ρ 14 (src 14 c)) rfl (off := ![1, 1, 0, 0]) rfl) $$ H14; iintro H14
  iapply (store_over c 1 1 (M := dstM 14 c) (M₁ := srcM 18 c) (u := V m ρ 14 (src 14 c)) (v := V m ρ 18 c) rfl rfl (off := ![1, 1, 0, 0]) rfl ((k0_pay27 (k0_pay26 (castU (V m ρ 14 (src 14 c)))) (xrow m ρ c (chS 18 c)) (wcol m ρ c (qn 14)))) (V_acc m ρ 14 (by decide) c).symm) $$ H14; iintro H18
  iapply (step_waitS m ρ c (A := 18) (B := 16) (R := 15) (by decide) (by decide) (by decide) (rfl : _ = sendS 16)) $$ HN; iintro HN
  rw [wp_ret]; imodintro; iapply (hQ)
  isplitl [HN]; · iexact HN
  isplitl [HX]; · iexact HX
  isplitl [HW]; · iexact HW
  isplitl [HXb]; · iexact HXb
  isplitl [HWb]; · iexact HWb
  isplitl [H18]; · iexact H18
  isplitl [O28]; · iexact O28
  isplitl [O29]; · iexact O29
  isplitl [O30]; · iexact O30
  iexact O31

theorem part32 (c : Dev nD) (v5 : BitVec 32) (v590 : BitVec 32) {Q : (PUnit) → sProp 𝕄}
    (hQ : iprop(Net m ρ c 19 17 16 ∗ whole c cc0_stg0_0 (xv m ρ c) ∗ whole c cc0_stg1_0 (wv m ρ c) ∗ whole c cc0_scratch1 (xbv m ρ c) ∗ whole c cc0_scratch2 (wbv m ρ c) ∗ holds c (srcM 19 c) (V m ρ 19 c) ∗ dead c (srcM 28 c) ∗ dead c (srcM 29 c) ∗ dead c (srcM 30 c) ∗ dead c (srcM 31 c)) ⊢ Q ⟨⟩) :
    iprop(Net m ρ c 18 17 15 ∗ whole c cc0_stg0_0 (xv m ρ c) ∗ whole c cc0_stg1_0 (wv m ρ c) ∗ whole c cc0_scratch1 (xbv m ρ c) ∗ whole c cc0_scratch2 (wbv m ρ c) ∗ holds c (srcM 18 c) (V m ρ 18 c) ∗ dead c (srcM 28 c) ∗ dead c (srcM 29 c) ∗ dead c (srcM 30 c) ∗ dead c (srcM 31 c))
      ⊢ wp frame (wpE (defs₀ (F := F)) 𝒱₀ (c : Thread nD τ) none) Set.univ (k0_part32 xM (Memref.isWhole_whole _) wM (Memref.isWhole_whole _) oM (Memref.isWhole_whole _) comM (Memref.isWhole_whole _) xbM (Memref.isWhole_whole _) wbM (Memref.isWhole_whole _) cc0_scratch3 c v5 v590) Q := by
  rw [k0_part32_eq_skeleton]; unfold k0_part32_skel
  simp only [Prog.lift, Prog.bind_op, Prog.bind_ret, Prog.pure_eq_ret]
  iintro ⟨HN, HX, HW, HXb, HWb, H18, O28, O29, O30, O31⟩
  iapply (step_start m ρ c (A := 18) (B := 17) (R := 15) (by decide) (by decide) (by decide) (by decide) (by decide) (e₁ := rfl) (e₂ := rfl)
      (show (⟨k0_dev21 c, k0_dev21_lt c⟩ : Dev nD) = dst 18 c from Fin.ext (k0_dev21_eq c)) (rfl : _ = sendS 18) (rfl : _ = recvS 18)) $$ [HN H18]
  · isplitl [HN]; · iexact HN
    iexact H18
  iintro HN
  iapply (step_waitR m ρ c (A := 19) (B := 17) (R := 15) (by decide) (by decide) (by decide) (rfl : _ = recvS 15)) $$ HN; iintro ⟨HN, H15⟩
  iapply (load_slot c 3 1 (M := dstM 15 c) (v := V m ρ 15 (src 15 c)) rfl (off := ![3, 1, 0, 0]) rfl) $$ H15; iintro H15
  iapply (load_row m ρ c (chS 19 c) (show k0_off3 c 3#32 = ![512 * (chS 19 c).val, 0] from off3_at c 3 19 rfl (by decide))) $$ HXb; iintro HXb
  iapply (load_col m ρ c (qn 15) (off := ![0, 1536]) rfl) $$ HWb; iintro HWb
  iapply (load_slot c 3 1 (M := dstM 15 c) (v := V m ρ 15 (src 15 c)) rfl (off := ![3, 1, 0, 0]) rfl) $$ H15; iintro H15
  iapply (store_over c 3 1 (M := dstM 15 c) (M₁ := srcM 19 c) (u := V m ρ 15 (src 15 c)) (v := V m ρ 19 c) rfl rfl (off := ![3, 1, 0, 0]) rfl ((k0_pay28 (castU (V m ρ 15 (src 15 c))) (xrow m ρ c (chS 19 c)) (wcol m ρ c (qn 15)))) (V_acc m ρ 15 (by decide) c).symm) $$ H15; iintro H19
  rw [wp_ret]; imodintro; iapply (hQ)
  isplitl [HN]; · iexact HN
  isplitl [HX]; · iexact HX
  isplitl [HW]; · iexact HW
  isplitl [HXb]; · iexact HXb
  isplitl [HWb]; · iexact HWb
  isplitl [H19]; · iexact H19
  isplitl [O28]; · iexact O28
  isplitl [O29]; · iexact O29
  isplitl [O30]; · iexact O30
  iexact O31

theorem part33 (c : Dev nD) (v2 : BitVec 32) (v5 : BitVec 32) {Q : (Σ' (v742 : BitVec 32), BitVec 32) → sProp 𝕄}
    (hQ : ∀ w0 w1 : BitVec 32, iprop(Net m ρ c 20 18 16 ∗ whole c cc0_stg0_0 (xv m ρ c) ∗ whole c cc0_stg1_0 (wv m ρ c) ∗ whole c cc0_scratch1 (xbv m ρ c) ∗ whole c cc0_scratch2 (wbv m ρ c) ∗ dead c (srcM 28 c) ∗ dead c (srcM 29 c) ∗ dead c (srcM 30 c) ∗ dead c (srcM 31 c)) ⊢ Q ⟨w0, w1⟩) :
    iprop(Net m ρ c 19 17 16 ∗ whole c cc0_stg0_0 (xv m ρ c) ∗ whole c cc0_stg1_0 (wv m ρ c) ∗ whole c cc0_scratch1 (xbv m ρ c) ∗ whole c cc0_scratch2 (wbv m ρ c) ∗ holds c (srcM 19 c) (V m ρ 19 c) ∗ dead c (srcM 28 c) ∗ dead c (srcM 29 c) ∗ dead c (srcM 30 c) ∗ dead c (srcM 31 c))
      ⊢ wp frame (wpE (defs₀ (F := F)) 𝒱₀ (c : Thread nD τ) none) Set.univ (k0_part33 xM (Memref.isWhole_whole _) wM (Memref.isWhole_whole _) oM (Memref.isWhole_whole _) comM (Memref.isWhole_whole _) xbM (Memref.isWhole_whole _) wbM (Memref.isWhole_whole _) cc0_scratch3 c v2 v5) Q := by
  rw [k0_part33_eq_skeleton]; unfold k0_part33_skel
  simp only [Prog.lift, Prog.bind_op, Prog.bind_ret, Prog.pure_eq_ret]
  iintro ⟨HN, HX, HW, HXb, HWb, H19, O28, O29, O30, O31⟩
  iapply (step_waitS m ρ c (A := 19) (B := 17) (R := 16) (by decide) (by decide) (by decide) (rfl : _ = sendS 17)) $$ HN; iintro HN
  iapply (step_start m ρ c (A := 19) (B := 18) (R := 16) (by decide) (by decide) (by decide) (by decide) (by decide) (e₁ := rfl) (e₂ := rfl)
      (show (⟨k0_dev22 c, k0_dev22_lt c⟩ : Dev nD) = dst 19 c from Fin.ext (k0_dev22_eq c)) (rfl : _ = sendS 19) (rfl : _ = recvS 19)) $$ [HN H19]
  · isplitl [HN]; · iexact HN
    iexact H19
  iintro HN
  rw [wp_ret]; imodintro; iapply (hQ _ _)
  isplitl [HN]; · iexact HN
  isplitl [HX]; · iexact HX
  isplitl [HW]; · iexact HW
  isplitl [HXb]; · iexact HXb
  isplitl [HWb]; · iexact HWb
  isplitl [O28]; · iexact O28
  isplitl [O29]; · iexact O29
  isplitl [O30]; · iexact O30
  iexact O31

theorem part34 (c : Dev nD) (v7 : BitVec 32) (v742 : BitVec 32) {Q : (PUnit) → sProp 𝕄}
    (hQ : iprop(Net m ρ c 20 18 17 ∗ whole c cc0_stg0_0 (xv m ρ c) ∗ whole c cc0_stg1_0 (wv m ρ c) ∗ whole c cc0_scratch1 (xbv m ρ c) ∗ whole c cc0_scratch2 (wbv m ρ c) ∗ holds c (srcM 20 c) (V m ρ 20 c) ∗ dead c (srcM 28 c) ∗ dead c (srcM 29 c) ∗ dead c (srcM 30 c) ∗ dead c (srcM 31 c)) ⊢ Q ⟨⟩) :
    iprop(Net m ρ c 20 18 16 ∗ whole c cc0_stg0_0 (xv m ρ c) ∗ whole c cc0_stg1_0 (wv m ρ c) ∗ whole c cc0_scratch1 (xbv m ρ c) ∗ whole c cc0_scratch2 (wbv m ρ c) ∗ dead c (srcM 28 c) ∗ dead c (srcM 29 c) ∗ dead c (srcM 30 c) ∗ dead c (srcM 31 c))
      ⊢ wp frame (wpE (defs₀ (F := F)) 𝒱₀ (c : Thread nD τ) none) Set.univ (k0_part34 xM (Memref.isWhole_whole _) wM (Memref.isWhole_whole _) oM (Memref.isWhole_whole _) comM (Memref.isWhole_whole _) xbM (Memref.isWhole_whole _) wbM (Memref.isWhole_whole _) cc0_scratch3 c v7 v742) Q := by
  rw [k0_part34_eq_skeleton]; unfold k0_part34_skel
  simp only [Prog.lift, Prog.bind_op, Prog.bind_ret, Prog.pure_eq_ret]
  iintro ⟨HN, HX, HW, HXb, HWb, O28, O29, O30, O31⟩
  iapply (step_waitR m ρ c (A := 20) (B := 18) (R := 16) (by decide) (by decide) (by decide) (rfl : _ = recvS 16)) $$ HN; iintro ⟨HN, H16⟩
  iapply (load_slot c 0 2 (M := dstM 16 c) (v := V m ρ 16 (src 16 c)) rfl (off := ![0, 2, 0, 0]) rfl) $$ H16; iintro H16
  iapply (load_row m ρ c (chS 20 c) (show k0_off2 c 4#32 = ![512 * (chS 20 c).val, 0] from off2_at c 4 20 rfl rfl)) $$ HXb; iintro HXb
  iapply (load_col m ρ c (qn 16) (off := ![0, 0]) rfl) $$ HWb; iintro HWb
  iapply (load_slot c 0 2 (M := dstM 16 c) (v := V m ρ 16 (src 16 c)) rfl (off := ![0, 2, 0, 0]) rfl) $$ H16; iintro H16
  iapply (store_over c 0 2 (M := dstM 16 c) (M₁ := srcM 20 c) (u := V m ρ 16 (src 16 c)) (v := V m ρ 20 c) rfl rfl (off := ![0, 2, 0, 0]) rfl ((k0_pay29 (castU (V m ρ 16 (src 16 c))) (xrow m ρ c (chS 20 c)) (wcol m ρ c (qn 16)))) (V_acc m ρ 16 (by decide) c).symm) $$ H16; iintro H20
  rw [wp_ret]; imodintro; iapply (hQ)
  isplitl [HN]; · iexact HN
  isplitl [HX]; · iexact HX
  isplitl [HW]; · iexact HW
  isplitl [HXb]; · iexact HXb
  isplitl [HWb]; · iexact HWb
  isplitl [H20]; · iexact H20
  isplitl [O28]; · iexact O28
  isplitl [O29]; · iexact O29
  isplitl [O30]; · iexact O30
  iexact O31

theorem part35 (c : Dev nD) (v5 : BitVec 32) (v7 : BitVec 32) {Q : (PUnit) → sProp 𝕄}
    (hQ : iprop(Net m ρ c 21 19 17 ∗ whole c cc0_stg0_0 (xv m ρ c) ∗ whole c cc0_stg1_0 (wv m ρ c) ∗ whole c cc0_scratch1 (xbv m ρ c) ∗ whole c cc0_scratch2 (wbv m ρ c) ∗ dead c (srcM 28 c) ∗ dead c (srcM 29 c) ∗ dead c (srcM 30 c) ∗ dead c (srcM 31 c)) ⊢ Q ⟨⟩) :
    iprop(Net m ρ c 20 18 17 ∗ whole c cc0_stg0_0 (xv m ρ c) ∗ whole c cc0_stg1_0 (wv m ρ c) ∗ whole c cc0_scratch1 (xbv m ρ c) ∗ whole c cc0_scratch2 (wbv m ρ c) ∗ holds c (srcM 20 c) (V m ρ 20 c) ∗ dead c (srcM 28 c) ∗ dead c (srcM 29 c) ∗ dead c (srcM 30 c) ∗ dead c (srcM 31 c))
      ⊢ wp frame (wpE (defs₀ (F := F)) 𝒱₀ (c : Thread nD τ) none) Set.univ (k0_part35 xM (Memref.isWhole_whole _) wM (Memref.isWhole_whole _) oM (Memref.isWhole_whole _) comM (Memref.isWhole_whole _) xbM (Memref.isWhole_whole _) wbM (Memref.isWhole_whole _) cc0_scratch3 c v5 v7) Q := by
  rw [k0_part35_eq_skeleton]; unfold k0_part35_skel
  simp only [Prog.lift, Prog.bind_op, Prog.bind_ret, Prog.pure_eq_ret]
  iintro ⟨HN, HX, HW, HXb, HWb, H20, O28, O29, O30, O31⟩
  iapply (step_waitS m ρ c (A := 20) (B := 18) (R := 17) (by decide) (by decide) (by decide) (rfl : _ = sendS 18)) $$ HN; iintro HN
  iapply (step_start m ρ c (A := 20) (B := 19) (R := 17) (by decide) (by decide) (by decide) (by decide) (by decide) (e₁ := rfl) (e₂ := rfl)
      (show (⟨k0_dev23 c, k0_dev23_lt c⟩ : Dev nD) = dst 20 c from Fin.ext (k0_dev23_eq c)) (rfl : _ = sendS 20) (rfl : _ = recvS 20)) $$ [HN H20]
  · isplitl [HN]; · iexact HN
    iexact H20
  iintro HN
  rw [wp_ret]; imodintro; iapply (hQ)
  isplitl [HN]; · iexact HN
  isplitl [HX]; · iexact HX
  isplitl [HW]; · iexact HW
  isplitl [HXb]; · iexact HXb
  isplitl [HWb]; · iexact HWb
  isplitl [O28]; · iexact O28
  isplitl [O29]; · iexact O29
  isplitl [O30]; · iexact O30
  iexact O31

theorem part36 (c : Dev nD) (v745 : BitVec 32) {Q : (PUnit) → sProp 𝕄}
    (hQ : iprop(Net m ρ c 21 20 18 ∗ whole c cc0_stg0_0 (xv m ρ c) ∗ whole c cc0_stg1_0 (wv m ρ c) ∗ whole c cc0_scratch1 (xbv m ρ c) ∗ whole c cc0_scratch2 (wbv m ρ c) ∗ holds c (srcM 21 c) (V m ρ 21 c) ∗ dead c (srcM 28 c) ∗ dead c (srcM 29 c) ∗ dead c (srcM 30 c) ∗ dead c (srcM 31 c)) ⊢ Q ⟨⟩) :
    iprop(Net m ρ c 21 19 17 ∗ whole c cc0_stg0_0 (xv m ρ c) ∗ whole c cc0_stg1_0 (wv m ρ c) ∗ whole c cc0_scratch1 (xbv m ρ c) ∗ whole c cc0_scratch2 (wbv m ρ c) ∗ dead c (srcM 28 c) ∗ dead c (srcM 29 c) ∗ dead c (srcM 30 c) ∗ dead c (srcM 31 c))
      ⊢ wp frame (wpE (defs₀ (F := F)) 𝒱₀ (c : Thread nD τ) none) Set.univ (k0_part36 xM (Memref.isWhole_whole _) wM (Memref.isWhole_whole _) oM (Memref.isWhole_whole _) comM (Memref.isWhole_whole _) xbM (Memref.isWhole_whole _) wbM (Memref.isWhole_whole _) cc0_scratch3 c v745) Q := by
  rw [k0_part36_eq_skeleton]; unfold k0_part36_skel
  simp only [Prog.lift, Prog.bind_op, Prog.bind_ret, Prog.pure_eq_ret]
  iintro ⟨HN, HX, HW, HXb, HWb, O28, O29, O30, O31⟩
  iapply (step_waitR m ρ c (A := 21) (B := 19) (R := 17) (by decide) (by decide) (by decide) (rfl : _ = recvS 17)) $$ HN; iintro ⟨HN, H17⟩
  iapply (load_slot c 2 2 (M := dstM 17 c) (v := V m ρ 17 (src 17 c)) rfl (off := ![2, 2, 0, 0]) rfl) $$ H17; iintro H17
  iapply (load_row m ρ c (chS 21 c) (show k0_off3 c 4#32 = ![512 * (chS 21 c).val, 0] from off3_at c 4 21 rfl (by decide))) $$ HXb; iintro HXb
  iapply (load_col m ρ c (qn 17) (off := ![0, 1024]) rfl) $$ HWb; iintro HWb
  iapply (load_slot c 2 2 (M := dstM 17 c) (v := V m ρ 17 (src 17 c)) rfl (off := ![2, 2, 0, 0]) rfl) $$ H17; iintro H17
  iapply (store_over c 2 2 (M := dstM 17 c) (M₁ := srcM 21 c) (u := V m ρ 17 (src 17 c)) (v := V m ρ 21 c) rfl rfl (off := ![2, 2, 0, 0]) rfl ((k0_pay30 (castU (V m ρ 17 (src 17 c))) (xrow m ρ c (chS 21 c)) (wcol m ρ c (qn 17)))) (V_acc m ρ 17 (by decide) c).symm) $$ H17; iintro H21
  iapply (step_waitS m ρ c (A := 21) (B := 19) (R := 18) (by decide) (by decide) (by decide) (rfl : _ = sendS 19)) $$ HN; iintro HN
  rw [wp_ret]; imodintro; iapply (hQ)
  isplitl [HN]; · iexact HN
  isplitl [HX]; · iexact HX
  isplitl [HW]; · iexact HW
  isplitl [HXb]; · iexact HXb
  isplitl [HWb]; · iexact HWb
  isplitl [H21]; · iexact H21
  isplitl [O28]; · iexact O28
  isplitl [O29]; · iexact O29
  isplitl [O30]; · iexact O30
  iexact O31

theorem part37 (c : Dev nD) (v5 : BitVec 32) (v7 : BitVec 32) (v742 : BitVec 32) {Q : (Σ' (v830 : FVec F S512x512 .f32) (v833 : Vec F S512x512 .bf16), Vec F S512x512 .bf16) → sProp 𝕄}
    (hQ : iprop(Net m ρ c 22 20 19 ∗ whole c cc0_stg0_0 (xv m ρ c) ∗ whole c cc0_stg1_0 (wv m ρ c) ∗ whole c cc0_scratch1 (xbv m ρ c) ∗ whole c cc0_scratch2 (wbv m ρ c) ∗ holds c (dstM 18 c) (V m ρ 18 (src 18 c)) ∗ dead c (srcM 28 c) ∗ dead c (srcM 29 c) ∗ dead c (srcM 30 c) ∗ dead c (srcM 31 c)) ⊢ Q ⟨k0_pay31 (castU (V m ρ 18 (src 18 c))), (xrow m ρ c (chS 22 c)), (wcol m ρ c (qn 18))⟩) :
    iprop(Net m ρ c 21 20 18 ∗ whole c cc0_stg0_0 (xv m ρ c) ∗ whole c cc0_stg1_0 (wv m ρ c) ∗ whole c cc0_scratch1 (xbv m ρ c) ∗ whole c cc0_scratch2 (wbv m ρ c) ∗ holds c (srcM 21 c) (V m ρ 21 c) ∗ dead c (srcM 28 c) ∗ dead c (srcM 29 c) ∗ dead c (srcM 30 c) ∗ dead c (srcM 31 c))
      ⊢ wp frame (wpE (defs₀ (F := F)) 𝒱₀ (c : Thread nD τ) none) Set.univ (k0_part37 xM (Memref.isWhole_whole _) wM (Memref.isWhole_whole _) oM (Memref.isWhole_whole _) comM (Memref.isWhole_whole _) xbM (Memref.isWhole_whole _) wbM (Memref.isWhole_whole _) cc0_scratch3 c v5 v7 v742) Q := by
  rw [k0_part37_eq_skeleton]; unfold k0_part37_skel
  simp only [Prog.lift, Prog.bind_op, Prog.bind_ret, Prog.pure_eq_ret]
  iintro ⟨HN, HX, HW, HXb, HWb, H21, O28, O29, O30, O31⟩
  iapply (step_start m ρ c (A := 21) (B := 20) (R := 18) (by decide) (by decide) (by decide) (by decide) (by decide) (e₁ := rfl) (e₂ := rfl)
      (show (⟨k0_dev24 c, k0_dev24_lt c⟩ : Dev nD) = dst 21 c from Fin.ext (k0_dev24_eq c)) (rfl : _ = sendS 21) (rfl : _ = recvS 21)) $$ [HN H21]
  · isplitl [HN]; · iexact HN
    iexact H21
  iintro HN
  iapply (step_waitR m ρ c (A := 22) (B := 20) (R := 18) (by decide) (by decide) (by decide) (rfl : _ = recvS 18)) $$ HN; iintro ⟨HN, H18⟩
  iapply (load_slot c 1 2 (M := dstM 18 c) (v := V m ρ 18 (src 18 c)) rfl (off := ![1, 2, 0, 0]) rfl) $$ H18; iintro H18
  iapply (load_row m ρ c (chS 22 c) (show k0_off2 c 4#32 = ![512 * (chS 22 c).val, 0] from off2_at c 4 22 rfl rfl)) $$ HXb; iintro HXb
  iapply (load_col m ρ c (qn 18) (off := ![0, 512]) rfl) $$ HWb; iintro HWb
  rw [wp_ret]; imodintro; iapply (hQ)
  isplitl [HN]; · iexact HN
  isplitl [HX]; · iexact HX
  isplitl [HW]; · iexact HW
  isplitl [HXb]; · iexact HXb
  isplitl [HWb]; · iexact HWb
  isplitl [H18]; · iexact H18
  isplitl [O28]; · iexact O28
  isplitl [O29]; · iexact O29
  isplitl [O30]; · iexact O30
  iexact O31

theorem part38 (c : Dev nD) (v7 : BitVec 32) {Q : (PUnit) → sProp 𝕄}
    (hQ : iprop(Net m ρ c 22 21 19 ∗ whole c cc0_stg0_0 (xv m ρ c) ∗ whole c cc0_stg1_0 (wv m ρ c) ∗ whole c cc0_scratch1 (xbv m ρ c) ∗ whole c cc0_scratch2 (wbv m ρ c) ∗ holds c (srcM 22 c) (V m ρ 22 c) ∗ dead c (srcM 28 c) ∗ dead c (srcM 29 c) ∗ dead c (srcM 30 c) ∗ dead c (srcM 31 c)) ⊢ Q ⟨⟩) :
    iprop(Net m ρ c 22 20 19 ∗ whole c cc0_stg0_0 (xv m ρ c) ∗ whole c cc0_stg1_0 (wv m ρ c) ∗ whole c cc0_scratch1 (xbv m ρ c) ∗ whole c cc0_scratch2 (wbv m ρ c) ∗ holds c (dstM 18 c) (V m ρ 18 (src 18 c)) ∗ dead c (srcM 28 c) ∗ dead c (srcM 29 c) ∗ dead c (srcM 30 c) ∗ dead c (srcM 31 c))
      ⊢ wp frame (wpE (defs₀ (F := F)) 𝒱₀ (c : Thread nD τ) none) Set.univ (k0_part38 xM (Memref.isWhole_whole _) wM (Memref.isWhole_whole _) oM (Memref.isWhole_whole _) comM (Memref.isWhole_whole _) xbM (Memref.isWhole_whole _) wbM (Memref.isWhole_whole _) cc0_scratch3 v7 (k0_pay31 (castU (V m ρ 18 (src 18 c)))) (xrow m ρ c (chS 22 c)) (wcol m ρ c (qn 18))) Q := by
  rw [k0_part38_eq_skeleton]; unfold k0_part38_skel
  simp only [Prog.lift, Prog.bind_op, Prog.bind_ret, Prog.pure_eq_ret]
  iintro ⟨HN, HX, HW, HXb, HWb, H18, O28, O29, O30, O31⟩
  iapply (load_slot c 1 2 (M := dstM 18 c) (v := V m ρ 18 (src 18 c)) rfl (off := ![1, 2, 0, 0]) rfl) $$ H18; iintro H18
  iapply (store_over c 1 2 (M := dstM 18 c) (M₁ := srcM 22 c) (u := V m ρ 18 (src 18 c)) (v := V m ρ 22 c) rfl rfl (off := ![1, 2, 0, 0]) rfl ((k0_pay32 (k0_pay31 (castU (V m ρ 18 (src 18 c)))) (xrow m ρ c (chS 22 c)) (wcol m ρ c (qn 18)))) (V_acc m ρ 18 (by decide) c).symm) $$ H18; iintro H22
  iapply (step_waitS m ρ c (A := 22) (B := 20) (R := 19) (by decide) (by decide) (by decide) (rfl : _ = sendS 20)) $$ HN; iintro HN
  rw [wp_ret]; imodintro; iapply (hQ)
  isplitl [HN]; · iexact HN
  isplitl [HX]; · iexact HX
  isplitl [HW]; · iexact HW
  isplitl [HXb]; · iexact HXb
  isplitl [HWb]; · iexact HWb
  isplitl [H22]; · iexact H22
  isplitl [O28]; · iexact O28
  isplitl [O29]; · iexact O29
  isplitl [O30]; · iexact O30
  iexact O31

end Cert.RingProof

end
-- ==== Proof.Walk3.lean ====
/-
# The walk of the two-way ring's body: parts 39 to 55

Each part of the body takes the device's state before it to the state after it.
-/
module

public import proofs.«01_k».proof.Proof.Mem

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ) (ρ : Dev nD → PrngReg)

theorem part39 (c : Dev nD) (v5 : BitVec 32) (v745 : BitVec 32) {Q : (PUnit) → sProp 𝕄}
    (hQ : iprop(Net m ρ c 23 21 20 ∗ whole c cc0_stg0_0 (xv m ρ c) ∗ whole c cc0_stg1_0 (wv m ρ c) ∗ whole c cc0_scratch1 (xbv m ρ c) ∗ whole c cc0_scratch2 (wbv m ρ c) ∗ holds c (srcM 23 c) (V m ρ 23 c) ∗ dead c (srcM 28 c) ∗ dead c (srcM 29 c) ∗ dead c (srcM 30 c) ∗ dead c (srcM 31 c)) ⊢ Q ⟨⟩) :
    iprop(Net m ρ c 22 21 19 ∗ whole c cc0_stg0_0 (xv m ρ c) ∗ whole c cc0_stg1_0 (wv m ρ c) ∗ whole c cc0_scratch1 (xbv m ρ c) ∗ whole c cc0_scratch2 (wbv m ρ c) ∗ holds c (srcM 22 c) (V m ρ 22 c) ∗ dead c (srcM 28 c) ∗ dead c (srcM 29 c) ∗ dead c (srcM 30 c) ∗ dead c (srcM 31 c))
      ⊢ wp frame (wpE (defs₀ (F := F)) 𝒱₀ (c : Thread nD τ) none) Set.univ (k0_part39 xM (Memref.isWhole_whole _) wM (Memref.isWhole_whole _) oM (Memref.isWhole_whole _) comM (Memref.isWhole_whole _) xbM (Memref.isWhole_whole _) wbM (Memref.isWhole_whole _) cc0_scratch3 c v5 v745) Q := by
  rw [k0_part39_eq_skeleton]; unfold k0_part39_skel
  simp only [Prog.lift, Prog.bind_op, Prog.bind_ret, Prog.pure_eq_ret]
  iintro ⟨HN, HX, HW, HXb, HWb, H22, O28, O29, O30, O31⟩
  iapply (step_start m ρ c (A := 22) (B := 21) (R := 19) (by decide) (by decide) (by decide) (by decide) (by decide) (e₁ := rfl) (e₂ := rfl)
      (show (⟨k0_dev25 c, k0_dev25_lt c⟩ : Dev nD) = dst 22 c from Fin.ext (k0_dev25_eq c)) (rfl : _ = sendS 22) (rfl : _ = recvS 22)) $$ [HN H22]
  · isplitl [HN]; · iexact HN
    iexact H22
  iintro HN
  iapply (step_waitR m ρ c (A := 23) (B := 21) (R := 19) (by decide) (by decide) (by decide) (rfl : _ = recvS 19)) $$ HN; iintro ⟨HN, H19⟩
  iapply (load_slot c 3 2 (M := dstM 19 c) (v := V m ρ 19 (src 19 c)) rfl (off := ![3, 2, 0, 0]) rfl) $$ H19; iintro H19
  iapply (load_row m ρ c (chS 23 c) (show k0_off3 c 4#32 = ![512 * (chS 23 c).val, 0] from off3_at c 4 23 rfl (by decide))) $$ HXb; iintro HXb
  iapply (load_col m ρ c (qn 19) (off := ![0, 1536]) rfl) $$ HWb; iintro HWb
  iapply (load_slot c 3 2 (M := dstM 19 c) (v := V m ρ 19 (src 19 c)) rfl (off := ![3, 2, 0, 0]) rfl) $$ H19; iintro H19
  iapply (store_over c 3 2 (M := dstM 19 c) (M₁ := srcM 23 c) (u := V m ρ 19 (src 19 c)) (v := V m ρ 23 c) rfl rfl (off := ![3, 2, 0, 0]) rfl ((k0_pay33 (castU (V m ρ 19 (src 19 c))) (xrow m ρ c (chS 23 c)) (wcol m ρ c (qn 19)))) (V_acc m ρ 19 (by decide) c).symm) $$ H19; iintro H23
  rw [wp_ret]; imodintro; iapply (hQ)
  isplitl [HN]; · iexact HN
  isplitl [HX]; · iexact HX
  isplitl [HW]; · iexact HW
  isplitl [HXb]; · iexact HXb
  isplitl [HWb]; · iexact HWb
  isplitl [H23]; · iexact H23
  isplitl [O28]; · iexact O28
  isplitl [O29]; · iexact O29
  isplitl [O30]; · iexact O30
  iexact O31

theorem part40 (c : Dev nD) (v2 : BitVec 32) (v5 : BitVec 32) {Q : (Σ' (v897 : BitVec 32), BitVec 32) → sProp 𝕄}
    (hQ : ∀ w0 w1 : BitVec 32, iprop(Net m ρ c 24 22 20 ∗ whole c cc0_stg0_0 (xv m ρ c) ∗ whole c cc0_stg1_0 (wv m ρ c) ∗ whole c cc0_scratch1 (xbv m ρ c) ∗ whole c cc0_scratch2 (wbv m ρ c) ∗ dead c (srcM 28 c) ∗ dead c (srcM 29 c) ∗ dead c (srcM 30 c) ∗ dead c (srcM 31 c)) ⊢ Q ⟨w0, w1⟩) :
    iprop(Net m ρ c 23 21 20 ∗ whole c cc0_stg0_0 (xv m ρ c) ∗ whole c cc0_stg1_0 (wv m ρ c) ∗ whole c cc0_scratch1 (xbv m ρ c) ∗ whole c cc0_scratch2 (wbv m ρ c) ∗ holds c (srcM 23 c) (V m ρ 23 c) ∗ dead c (srcM 28 c) ∗ dead c (srcM 29 c) ∗ dead c (srcM 30 c) ∗ dead c (srcM 31 c))
      ⊢ wp frame (wpE (defs₀ (F := F)) 𝒱₀ (c : Thread nD τ) none) Set.univ (k0_part40 xM (Memref.isWhole_whole _) wM (Memref.isWhole_whole _) oM (Memref.isWhole_whole _) comM (Memref.isWhole_whole _) xbM (Memref.isWhole_whole _) wbM (Memref.isWhole_whole _) cc0_scratch3 c v2 v5) Q := by
  rw [k0_part40_eq_skeleton]; unfold k0_part40_skel
  simp only [Prog.lift, Prog.bind_op, Prog.bind_ret, Prog.pure_eq_ret]
  iintro ⟨HN, HX, HW, HXb, HWb, H23, O28, O29, O30, O31⟩
  iapply (step_waitS m ρ c (A := 23) (B := 21) (R := 20) (by decide) (by decide) (by decide) (rfl : _ = sendS 21)) $$ HN; iintro HN
  iapply (step_start m ρ c (A := 23) (B := 22) (R := 20) (by decide) (by decide) (by decide) (by decide) (by decide) (e₁ := rfl) (e₂ := rfl)
      (show (⟨k0_dev26 c, k0_dev26_lt c⟩ : Dev nD) = dst 23 c from Fin.ext (k0_dev26_eq c)) (rfl : _ = sendS 23) (rfl : _ = recvS 23)) $$ [HN H23]
  · isplitl [HN]; · iexact HN
    iexact H23
  iintro HN
  rw [wp_ret]; imodintro; iapply (hQ _ _)
  isplitl [HN]; · iexact HN
  isplitl [HX]; · iexact HX
  isplitl [HW]; · iexact HW
  isplitl [HXb]; · iexact HXb
  isplitl [HWb]; · iexact HWb
  isplitl [O28]; · iexact O28
  isplitl [O29]; · iexact O29
  isplitl [O30]; · iexact O30
  iexact O31

theorem part41 (c : Dev nD) (v7 : BitVec 32) (v897 : BitVec 32) {Q : (PUnit) → sProp 𝕄}
    (hQ : iprop(Net m ρ c 24 22 21 ∗ whole c cc0_stg0_0 (xv m ρ c) ∗ whole c cc0_stg1_0 (wv m ρ c) ∗ whole c cc0_scratch1 (xbv m ρ c) ∗ whole c cc0_scratch2 (wbv m ρ c) ∗ holds c (srcM 24 c) (V m ρ 24 c) ∗ dead c (srcM 28 c) ∗ dead c (srcM 29 c) ∗ dead c (srcM 30 c) ∗ dead c (srcM 31 c)) ⊢ Q ⟨⟩) :
    iprop(Net m ρ c 24 22 20 ∗ whole c cc0_stg0_0 (xv m ρ c) ∗ whole c cc0_stg1_0 (wv m ρ c) ∗ whole c cc0_scratch1 (xbv m ρ c) ∗ whole c cc0_scratch2 (wbv m ρ c) ∗ dead c (srcM 28 c) ∗ dead c (srcM 29 c) ∗ dead c (srcM 30 c) ∗ dead c (srcM 31 c))
      ⊢ wp frame (wpE (defs₀ (F := F)) 𝒱₀ (c : Thread nD τ) none) Set.univ (k0_part41 xM (Memref.isWhole_whole _) wM (Memref.isWhole_whole _) oM (Memref.isWhole_whole _) comM (Memref.isWhole_whole _) xbM (Memref.isWhole_whole _) wbM (Memref.isWhole_whole _) cc0_scratch3 c v7 v897) Q := by
  rw [k0_part41_eq_skeleton]; unfold k0_part41_skel
  simp only [Prog.lift, Prog.bind_op, Prog.bind_ret, Prog.pure_eq_ret]
  iintro ⟨HN, HX, HW, HXb, HWb, O28, O29, O30, O31⟩
  iapply (step_waitR m ρ c (A := 24) (B := 22) (R := 20) (by decide) (by decide) (by decide) (rfl : _ = recvS 20)) $$ HN; iintro ⟨HN, H20⟩
  iapply (load_slot c 0 0 (M := dstM 20 c) (v := V m ρ 20 (src 20 c)) rfl (off := ![0, 0, 0, 0]) rfl) $$ H20; iintro H20
  iapply (load_row m ρ c (chS 24 c) (show k0_off2 c 5#32 = ![512 * (chS 24 c).val, 0] from off2_at c 5 24 rfl rfl)) $$ HXb; iintro HXb
  iapply (load_col m ρ c (qn 20) (off := ![0, 0]) rfl) $$ HWb; iintro HWb
  iapply (load_slot c 0 0 (M := dstM 20 c) (v := V m ρ 20 (src 20 c)) rfl (off := ![0, 0, 0, 0]) rfl) $$ H20; iintro H20
  iapply (store_over c 0 0 (M := dstM 20 c) (M₁ := srcM 24 c) (u := V m ρ 20 (src 20 c)) (v := V m ρ 24 c) rfl rfl (off := ![0, 0, 0, 0]) rfl ((k0_pay34 (castU (V m ρ 20 (src 20 c))) (xrow m ρ c (chS 24 c)) (wcol m ρ c (qn 20)))) (V_acc m ρ 20 (by decide) c).symm) $$ H20; iintro H24
  rw [wp_ret]; imodintro; iapply (hQ)
  isplitl [HN]; · iexact HN
  isplitl [HX]; · iexact HX
  isplitl [HW]; · iexact HW
  isplitl [HXb]; · iexact HXb
  isplitl [HWb]; · iexact HWb
  isplitl [H24]; · iexact H24
  isplitl [O28]; · iexact O28
  isplitl [O29]; · iexact O29
  isplitl [O30]; · iexact O30
  iexact O31

theorem part42 (c : Dev nD) (v5 : BitVec 32) (v7 : BitVec 32) {Q : (PUnit) → sProp 𝕄}
    (hQ : iprop(Net m ρ c 25 23 21 ∗ whole c cc0_stg0_0 (xv m ρ c) ∗ whole c cc0_stg1_0 (wv m ρ c) ∗ whole c cc0_scratch1 (xbv m ρ c) ∗ whole c cc0_scratch2 (wbv m ρ c) ∗ dead c (srcM 28 c) ∗ dead c (srcM 29 c) ∗ dead c (srcM 30 c) ∗ dead c (srcM 31 c)) ⊢ Q ⟨⟩) :
    iprop(Net m ρ c 24 22 21 ∗ whole c cc0_stg0_0 (xv m ρ c) ∗ whole c cc0_stg1_0 (wv m ρ c) ∗ whole c cc0_scratch1 (xbv m ρ c) ∗ whole c cc0_scratch2 (wbv m ρ c) ∗ holds c (srcM 24 c) (V m ρ 24 c) ∗ dead c (srcM 28 c) ∗ dead c (srcM 29 c) ∗ dead c (srcM 30 c) ∗ dead c (srcM 31 c))
      ⊢ wp frame (wpE (defs₀ (F := F)) 𝒱₀ (c : Thread nD τ) none) Set.univ (k0_part42 xM (Memref.isWhole_whole _) wM (Memref.isWhole_whole _) oM (Memref.isWhole_whole _) comM (Memref.isWhole_whole _) xbM (Memref.isWhole_whole _) wbM (Memref.isWhole_whole _) cc0_scratch3 c v5 v7) Q := by
  rw [k0_part42_eq_skeleton]; unfold k0_part42_skel
  simp only [Prog.lift, Prog.bind_op, Prog.bind_ret, Prog.pure_eq_ret]
  iintro ⟨HN, HX, HW, HXb, HWb, H24, O28, O29, O30, O31⟩
  iapply (step_waitS m ρ c (A := 24) (B := 22) (R := 21) (by decide) (by decide) (by decide) (rfl : _ = sendS 22)) $$ HN; iintro HN
  iapply (step_start m ρ c (A := 24) (B := 23) (R := 21) (by decide) (by decide) (by decide) (by decide) (by decide) (e₁ := rfl) (e₂ := rfl)
      (show (⟨k0_dev27 c, k0_dev27_lt c⟩ : Dev nD) = dst 24 c from Fin.ext (k0_dev27_eq c)) (rfl : _ = sendS 24) (rfl : _ = recvS 24)) $$ [HN H24]
  · isplitl [HN]; · iexact HN
    iexact H24
  iintro HN
  rw [wp_ret]; imodintro; iapply (hQ)
  isplitl [HN]; · iexact HN
  isplitl [HX]; · iexact HX
  isplitl [HW]; · iexact HW
  isplitl [HXb]; · iexact HXb
  isplitl [HWb]; · iexact HWb
  isplitl [O28]; · iexact O28
  isplitl [O29]; · iexact O29
  isplitl [O30]; · iexact O30
  iexact O31

theorem part43 (c : Dev nD) (v900 : BitVec 32) {Q : (PUnit) → sProp 𝕄}
    (hQ : iprop(Net m ρ c 25 24 22 ∗ whole c cc0_stg0_0 (xv m ρ c) ∗ whole c cc0_stg1_0 (wv m ρ c) ∗ whole c cc0_scratch1 (xbv m ρ c) ∗ whole c cc0_scratch2 (wbv m ρ c) ∗ holds c (srcM 25 c) (V m ρ 25 c) ∗ dead c (srcM 28 c) ∗ dead c (srcM 29 c) ∗ dead c (srcM 30 c) ∗ dead c (srcM 31 c)) ⊢ Q ⟨⟩) :
    iprop(Net m ρ c 25 23 21 ∗ whole c cc0_stg0_0 (xv m ρ c) ∗ whole c cc0_stg1_0 (wv m ρ c) ∗ whole c cc0_scratch1 (xbv m ρ c) ∗ whole c cc0_scratch2 (wbv m ρ c) ∗ dead c (srcM 28 c) ∗ dead c (srcM 29 c) ∗ dead c (srcM 30 c) ∗ dead c (srcM 31 c))
      ⊢ wp frame (wpE (defs₀ (F := F)) 𝒱₀ (c : Thread nD τ) none) Set.univ (k0_part43 xM (Memref.isWhole_whole _) wM (Memref.isWhole_whole _) oM (Memref.isWhole_whole _) comM (Memref.isWhole_whole _) xbM (Memref.isWhole_whole _) wbM (Memref.isWhole_whole _) cc0_scratch3 c v900) Q := by
  rw [k0_part43_eq_skeleton]; unfold k0_part43_skel
  simp only [Prog.lift, Prog.bind_op, Prog.bind_ret, Prog.pure_eq_ret]
  iintro ⟨HN, HX, HW, HXb, HWb, O28, O29, O30, O31⟩
  iapply (step_waitR m ρ c (A := 25) (B := 23) (R := 21) (by decide) (by decide) (by decide) (rfl : _ = recvS 21)) $$ HN; iintro ⟨HN, H21⟩
  iapply (load_slot c 2 0 (M := dstM 21 c) (v := V m ρ 21 (src 21 c)) rfl (off := ![2, 0, 0, 0]) rfl) $$ H21; iintro H21
  iapply (load_row m ρ c (chS 25 c) (show k0_off3 c 5#32 = ![512 * (chS 25 c).val, 0] from off3_at c 5 25 rfl (by decide))) $$ HXb; iintro HXb
  iapply (load_col m ρ c (qn 21) (off := ![0, 1024]) rfl) $$ HWb; iintro HWb
  iapply (load_slot c 2 0 (M := dstM 21 c) (v := V m ρ 21 (src 21 c)) rfl (off := ![2, 0, 0, 0]) rfl) $$ H21; iintro H21
  iapply (store_over c 2 0 (M := dstM 21 c) (M₁ := srcM 25 c) (u := V m ρ 21 (src 21 c)) (v := V m ρ 25 c) rfl rfl (off := ![2, 0, 0, 0]) rfl ((k0_pay35 (castU (V m ρ 21 (src 21 c))) (xrow m ρ c (chS 25 c)) (wcol m ρ c (qn 21)))) (V_acc m ρ 21 (by decide) c).symm) $$ H21; iintro H25
  iapply (step_waitS m ρ c (A := 25) (B := 23) (R := 22) (by decide) (by decide) (by decide) (rfl : _ = sendS 23)) $$ HN; iintro HN
  rw [wp_ret]; imodintro; iapply (hQ)
  isplitl [HN]; · iexact HN
  isplitl [HX]; · iexact HX
  isplitl [HW]; · iexact HW
  isplitl [HXb]; · iexact HXb
  isplitl [HWb]; · iexact HWb
  isplitl [H25]; · iexact H25
  isplitl [O28]; · iexact O28
  isplitl [O29]; · iexact O29
  isplitl [O30]; · iexact O30
  iexact O31

theorem part44 (c : Dev nD) (v5 : BitVec 32) (v7 : BitVec 32) (v897 : BitVec 32) {Q : (Σ' (v985 : FVec F S512x512 .f32), FVec F S512x512 .f32) → sProp 𝕄}
    (hQ : iprop(Net m ρ c 26 24 23 ∗ whole c cc0_stg0_0 (xv m ρ c) ∗ whole c cc0_stg1_0 (wv m ρ c) ∗ whole c cc0_scratch1 (xbv m ρ c) ∗ whole c cc0_scratch2 (wbv m ρ c) ∗ holds c (dstM 22 c) (V m ρ 22 (src 22 c)) ∗ dead c (srcM 28 c) ∗ dead c (srcM 29 c) ∗ dead c (srcM 30 c) ∗ dead c (srcM 31 c)) ⊢ Q ⟨k0_pay36 (castU (V m ρ 22 (src 22 c))), k0_pay37 (xrow m ρ c (chS 26 c)) (wcol m ρ c (qn 22))⟩) :
    iprop(Net m ρ c 25 24 22 ∗ whole c cc0_stg0_0 (xv m ρ c) ∗ whole c cc0_stg1_0 (wv m ρ c) ∗ whole c cc0_scratch1 (xbv m ρ c) ∗ whole c cc0_scratch2 (wbv m ρ c) ∗ holds c (srcM 25 c) (V m ρ 25 c) ∗ dead c (srcM 28 c) ∗ dead c (srcM 29 c) ∗ dead c (srcM 30 c) ∗ dead c (srcM 31 c))
      ⊢ wp frame (wpE (defs₀ (F := F)) 𝒱₀ (c : Thread nD τ) none) Set.univ (k0_part44 xM (Memref.isWhole_whole _) wM (Memref.isWhole_whole _) oM (Memref.isWhole_whole _) comM (Memref.isWhole_whole _) xbM (Memref.isWhole_whole _) wbM (Memref.isWhole_whole _) cc0_scratch3 c v5 v7 v897) Q := by
  rw [k0_part44_eq_skeleton]; unfold k0_part44_skel
  simp only [Prog.lift, Prog.bind_op, Prog.bind_ret, Prog.pure_eq_ret]
  iintro ⟨HN, HX, HW, HXb, HWb, H25, O28, O29, O30, O31⟩
  iapply (step_start m ρ c (A := 25) (B := 24) (R := 22) (by decide) (by decide) (by decide) (by decide) (by decide) (e₁ := rfl) (e₂ := rfl)
      (show (⟨k0_dev28 c, k0_dev28_lt c⟩ : Dev nD) = dst 25 c from Fin.ext (k0_dev28_eq c)) (rfl : _ = sendS 25) (rfl : _ = recvS 25)) $$ [HN H25]
  · isplitl [HN]; · iexact HN
    iexact H25
  iintro HN
  iapply (step_waitR m ρ c (A := 26) (B := 24) (R := 22) (by decide) (by decide) (by decide) (rfl : _ = recvS 22)) $$ HN; iintro ⟨HN, H22⟩
  iapply (load_slot c 1 0 (M := dstM 22 c) (v := V m ρ 22 (src 22 c)) rfl (off := ![1, 0, 0, 0]) rfl) $$ H22; iintro H22
  iapply (load_row m ρ c (chS 26 c) (show k0_off2 c 5#32 = ![512 * (chS 26 c).val, 0] from off2_at c 5 26 rfl rfl)) $$ HXb; iintro HXb
  iapply (load_col m ρ c (qn 22) (off := ![0, 512]) rfl) $$ HWb; iintro HWb
  rw [wp_ret]; imodintro; iapply (hQ)
  isplitl [HN]; · iexact HN
  isplitl [HX]; · iexact HX
  isplitl [HW]; · iexact HW
  isplitl [HXb]; · iexact HXb
  isplitl [HWb]; · iexact HWb
  isplitl [H22]; · iexact H22
  isplitl [O28]; · iexact O28
  isplitl [O29]; · iexact O29
  isplitl [O30]; · iexact O30
  iexact O31

theorem part45 (c : Dev nD) (v7 : BitVec 32) {Q : (PUnit) → sProp 𝕄}
    (hQ : iprop(Net m ρ c 27 25 23 ∗ whole c cc0_stg0_0 (xv m ρ c) ∗ whole c cc0_stg1_0 (wv m ρ c) ∗ whole c cc0_scratch1 (xbv m ρ c) ∗ whole c cc0_scratch2 (wbv m ρ c) ∗ dead c (srcM 28 c) ∗ dead c (srcM 29 c) ∗ dead c (srcM 30 c) ∗ dead c (srcM 31 c)) ⊢ Q ⟨⟩) :
    iprop(Net m ρ c 26 24 23 ∗ whole c cc0_stg0_0 (xv m ρ c) ∗ whole c cc0_stg1_0 (wv m ρ c) ∗ whole c cc0_scratch1 (xbv m ρ c) ∗ whole c cc0_scratch2 (wbv m ρ c) ∗ holds c (dstM 22 c) (V m ρ 22 (src 22 c)) ∗ dead c (srcM 28 c) ∗ dead c (srcM 29 c) ∗ dead c (srcM 30 c) ∗ dead c (srcM 31 c))
      ⊢ wp frame (wpE (defs₀ (F := F)) 𝒱₀ (c : Thread nD τ) none) Set.univ (k0_part45 xM (Memref.isWhole_whole _) wM (Memref.isWhole_whole _) oM (Memref.isWhole_whole _) comM (Memref.isWhole_whole _) xbM (Memref.isWhole_whole _) wbM (Memref.isWhole_whole _) cc0_scratch3 c v7 (k0_pay36 (castU (V m ρ 22 (src 22 c)))) (k0_pay37 (xrow m ρ c (chS 26 c)) (wcol m ρ c (qn 22)))) Q := by
  rw [k0_part45_eq_skeleton]; unfold k0_part45_skel
  simp only [Prog.lift, Prog.bind_op, Prog.bind_ret, Prog.pure_eq_ret]
  iintro ⟨HN, HX, HW, HXb, HWb, H22, O28, O29, O30, O31⟩
  iapply (load_slot c 1 0 (M := dstM 22 c) (v := V m ρ 22 (src 22 c)) rfl (off := ![1, 0, 0, 0]) rfl) $$ H22; iintro H22
  iapply (store_over c 1 0 (M := dstM 22 c) (M₁ := srcM 26 c) (u := V m ρ 22 (src 22 c)) (v := V m ρ 26 c) rfl rfl (off := ![1, 0, 0, 0]) rfl ((k0_pay38 (k0_pay36 (castU (V m ρ 22 (src 22 c)))) (k0_pay37 (xrow m ρ c (chS 26 c)) (wcol m ρ c (qn 22))))) (V_acc m ρ 22 (by decide) c).symm) $$ H22; iintro H26
  iapply (step_waitS m ρ c (A := 26) (B := 24) (R := 23) (by decide) (by decide) (by decide) (rfl : _ = sendS 24)) $$ HN; iintro HN
  iapply (step_start m ρ c (A := 26) (B := 25) (R := 23) (by decide) (by decide) (by decide) (by decide) (by decide) (e₁ := rfl) (e₂ := rfl)
      (show (⟨k0_dev29 c, k0_dev29_lt c⟩ : Dev nD) = dst 26 c from Fin.ext (k0_dev29_eq c)) (rfl : _ = sendS 26) (rfl : _ = recvS 26)) $$ [HN H26]
  · isplitl [HN]; · iexact HN
    iexact H26
  iintro HN
  rw [wp_ret]; imodintro; iapply (hQ)
  isplitl [HN]; · iexact HN
  isplitl [HX]; · iexact HX
  isplitl [HW]; · iexact HW
  isplitl [HXb]; · iexact HXb
  isplitl [HWb]; · iexact HWb
  isplitl [O28]; · iexact O28
  isplitl [O29]; · iexact O29
  isplitl [O30]; · iexact O30
  iexact O31

theorem part46 (c : Dev nD) (v5 : BitVec 32) (v900 : BitVec 32) {Q : (PUnit) → sProp 𝕄}
    (hQ : iprop(Net m ρ c 27 25 24 ∗ whole c cc0_stg0_0 (xv m ρ c) ∗ whole c cc0_stg1_0 (wv m ρ c) ∗ whole c cc0_scratch1 (xbv m ρ c) ∗ whole c cc0_scratch2 (wbv m ρ c) ∗ holds c (srcM 27 c) (V m ρ 27 c) ∗ dead c (srcM 28 c) ∗ dead c (srcM 29 c) ∗ dead c (srcM 30 c) ∗ dead c (srcM 31 c)) ⊢ Q ⟨⟩) :
    iprop(Net m ρ c 27 25 23 ∗ whole c cc0_stg0_0 (xv m ρ c) ∗ whole c cc0_stg1_0 (wv m ρ c) ∗ whole c cc0_scratch1 (xbv m ρ c) ∗ whole c cc0_scratch2 (wbv m ρ c) ∗ dead c (srcM 28 c) ∗ dead c (srcM 29 c) ∗ dead c (srcM 30 c) ∗ dead c (srcM 31 c))
      ⊢ wp frame (wpE (defs₀ (F := F)) 𝒱₀ (c : Thread nD τ) none) Set.univ (k0_part46 xM (Memref.isWhole_whole _) wM (Memref.isWhole_whole _) oM (Memref.isWhole_whole _) comM (Memref.isWhole_whole _) xbM (Memref.isWhole_whole _) wbM (Memref.isWhole_whole _) cc0_scratch3 c v5 v900) Q := by
  rw [k0_part46_eq_skeleton]; unfold k0_part46_skel
  simp only [Prog.lift, Prog.bind_op, Prog.bind_ret, Prog.pure_eq_ret]
  iintro ⟨HN, HX, HW, HXb, HWb, O28, O29, O30, O31⟩
  iapply (step_waitR m ρ c (A := 27) (B := 25) (R := 23) (by decide) (by decide) (by decide) (rfl : _ = recvS 23)) $$ HN; iintro ⟨HN, H23⟩
  iapply (load_slot c 3 0 (M := dstM 23 c) (v := V m ρ 23 (src 23 c)) rfl (off := ![3, 0, 0, 0]) rfl) $$ H23; iintro H23
  iapply (load_row m ρ c (chS 27 c) (show k0_off3 c 5#32 = ![512 * (chS 27 c).val, 0] from off3_at c 5 27 rfl (by decide))) $$ HXb; iintro HXb
  iapply (load_col m ρ c (qn 23) (off := ![0, 1536]) rfl) $$ HWb; iintro HWb
  iapply (load_slot c 3 0 (M := dstM 23 c) (v := V m ρ 23 (src 23 c)) rfl (off := ![3, 0, 0, 0]) rfl) $$ H23; iintro H23
  iapply (store_over c 3 0 (M := dstM 23 c) (M₁ := srcM 27 c) (u := V m ρ 23 (src 23 c)) (v := V m ρ 27 c) rfl rfl (off := ![3, 0, 0, 0]) rfl ((k0_pay39 (castU (V m ρ 23 (src 23 c))) (xrow m ρ c (chS 27 c)) (wcol m ρ c (qn 23)))) (V_acc m ρ 23 (by decide) c).symm) $$ H23; iintro H27
  rw [wp_ret]; imodintro; iapply (hQ)
  isplitl [HN]; · iexact HN
  isplitl [HX]; · iexact HX
  isplitl [HW]; · iexact HW
  isplitl [HXb]; · iexact HXb
  isplitl [HWb]; · iexact HWb
  isplitl [H27]; · iexact H27
  isplitl [O28]; · iexact O28
  isplitl [O29]; · iexact O29
  isplitl [O30]; · iexact O30
  iexact O31

theorem part47 (c : Dev nD) (v2 : BitVec 32) (v5 : BitVec 32) {Q : (Σ' (v1052 : BitVec 32), BitVec 32) → sProp 𝕄}
    (hQ : ∀ w0 w1 : BitVec 32, iprop(Net m ρ c 28 26 24 ∗ whole c cc0_stg0_0 (xv m ρ c) ∗ whole c cc0_stg1_0 (wv m ρ c) ∗ whole c cc0_scratch1 (xbv m ρ c) ∗ whole c cc0_scratch2 (wbv m ρ c) ∗ dead c (srcM 28 c) ∗ dead c (srcM 29 c) ∗ dead c (srcM 30 c) ∗ dead c (srcM 31 c)) ⊢ Q ⟨w0, w1⟩) :
    iprop(Net m ρ c 27 25 24 ∗ whole c cc0_stg0_0 (xv m ρ c) ∗ whole c cc0_stg1_0 (wv m ρ c) ∗ whole c cc0_scratch1 (xbv m ρ c) ∗ whole c cc0_scratch2 (wbv m ρ c) ∗ holds c (srcM 27 c) (V m ρ 27 c) ∗ dead c (srcM 28 c) ∗ dead c (srcM 29 c) ∗ dead c (srcM 30 c) ∗ dead c (srcM 31 c))
      ⊢ wp frame (wpE (defs₀ (F := F)) 𝒱₀ (c : Thread nD τ) none) Set.univ (k0_part47 xM (Memref.isWhole_whole _) wM (Memref.isWhole_whole _) oM (Memref.isWhole_whole _) comM (Memref.isWhole_whole _) xbM (Memref.isWhole_whole _) wbM (Memref.isWhole_whole _) cc0_scratch3 c v2 v5) Q := by
  rw [k0_part47_eq_skeleton]; unfold k0_part47_skel
  simp only [Prog.lift, Prog.bind_op, Prog.bind_ret, Prog.pure_eq_ret]
  iintro ⟨HN, HX, HW, HXb, HWb, H27, O28, O29, O30, O31⟩
  iapply (step_waitS m ρ c (A := 27) (B := 25) (R := 24) (by decide) (by decide) (by decide) (rfl : _ = sendS 25)) $$ HN; iintro HN
  iapply (step_start m ρ c (A := 27) (B := 26) (R := 24) (by decide) (by decide) (by decide) (by decide) (by decide) (e₁ := rfl) (e₂ := rfl)
      (show (⟨k0_dev30 c, k0_dev30_lt c⟩ : Dev nD) = dst 27 c from Fin.ext (k0_dev30_eq c)) (rfl : _ = sendS 27) (rfl : _ = recvS 27)) $$ [HN H27]
  · isplitl [HN]; · iexact HN
    iexact H27
  iintro HN
  rw [wp_ret]; imodintro; iapply (hQ _ _)
  isplitl [HN]; · iexact HN
  isplitl [HX]; · iexact HX
  isplitl [HW]; · iexact HW
  isplitl [HXb]; · iexact HXb
  isplitl [HWb]; · iexact HWb
  isplitl [O28]; · iexact O28
  isplitl [O29]; · iexact O29
  isplitl [O30]; · iexact O30
  iexact O31

theorem part48 (c : Dev nD) (v5 : BitVec 32) (v7 : BitVec 32) (v1052 : BitVec 32) {Q : (PUnit) → sProp 𝕄}
    (hQ : iprop(Net m ρ c 28 26 25 ∗ whole c cc0_stg0_0 (xv m ρ c) ∗ whole c cc0_stg1_0 (wv m ρ c) ∗ whole c cc0_scratch1 (xbv m ρ c) ∗ whole c cc0_scratch2 (wbv m ρ c) ∗ holds c (dstM 24 c) (Y m ρ 24 c) ∗ dead c (srcM 28 c) ∗ dead c (srcM 29 c) ∗ dead c (srcM 30 c) ∗ dead c (srcM 31 c)) ⊢ Q ⟨⟩) :
    iprop(Net m ρ c 28 26 24 ∗ whole c cc0_stg0_0 (xv m ρ c) ∗ whole c cc0_stg1_0 (wv m ρ c) ∗ whole c cc0_scratch1 (xbv m ρ c) ∗ whole c cc0_scratch2 (wbv m ρ c) ∗ dead c (srcM 28 c) ∗ dead c (srcM 29 c) ∗ dead c (srcM 30 c) ∗ dead c (srcM 31 c))
      ⊢ wp frame (wpE (defs₀ (F := F)) 𝒱₀ (c : Thread nD τ) none) Set.univ (k0_part48 xM (Memref.isWhole_whole _) wM (Memref.isWhole_whole _) oM (Memref.isWhole_whole _) comM (Memref.isWhole_whole _) xbM (Memref.isWhole_whole _) wbM (Memref.isWhole_whole _) cc0_scratch3 c v5 v7 v1052) Q := by
  rw [k0_part48_eq_skeleton]; unfold k0_part48_skel
  simp only [Prog.lift, Prog.bind_op, Prog.bind_ret, Prog.pure_eq_ret]
  iintro ⟨HN, HX, HW, HXb, HWb, O28, O29, O30, O31⟩
  iapply (step_waitR m ρ c (A := 28) (B := 26) (R := 24) (by decide) (by decide) (by decide) (rfl : _ = recvS 24)) $$ HN; iintro ⟨HN, H24⟩
  iapply (load_slot c 0 1 (M := dstM 24 c) (v := V m ρ 24 (src 24 c)) rfl (off := ![0, 1, 0, 0]) rfl) $$ H24; iintro H24
  iapply (load_row m ρ c (chS 28 c) (show k0_off2 c 6#32 = ![512 * (chS 28 c).val, 0] from off2_at c 6 28 rfl rfl)) $$ HXb; iintro HXb
  iapply (load_col m ρ c (qn 24) (off := ![0, 0]) rfl) $$ HWb; iintro HWb
  iapply (load_slot c 0 1 (M := dstM 24 c) (v := V m ρ 24 (src 24 c)) rfl (off := ![0, 1, 0, 0]) rfl) $$ H24; iintro H24
  iapply (store_over c 0 1 (M := dstM 24 c) (M₁ := dstM 24 c) (u := V m ρ 24 (src 24 c)) (v := Y m ρ 24 c) rfl rfl (off := ![0, 1, 0, 0]) rfl ((k0_pay40 (castU (V m ρ 24 (src 24 c))) (xrow m ρ c (chS 28 c)) (wcol m ρ c (qn 24)))) rfl) $$ H24; iintro H24
  rw [wp_ret]; imodintro; iapply (hQ)
  isplitl [HN]; · iexact HN
  isplitl [HX]; · iexact HX
  isplitl [HW]; · iexact HW
  isplitl [HXb]; · iexact HXb
  isplitl [HWb]; · iexact HWb
  isplitl [H24]; · iexact H24
  isplitl [O28]; · iexact O28
  isplitl [O29]; · iexact O29
  isplitl [O30]; · iexact O30
  iexact O31

theorem part49 (c : Dev nD) (v7 : BitVec 32) (v1055 : BitVec 32) {Q : (PUnit) → sProp 𝕄}
    (hQ : iprop(Net m ρ c 28 26 26 ∗ whole c cc0_stg0_0 (xv m ρ c) ∗ whole c cc0_stg1_0 (wv m ρ c) ∗ whole c cc0_scratch1 (xbv m ρ c) ∗ whole c cc0_scratch2 (wbv m ρ c) ∗ holds c (dstM 24 c) (Y m ρ 24 c) ∗ holds c (dstM 25 c) (Y m ρ 25 c) ∗ dead c (srcM 28 c) ∗ dead c (srcM 29 c) ∗ dead c (srcM 30 c) ∗ dead c (srcM 31 c)) ⊢ Q ⟨⟩) :
    iprop(Net m ρ c 28 26 25 ∗ whole c cc0_stg0_0 (xv m ρ c) ∗ whole c cc0_stg1_0 (wv m ρ c) ∗ whole c cc0_scratch1 (xbv m ρ c) ∗ whole c cc0_scratch2 (wbv m ρ c) ∗ holds c (dstM 24 c) (Y m ρ 24 c) ∗ dead c (srcM 28 c) ∗ dead c (srcM 29 c) ∗ dead c (srcM 30 c) ∗ dead c (srcM 31 c))
      ⊢ wp frame (wpE (defs₀ (F := F)) 𝒱₀ (c : Thread nD τ) none) Set.univ (k0_part49 xM (Memref.isWhole_whole _) wM (Memref.isWhole_whole _) oM (Memref.isWhole_whole _) comM (Memref.isWhole_whole _) xbM (Memref.isWhole_whole _) wbM (Memref.isWhole_whole _) cc0_scratch3 c v7 v1055) Q := by
  rw [k0_part49_eq_skeleton]; unfold k0_part49_skel
  simp only [Prog.lift, Prog.bind_op, Prog.bind_ret, Prog.pure_eq_ret]
  iintro ⟨HN, HX, HW, HXb, HWb, H24, O28, O29, O30, O31⟩
  iapply (step_waitR m ρ c (A := 28) (B := 26) (R := 25) (by decide) (by decide) (by decide) (rfl : _ = recvS 25)) $$ HN; iintro ⟨HN, H25⟩
  iapply (load_slot c 2 1 (M := dstM 25 c) (v := V m ρ 25 (src 25 c)) rfl (off := ![2, 1, 0, 0]) rfl) $$ H25; iintro H25
  iapply (load_row m ρ c (chS 29 c) (show k0_off3 c 6#32 = ![512 * (chS 29 c).val, 0] from off3_at c 6 29 rfl (by decide))) $$ HXb; iintro HXb
  iapply (load_col m ρ c (qn 25) (off := ![0, 1024]) rfl) $$ HWb; iintro HWb
  iapply (load_slot c 2 1 (M := dstM 25 c) (v := V m ρ 25 (src 25 c)) rfl (off := ![2, 1, 0, 0]) rfl) $$ H25; iintro H25
  iapply (store_over c 2 1 (M := dstM 25 c) (M₁ := dstM 25 c) (u := V m ρ 25 (src 25 c)) (v := Y m ρ 25 c) rfl rfl (off := ![2, 1, 0, 0]) rfl ((k0_pay41 (castU (V m ρ 25 (src 25 c))) (xrow m ρ c (chS 29 c)) (wcol m ρ c (qn 25)))) rfl) $$ H25; iintro H25
  rw [wp_ret]; imodintro; iapply (hQ)
  isplitl [HN]; · iexact HN
  isplitl [HX]; · iexact HX
  isplitl [HW]; · iexact HW
  isplitl [HXb]; · iexact HXb
  isplitl [HWb]; · iexact HWb
  isplitl [H24]; · iexact H24
  isplitl [H25]; · iexact H25
  isplitl [O28]; · iexact O28
  isplitl [O29]; · iexact O29
  isplitl [O30]; · iexact O30
  iexact O31

theorem part50 (c : Dev nD) (v5 : BitVec 32) (v1052 : BitVec 32) {Q : (Vec F S1x1x512x512 .bf16) → sProp 𝕄}
    (hQ : iprop(Net m ρ c 28 26 28 ∗ whole c cc0_stg0_0 (xv m ρ c) ∗ whole c cc0_stg1_0 (wv m ρ c) ∗ whole c cc0_scratch1 (xbv m ρ c) ∗ whole c cc0_scratch2 (wbv m ρ c) ∗ holds c (dstM 24 c) (Y m ρ 24 c) ∗ holds c (dstM 25 c) (Y m ρ 25 c) ∗ holds c (dstM 26 c) (Y m ρ 26 c) ∗ holds c (dstM 27 c) (V m ρ 27 (src 27 c)) ∗ dead c (srcM 28 c) ∗ dead c (srcM 29 c) ∗ dead c (srcM 30 c) ∗ dead c (srcM 31 c)) ⊢ Q ((castU (V m ρ 27 (src 27 c))))) :
    iprop(Net m ρ c 28 26 26 ∗ whole c cc0_stg0_0 (xv m ρ c) ∗ whole c cc0_stg1_0 (wv m ρ c) ∗ whole c cc0_scratch1 (xbv m ρ c) ∗ whole c cc0_scratch2 (wbv m ρ c) ∗ holds c (dstM 24 c) (Y m ρ 24 c) ∗ holds c (dstM 25 c) (Y m ρ 25 c) ∗ dead c (srcM 28 c) ∗ dead c (srcM 29 c) ∗ dead c (srcM 30 c) ∗ dead c (srcM 31 c))
      ⊢ wp frame (wpE (defs₀ (F := F)) 𝒱₀ (c : Thread nD τ) none) Set.univ (k0_part50 xM (Memref.isWhole_whole _) wM (Memref.isWhole_whole _) oM (Memref.isWhole_whole _) comM (Memref.isWhole_whole _) xbM (Memref.isWhole_whole _) wbM (Memref.isWhole_whole _) cc0_scratch3 c v5 v1052) Q := by
  rw [k0_part50_eq_skeleton]; unfold k0_part50_skel
  simp only [Prog.lift, Prog.bind_op, Prog.bind_ret, Prog.pure_eq_ret]
  iintro ⟨HN, HX, HW, HXb, HWb, H24, H25, O28, O29, O30, O31⟩
  iapply (step_waitR m ρ c (A := 28) (B := 26) (R := 26) (by decide) (by decide) (by decide) (rfl : _ = recvS 26)) $$ HN; iintro ⟨HN, H26⟩
  iapply (load_slot c 1 1 (M := dstM 26 c) (v := V m ρ 26 (src 26 c)) rfl (off := ![1, 1, 0, 0]) rfl) $$ H26; iintro H26
  iapply (load_row m ρ c (chS 30 c) (show k0_off2 c 6#32 = ![512 * (chS 30 c).val, 0] from off2_at c 6 30 rfl rfl)) $$ HXb; iintro HXb
  iapply (load_col m ρ c (qn 26) (off := ![0, 512]) rfl) $$ HWb; iintro HWb
  iapply (load_slot c 1 1 (M := dstM 26 c) (v := V m ρ 26 (src 26 c)) rfl (off := ![1, 1, 0, 0]) rfl) $$ H26; iintro H26
  iapply (store_over c 1 1 (M := dstM 26 c) (M₁ := dstM 26 c) (u := V m ρ 26 (src 26 c)) (v := Y m ρ 26 c) rfl rfl (off := ![1, 1, 0, 0]) rfl ((k0_pay42 (castU (V m ρ 26 (src 26 c))) (xrow m ρ c (chS 30 c)) (wcol m ρ c (qn 26)))) rfl) $$ H26; iintro H26
  iapply (step_waitR m ρ c (A := 28) (B := 26) (R := 27) (by decide) (by decide) (by decide) (rfl : _ = recvS 27)) $$ HN; iintro ⟨HN, H27⟩
  iapply (load_slot c 3 1 (M := dstM 27 c) (v := V m ρ 27 (src 27 c)) rfl (off := ![3, 1, 0, 0]) rfl) $$ H27; iintro H27
  rw [wp_ret]; imodintro; iapply (hQ)
  isplitl [HN]; · iexact HN
  isplitl [HX]; · iexact HX
  isplitl [HW]; · iexact HW
  isplitl [HXb]; · iexact HXb
  isplitl [HWb]; · iexact HWb
  isplitl [H24]; · iexact H24
  isplitl [H25]; · iexact H25
  isplitl [H26]; · iexact H26
  isplitl [H27]; · iexact H27
  isplitl [O28]; · iexact O28
  isplitl [O29]; · iexact O29
  isplitl [O30]; · iexact O30
  iexact O31

theorem part51 (c : Dev nD) (v2 : BitVec 32) (v1055 : BitVec 32) {Q : (Σ' (v1141 : BitVec 32) (v1144 : BitVec 32), FVec F S512x512 .bf16) → sProp 𝕄}
    (hQ : ∀ w0 w1 : BitVec 32, iprop(Net m ρ c 28 26 28 ∗ whole c cc0_stg0_0 (xv m ρ c) ∗ whole c cc0_stg1_0 (wv m ρ c) ∗ whole c cc0_scratch1 (xbv m ρ c) ∗ whole c cc0_scratch2 (wbv m ρ c) ∗ holds c (dstM 24 c) (Y m ρ 24 c) ∗ holds c (dstM 25 c) (Y m ρ 25 c) ∗ holds c (dstM 26 c) (Y m ρ 26 c) ∗ holds c (dstM 27 c) (Y m ρ 27 c) ∗ dead c (srcM 28 c) ∗ dead c (srcM 29 c) ∗ dead c (srcM 30 c) ∗ dead c (srcM 31 c)) ⊢ Q ⟨w0, w1, k0_pay44 (castU (Y m ρ 24 c))⟩) :
    iprop(Net m ρ c 28 26 28 ∗ whole c cc0_stg0_0 (xv m ρ c) ∗ whole c cc0_stg1_0 (wv m ρ c) ∗ whole c cc0_scratch1 (xbv m ρ c) ∗ whole c cc0_scratch2 (wbv m ρ c) ∗ holds c (dstM 24 c) (Y m ρ 24 c) ∗ holds c (dstM 25 c) (Y m ρ 25 c) ∗ holds c (dstM 26 c) (Y m ρ 26 c) ∗ holds c (dstM 27 c) (V m ρ 27 (src 27 c)) ∗ dead c (srcM 28 c) ∗ dead c (srcM 29 c) ∗ dead c (srcM 30 c) ∗ dead c (srcM 31 c))
      ⊢ wp frame (wpE (defs₀ (F := F)) 𝒱₀ (c : Thread nD τ) none) Set.univ (k0_part51 xM (Memref.isWhole_whole _) wM (Memref.isWhole_whole _) oM (Memref.isWhole_whole _) comM (Memref.isWhole_whole _) xbM (Memref.isWhole_whole _) wbM (Memref.isWhole_whole _) cc0_scratch3 c v2 v1055 (castU (V m ρ 27 (src 27 c)))) Q := by
  rw [k0_part51_eq_skeleton]; unfold k0_part51_skel
  simp only [Prog.lift, Prog.bind_op, Prog.bind_ret, Prog.pure_eq_ret]
  iintro ⟨HN, HX, HW, HXb, HWb, H24, H25, H26, H27, O28, O29, O30, O31⟩
  iapply (load_row m ρ c (chS 31 c) (show k0_off3 c 6#32 = ![512 * (chS 31 c).val, 0] from off3_at c 6 31 rfl (by decide))) $$ HXb; iintro HXb
  iapply (load_col m ρ c (qn 27) (off := ![0, 1536]) rfl) $$ HWb; iintro HWb
  iapply (load_slot c 3 1 (M := dstM 27 c) (v := V m ρ 27 (src 27 c)) rfl (off := ![3, 1, 0, 0]) rfl) $$ H27; iintro H27
  iapply (store_over c 3 1 (M := dstM 27 c) (M₁ := dstM 27 c) (u := V m ρ 27 (src 27 c)) (v := Y m ρ 27 c) rfl rfl (off := ![3, 1, 0, 0]) rfl ((k0_pay43 (castU (V m ρ 27 (src 27 c))) (xrow m ρ c (chS 31 c)) (wcol m ρ c (qn 27)))) rfl) $$ H27; iintro H27
  iapply (load_slot c 0 1 (M := dstM 24 c) (v := Y m ρ 24 c) rfl (off := ![0, 1, 0, 0]) rfl) $$ H24; iintro H24
  rw [wp_ret]; imodintro; iapply (hQ _ _)
  isplitl [HN]; · iexact HN
  isplitl [HX]; · iexact HX
  isplitl [HW]; · iexact HW
  isplitl [HXb]; · iexact HXb
  isplitl [HWb]; · iexact HWb
  isplitl [H24]; · iexact H24
  isplitl [H25]; · iexact H25
  isplitl [H26]; · iexact H26
  isplitl [H27]; · iexact H27
  isplitl [O28]; · iexact O28
  isplitl [O29]; · iexact O29
  isplitl [O30]; · iexact O30
  iexact O31

theorem part52 (c : Dev nD) (v7 : BitVec 32) (v1141 : BitVec 32) {Q : (Σ' (v1182 : FVec F S512x512 .f32) (v1184 : FVec F S512x512 .f32), FVec F S512x512 .f32) → sProp 𝕄}
    (hQ : iprop(Net m ρ c 29 27 28 ∗ whole c cc0_stg0_0 (xv m ρ c) ∗ whole c cc0_stg1_0 (wv m ρ c) ∗ whole c cc0_scratch1 (xbv m ρ c) ∗ whole c cc0_scratch2 (wbv m ρ c) ∗ holds c (dstM 24 c) (Y m ρ 24 c) ∗ holds c (dstM 25 c) (Y m ρ 25 c) ∗ holds c (dstM 26 c) (Y m ρ 26 c) ∗ holds c (dstM 27 c) (Y m ρ 27 c) ∗ dead c (srcM 29 c) ∗ dead c (srcM 30 c) ∗ dead c (srcM 31 c)) ⊢ Q ⟨k0_pay45 (castU (Y m ρ 25 c)), k0_pay46 (castU (Y m ρ 25 c)), k0_pay47 (castU (Y m ρ 25 c))⟩) :
    iprop(Net m ρ c 28 26 28 ∗ whole c cc0_stg0_0 (xv m ρ c) ∗ whole c cc0_stg1_0 (wv m ρ c) ∗ whole c cc0_scratch1 (xbv m ρ c) ∗ whole c cc0_scratch2 (wbv m ρ c) ∗ holds c (dstM 24 c) (Y m ρ 24 c) ∗ holds c (dstM 25 c) (Y m ρ 25 c) ∗ holds c (dstM 26 c) (Y m ρ 26 c) ∗ holds c (dstM 27 c) (Y m ρ 27 c) ∗ dead c (srcM 28 c) ∗ dead c (srcM 29 c) ∗ dead c (srcM 30 c) ∗ dead c (srcM 31 c))
      ⊢ wp frame (wpE (defs₀ (F := F)) 𝒱₀ (c : Thread nD τ) none) Set.univ (k0_part52 xM (Memref.isWhole_whole _) wM (Memref.isWhole_whole _) oM (Memref.isWhole_whole _) comM (Memref.isWhole_whole _) xbM (Memref.isWhole_whole _) wbM (Memref.isWhole_whole _) cc0_scratch3 c v7 v1141 (k0_pay44 (castU (Y m ρ 24 c)))) Q := by
  rw [k0_part52_eq_skeleton]; unfold k0_part52_skel
  simp only [Prog.lift, Prog.bind_op, Prog.bind_ret, Prog.pure_eq_ret]
  iintro ⟨HN, HX, HW, HXb, HWb, H24, H25, H26, H27, O28, O29, O30, O31⟩
  iapply (peek_out c (chS 28 c) (qn 28) (M := srcM 28 c) rfl ((k0_off4_eq c).trans (right_at c 28 rfl rfl rfl))) $$ O28; iintro %wv1164 O28
  iapply (store_out c (chS 28 c) (qn 28) (M := srcM 28 c) rfl ((k0_off4_eq c).trans (right_at c 28 rfl rfl rfl)) ((k0_pay44 (castU (Y m ρ 24 c)))) (v := V m ρ 28 c) (V_gelu m ρ 24 (by decide) (by decide) c).symm) $$ O28; iintro H28
  iapply (step_waitS m ρ c (A := 28) (B := 26) (R := 28) (by decide) (by decide) (by decide) (rfl : _ = sendS 26)) $$ HN; iintro HN
  iapply (step_start m ρ c (A := 28) (B := 27) (R := 28) (by decide) (by decide) (by decide) (by decide) (by decide) (e₁ := (out_src c 28 (by decide) ((k0_off5_eq c).trans (right_at c 28 rfl rfl rfl)))) (e₂ := (out_dst c 28 (by decide) ((k0_off5_eq c).trans (right_at c 28 rfl rfl rfl))))
      (show (⟨k0_dev31 c, k0_dev31_lt c⟩ : Dev nD) = dst 28 c from Fin.ext (k0_dev31_eq c)) (rfl : _ = sendS 28) (rfl : _ = recvS 28)) $$ [HN H28]
  · isplitl [HN]; · iexact HN
    iexact H28
  iintro HN
  iapply (load_slot c 2 1 (M := dstM 25 c) (v := Y m ρ 25 c) rfl (off := ![2, 1, 0, 0]) rfl) $$ H25; iintro H25
  rw [wp_ret]; imodintro; iapply (hQ)
  isplitl [HN]; · iexact HN
  isplitl [HX]; · iexact HX
  isplitl [HW]; · iexact HW
  isplitl [HXb]; · iexact HXb
  isplitl [HWb]; · iexact HWb
  isplitl [H24]; · iexact H24
  isplitl [H25]; · iexact H25
  isplitl [H26]; · iexact H26
  isplitl [H27]; · iexact H27
  isplitl [O29]; · iexact O29
  isplitl [O30]; · iexact O30
  iexact O31

theorem part53 (c : Dev nD) (v5 : BitVec 32) (v1144 : BitVec 32) {Q : (PUnit) → sProp 𝕄}
    (hQ : iprop(Net m ρ c 30 28 28 ∗ whole c cc0_stg0_0 (xv m ρ c) ∗ whole c cc0_stg1_0 (wv m ρ c) ∗ whole c cc0_scratch1 (xbv m ρ c) ∗ whole c cc0_scratch2 (wbv m ρ c) ∗ holds c (dstM 24 c) (Y m ρ 24 c) ∗ holds c (dstM 25 c) (Y m ρ 25 c) ∗ holds c (dstM 26 c) (Y m ρ 26 c) ∗ holds c (dstM 27 c) (Y m ρ 27 c) ∗ dead c (srcM 30 c) ∗ dead c (srcM 31 c)) ⊢ Q ⟨⟩) :
    iprop(Net m ρ c 29 27 28 ∗ whole c cc0_stg0_0 (xv m ρ c) ∗ whole c cc0_stg1_0 (wv m ρ c) ∗ whole c cc0_scratch1 (xbv m ρ c) ∗ whole c cc0_scratch2 (wbv m ρ c) ∗ holds c (dstM 24 c) (Y m ρ 24 c) ∗ holds c (dstM 25 c) (Y m ρ 25 c) ∗ holds c (dstM 26 c) (Y m ρ 26 c) ∗ holds c (dstM 27 c) (Y m ρ 27 c) ∗ dead c (srcM 29 c) ∗ dead c (srcM 30 c) ∗ dead c (srcM 31 c))
      ⊢ wp frame (wpE (defs₀ (F := F)) 𝒱₀ (c : Thread nD τ) none) Set.univ (k0_part53 xM (Memref.isWhole_whole _) wM (Memref.isWhole_whole _) oM (Memref.isWhole_whole _) comM (Memref.isWhole_whole _) xbM (Memref.isWhole_whole _) wbM (Memref.isWhole_whole _) cc0_scratch3 c v5 v1144 (k0_pay45 (castU (Y m ρ 25 c))) (k0_pay46 (castU (Y m ρ 25 c))) (k0_pay47 (castU (Y m ρ 25 c)))) Q := by
  rw [k0_part53_eq_skeleton]; unfold k0_part53_skel
  simp only [Prog.lift, Prog.bind_op, Prog.bind_ret, Prog.pure_eq_ret]
  iintro ⟨HN, HX, HW, HXb, HWb, H24, H25, H26, H27, O29, O30, O31⟩
  iapply (peek_out c (chS 29 c) (qn 29) (M := srcM 29 c) rfl ((k0_off6_eq c).trans (left_at c 29 rfl (by decide) rfl))) $$ O29; iintro %wv1199 O29
  iapply (store_out c (chS 29 c) (qn 29) (M := srcM 29 c) rfl ((k0_off6_eq c).trans (left_at c 29 rfl (by decide) rfl)) ((k0_pay48 (k0_pay45 (castU (Y m ρ 25 c))) (k0_pay46 (castU (Y m ρ 25 c))) (k0_pay47 (castU (Y m ρ 25 c))))) (v := V m ρ 29 c) (V_gelu m ρ 25 (by decide) (by decide) c).symm) $$ O29; iintro H29
  iapply (step_waitS m ρ c (A := 29) (B := 27) (R := 28) (by decide) (by decide) (by decide) (rfl : _ = sendS 27)) $$ HN; iintro HN
  iapply (step_start m ρ c (A := 29) (B := 28) (R := 28) (by decide) (by decide) (by decide) (by decide) (by decide) (e₁ := (out_src c 29 (by decide) ((k0_off7_eq c).trans (left_at c 29 rfl (by decide) rfl)))) (e₂ := (out_dst c 29 (by decide) ((k0_off7_eq c).trans (left_at c 29 rfl (by decide) rfl))))
      (show (⟨k0_dev32 c, k0_dev32_lt c⟩ : Dev nD) = dst 29 c from Fin.ext (k0_dev32_eq c)) (rfl : _ = sendS 29) (rfl : _ = recvS 29)) $$ [HN H29]
  · isplitl [HN]; · iexact HN
    iexact H29
  iintro HN
  rw [wp_ret]; imodintro; iapply (hQ)
  isplitl [HN]; · iexact HN
  isplitl [HX]; · iexact HX
  isplitl [HW]; · iexact HW
  isplitl [HXb]; · iexact HXb
  isplitl [HWb]; · iexact HWb
  isplitl [H24]; · iexact H24
  isplitl [H25]; · iexact H25
  isplitl [H26]; · iexact H26
  isplitl [H27]; · iexact H27
  isplitl [O30]; · iexact O30
  iexact O31

theorem part54 (c : Dev nD) (v7 : BitVec 32) (v1141 : BitVec 32) {Q : (PUnit) → sProp 𝕄}
    (hQ : iprop(Net m ρ c 30 29 28 ∗ whole c cc0_stg0_0 (xv m ρ c) ∗ whole c cc0_stg1_0 (wv m ρ c) ∗ whole c cc0_scratch1 (xbv m ρ c) ∗ whole c cc0_scratch2 (wbv m ρ c) ∗ holds c (dstM 24 c) (Y m ρ 24 c) ∗ holds c (dstM 25 c) (Y m ρ 25 c) ∗ holds c (dstM 26 c) (Y m ρ 26 c) ∗ holds c (dstM 27 c) (Y m ρ 27 c) ∗ holds c (srcM 30 c) (V m ρ 30 c) ∗ dead c (srcM 31 c)) ⊢ Q ⟨⟩) :
    iprop(Net m ρ c 30 28 28 ∗ whole c cc0_stg0_0 (xv m ρ c) ∗ whole c cc0_stg1_0 (wv m ρ c) ∗ whole c cc0_scratch1 (xbv m ρ c) ∗ whole c cc0_scratch2 (wbv m ρ c) ∗ holds c (dstM 24 c) (Y m ρ 24 c) ∗ holds c (dstM 25 c) (Y m ρ 25 c) ∗ holds c (dstM 26 c) (Y m ρ 26 c) ∗ holds c (dstM 27 c) (Y m ρ 27 c) ∗ dead c (srcM 30 c) ∗ dead c (srcM 31 c))
      ⊢ wp frame (wpE (defs₀ (F := F)) 𝒱₀ (c : Thread nD τ) none) Set.univ (k0_part54 xM (Memref.isWhole_whole _) wM (Memref.isWhole_whole _) oM (Memref.isWhole_whole _) comM (Memref.isWhole_whole _) xbM (Memref.isWhole_whole _) wbM (Memref.isWhole_whole _) cc0_scratch3 c v7 v1141) Q := by
  rw [k0_part54_eq_skeleton]; unfold k0_part54_skel
  simp only [Prog.lift, Prog.bind_op, Prog.bind_ret, Prog.pure_eq_ret]
  iintro ⟨HN, HX, HW, HXb, HWb, H24, H25, H26, H27, O30, O31⟩
  iapply (load_slot c 1 1 (M := dstM 26 c) (v := Y m ρ 26 c) rfl (off := ![1, 1, 0, 0]) rfl) $$ H26; iintro H26
  iapply (peek_out c (chS 30 c) (qn 30) (M := srcM 30 c) rfl ((k0_off8_eq c).trans (right_at c 30 rfl rfl rfl))) $$ O30; iintro %wv1234 O30
  iapply (store_out c (chS 30 c) (qn 30) (M := srcM 30 c) rfl ((k0_off8_eq c).trans (right_at c 30 rfl rfl rfl)) ((k0_pay49 (castU (Y m ρ 26 c)))) (v := V m ρ 30 c) (V_gelu m ρ 26 (by decide) (by decide) c).symm) $$ O30; iintro H30
  iapply (step_waitS m ρ c (A := 30) (B := 28) (R := 28) (by decide) (by decide) (by decide) (rfl : _ = sendS 28)) $$ HN; iintro HN
  rw [wp_ret]; imodintro; iapply (hQ)
  isplitl [HN]; · iexact HN
  isplitl [HX]; · iexact HX
  isplitl [HW]; · iexact HW
  isplitl [HXb]; · iexact HXb
  isplitl [HWb]; · iexact HWb
  isplitl [H24]; · iexact H24
  isplitl [H25]; · iexact H25
  isplitl [H26]; · iexact H26
  isplitl [H27]; · iexact H27
  isplitl [H30]; · iexact H30
  iexact O31

theorem part55 (c : Dev nD) (v1144 : BitVec 32) {Q : (BitVec 32) → sProp 𝕄}
    (hQ : ∀ w0 : BitVec 32, iprop(Net m ρ c 31 30 28 ∗ whole c cc0_stg0_0 (xv m ρ c) ∗ whole c cc0_stg1_0 (wv m ρ c) ∗ whole c cc0_scratch1 (xbv m ρ c) ∗ whole c cc0_scratch2 (wbv m ρ c) ∗ holds c (dstM 24 c) (Y m ρ 24 c) ∗ holds c (dstM 25 c) (Y m ρ 25 c) ∗ holds c (dstM 26 c) (Y m ρ 26 c) ∗ holds c (dstM 27 c) (Y m ρ 27 c) ∗ holds c (srcM 31 c) (V m ρ 31 c)) ⊢ Q w0) :
    iprop(Net m ρ c 30 29 28 ∗ whole c cc0_stg0_0 (xv m ρ c) ∗ whole c cc0_stg1_0 (wv m ρ c) ∗ whole c cc0_scratch1 (xbv m ρ c) ∗ whole c cc0_scratch2 (wbv m ρ c) ∗ holds c (dstM 24 c) (Y m ρ 24 c) ∗ holds c (dstM 25 c) (Y m ρ 25 c) ∗ holds c (dstM 26 c) (Y m ρ 26 c) ∗ holds c (dstM 27 c) (Y m ρ 27 c) ∗ holds c (srcM 30 c) (V m ρ 30 c) ∗ dead c (srcM 31 c))
      ⊢ wp frame (wpE (defs₀ (F := F)) 𝒱₀ (c : Thread nD τ) none) Set.univ (k0_part55 xM (Memref.isWhole_whole _) wM (Memref.isWhole_whole _) oM (Memref.isWhole_whole _) comM (Memref.isWhole_whole _) xbM (Memref.isWhole_whole _) wbM (Memref.isWhole_whole _) cc0_scratch3 c v1144) Q := by
  rw [k0_part55_eq_skeleton]; unfold k0_part55_skel
  simp only [Prog.lift, Prog.bind_op, Prog.bind_ret, Prog.pure_eq_ret]
  iintro ⟨HN, HX, HW, HXb, HWb, H24, H25, H26, H27, H30, O31⟩
  iapply (step_start m ρ c (A := 30) (B := 29) (R := 28) (by decide) (by decide) (by decide) (by decide) (by decide) (e₁ := (out_src c 30 (by decide) ((k0_off9_eq c).trans (right_at c 30 rfl rfl rfl)))) (e₂ := (out_dst c 30 (by decide) ((k0_off9_eq c).trans (right_at c 30 rfl rfl rfl))))
      (show (⟨k0_dev33 c, k0_dev33_lt c⟩ : Dev nD) = dst 30 c from Fin.ext (k0_dev33_eq c)) (rfl : _ = sendS 30) (rfl : _ = recvS 30)) $$ [HN H30]
  · isplitl [HN]; · iexact HN
    iexact H30
  iintro HN
  iapply (load_slot c 3 1 (M := dstM 27 c) (v := Y m ρ 27 c) rfl (off := ![3, 1, 0, 0]) rfl) $$ H27; iintro H27
  iapply (peek_out c (chS 31 c) (qn 31) (M := srcM 31 c) rfl ((k0_off10_eq c).trans (left_at c 31 rfl (by decide) rfl))) $$ O31; iintro %wv1267 O31
  iapply (store_out c (chS 31 c) (qn 31) (M := srcM 31 c) rfl ((k0_off10_eq c).trans (left_at c 31 rfl (by decide) rfl)) ((k0_pay50 (castU (Y m ρ 27 c)))) (v := V m ρ 31 c) (V_gelu m ρ 27 (by decide) (by decide) c).symm) $$ O31; iintro H31
  iapply (step_waitS m ρ c (A := 31) (B := 29) (R := 28) (by decide) (by decide) (by decide) (rfl : _ = sendS 29)) $$ HN; iintro HN
  rw [wp_ret]; imodintro; iapply (hQ _)
  isplitl [HN]; · iexact HN
  isplitl [HX]; · iexact HX
  isplitl [HW]; · iexact HW
  isplitl [HXb]; · iexact HXb
  isplitl [HWb]; · iexact HWb
  isplitl [H24]; · iexact H24
  isplitl [H25]; · iexact H25
  isplitl [H26]; · iexact H26
  isplitl [H27]; · iexact H27
  iexact H31

end Cert.RingProof

end
-- ==== Proof.Walk4.lean ====
/-
# The walk of the two-way ring's body: parts 56 to 78

Each part of the body takes the device's state before it to the state after it.
-/
module

public import proofs.«01_k».proof.Proof.Mem

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ) (ρ : Dev nD → PrngReg)

theorem part56 (c : Dev nD) (v2 : BitVec 32) (v5 : BitVec 32) (v7 : BitVec 32) (c1_i32_1874 : BitVec 32) {Q : (Σ' (v1283 : BitVec 32), BitVec 32) → sProp 𝕄}
    (hQ : ∀ w0 w1 : BitVec 32, iprop(Net m ρ c 32 31 29 ∗ whole c cc0_stg0_0 (xv m ρ c) ∗ whole c cc0_stg1_0 (wv m ρ c) ∗ whole c cc0_scratch1 (xbv m ρ c) ∗ whole c cc0_scratch2 (wbv m ρ c) ∗ holds c (dstM 24 c) (Y m ρ 24 c) ∗ holds c (dstM 25 c) (Y m ρ 25 c) ∗ holds c (dstM 26 c) (Y m ρ 26 c) ∗ holds c (dstM 27 c) (Y m ρ 27 c) ∗ holds c (srcM 32 c) (V m ρ 32 c)) ⊢ Q ⟨w0, w1⟩) :
    iprop(Net m ρ c 31 30 28 ∗ whole c cc0_stg0_0 (xv m ρ c) ∗ whole c cc0_stg1_0 (wv m ρ c) ∗ whole c cc0_scratch1 (xbv m ρ c) ∗ whole c cc0_scratch2 (wbv m ρ c) ∗ holds c (dstM 24 c) (Y m ρ 24 c) ∗ holds c (dstM 25 c) (Y m ρ 25 c) ∗ holds c (dstM 26 c) (Y m ρ 26 c) ∗ holds c (dstM 27 c) (Y m ρ 27 c) ∗ holds c (srcM 31 c) (V m ρ 31 c))
      ⊢ wp frame (wpE (defs₀ (F := F)) 𝒱₀ (c : Thread nD τ) none) Set.univ (k0_part56 xM (Memref.isWhole_whole _) wM (Memref.isWhole_whole _) oM (Memref.isWhole_whole _) comM (Memref.isWhole_whole _) xbM (Memref.isWhole_whole _) wbM (Memref.isWhole_whole _) cc0_scratch3 c v2 v5 v7 c1_i32_1874) Q := by
  rw [k0_part56_eq_skeleton]; unfold k0_part56_skel
  simp only [Prog.lift, Prog.bind_op, Prog.bind_ret, Prog.pure_eq_ret]
  iintro ⟨HN, HX, HW, HXb, HWb, H24, H25, H26, H27, H31⟩
  iapply (step_start m ρ c (A := 31) (B := 30) (R := 28) (by decide) (by decide) (by decide) (by decide) (by decide) (e₁ := (out_src c 31 (by decide) ((k0_off11_eq c).trans (left_at c 31 rfl (by decide) rfl)))) (e₂ := (out_dst c 31 (by decide) ((k0_off11_eq c).trans (left_at c 31 rfl (by decide) rfl))))
      (show (⟨k0_dev34 c, k0_dev34_lt c⟩ : Dev nD) = dst 31 c from Fin.ext (k0_dev34_eq c)) (rfl : _ = sendS 31) (rfl : _ = recvS 31)) $$ [HN H31]
  · isplitl [HN]; · iexact HN
    iexact H31
  iintro HN
  iapply (step_waitP m ρ c (A := 32) (B := 30) (R := 28) (by decide) (by decide) (by decide) (by decide) (rfl : _ = recvS 28)) $$ HN; iintro ⟨HN, H32⟩
  iapply (step_waitS m ρ c (A := 32) (B := 30) (R := 29) (by decide) (by decide) (by decide) (rfl : _ = sendS 30)) $$ HN; iintro HN
  rw [wp_ret]; imodintro; iapply (hQ _ _)
  isplitl [HN]; · iexact HN
  isplitl [HX]; · iexact HX
  isplitl [HW]; · iexact HW
  isplitl [HXb]; · iexact HXb
  isplitl [HWb]; · iexact HWb
  isplitl [H24]; · iexact H24
  isplitl [H25]; · iexact H25
  isplitl [H26]; · iexact H26
  isplitl [H27]; · iexact H27
  iexact H32

theorem part57 (c : Dev nD) (v5 : BitVec 32) (v7 : BitVec 32) (v1285 : BitVec 32) {Q : (PUnit) → sProp 𝕄}
    (hQ : iprop(Net m ρ c 33 32 30 ∗ whole c cc0_stg0_0 (xv m ρ c) ∗ whole c cc0_stg1_0 (wv m ρ c) ∗ whole c cc0_scratch1 (xbv m ρ c) ∗ whole c cc0_scratch2 (wbv m ρ c) ∗ holds c (dstM 24 c) (Y m ρ 24 c) ∗ holds c (dstM 25 c) (Y m ρ 25 c) ∗ holds c (dstM 26 c) (Y m ρ 26 c) ∗ holds c (dstM 27 c) (Y m ρ 27 c) ∗ holds c (srcM 33 c) (V m ρ 33 c)) ⊢ Q ⟨⟩) :
    iprop(Net m ρ c 32 31 29 ∗ whole c cc0_stg0_0 (xv m ρ c) ∗ whole c cc0_stg1_0 (wv m ρ c) ∗ whole c cc0_scratch1 (xbv m ρ c) ∗ whole c cc0_scratch2 (wbv m ρ c) ∗ holds c (dstM 24 c) (Y m ρ 24 c) ∗ holds c (dstM 25 c) (Y m ρ 25 c) ∗ holds c (dstM 26 c) (Y m ρ 26 c) ∗ holds c (dstM 27 c) (Y m ρ 27 c) ∗ holds c (srcM 32 c) (V m ρ 32 c))
      ⊢ wp frame (wpE (defs₀ (F := F)) 𝒱₀ (c : Thread nD τ) none) Set.univ (k0_part57 xM (Memref.isWhole_whole _) wM (Memref.isWhole_whole _) oM (Memref.isWhole_whole _) comM (Memref.isWhole_whole _) xbM (Memref.isWhole_whole _) wbM (Memref.isWhole_whole _) cc0_scratch3 c v5 v7 v1285) Q := by
  rw [k0_part57_eq_skeleton]; unfold k0_part57_skel
  simp only [Prog.lift, Prog.bind_op, Prog.bind_ret, Prog.pure_eq_ret]
  iintro ⟨HN, HX, HW, HXb, HWb, H24, H25, H26, H27, H32⟩
  iapply (step_start m ρ c (A := 32) (B := 31) (R := 29) (by decide) (by decide) (by decide) (by decide) (by decide) (e₁ := (out_src c 32 (by decide) ((show k0_off12 c 0#32 = ![512 * ((c.val + 16 - 0) % 8), 0] from k0_off12_eq c 0).trans (rightN_at c 0 32 rfl (by decide) rfl rfl)))) (e₂ := (out_dst c 32 (by decide) ((show k0_off12 c 0#32 = ![512 * ((c.val + 16 - 0) % 8), 0] from k0_off12_eq c 0).trans (rightN_at c 0 32 rfl (by decide) rfl rfl))))
      (show (⟨k0_dev35 c, k0_dev35_lt c⟩ : Dev nD) = dst 32 c from Fin.ext (k0_dev35_eq c)) (rfl : _ = sendS 32) (rfl : _ = recvS 32)) $$ [HN H32]
  · isplitl [HN]; · iexact HN
    iexact H32
  iintro HN
  iapply (step_waitP m ρ c (A := 33) (B := 31) (R := 29) (by decide) (by decide) (by decide) (by decide) (rfl : _ = recvS 29)) $$ HN; iintro ⟨HN, H33⟩
  iapply (step_waitS m ρ c (A := 33) (B := 31) (R := 30) (by decide) (by decide) (by decide) (rfl : _ = sendS 31)) $$ HN; iintro HN
  rw [wp_ret]; imodintro; iapply (hQ)
  isplitl [HN]; · iexact HN
  isplitl [HX]; · iexact HX
  isplitl [HW]; · iexact HW
  isplitl [HXb]; · iexact HXb
  isplitl [HWb]; · iexact HWb
  isplitl [H24]; · iexact H24
  isplitl [H25]; · iexact H25
  isplitl [H26]; · iexact H26
  isplitl [H27]; · iexact H27
  iexact H33

theorem part58 (c : Dev nD) (v7 : BitVec 32) (v1283 : BitVec 32) {Q : (PUnit) → sProp 𝕄}
    (hQ : iprop(Net m ρ c 35 33 31 ∗ whole c cc0_stg0_0 (xv m ρ c) ∗ whole c cc0_stg1_0 (wv m ρ c) ∗ whole c cc0_scratch1 (xbv m ρ c) ∗ whole c cc0_scratch2 (wbv m ρ c) ∗ holds c (dstM 24 c) (Y m ρ 24 c) ∗ holds c (dstM 25 c) (Y m ρ 25 c) ∗ holds c (dstM 26 c) (Y m ρ 26 c) ∗ holds c (dstM 27 c) (Y m ρ 27 c)) ⊢ Q ⟨⟩) :
    iprop(Net m ρ c 33 32 30 ∗ whole c cc0_stg0_0 (xv m ρ c) ∗ whole c cc0_stg1_0 (wv m ρ c) ∗ whole c cc0_scratch1 (xbv m ρ c) ∗ whole c cc0_scratch2 (wbv m ρ c) ∗ holds c (dstM 24 c) (Y m ρ 24 c) ∗ holds c (dstM 25 c) (Y m ρ 25 c) ∗ holds c (dstM 26 c) (Y m ρ 26 c) ∗ holds c (dstM 27 c) (Y m ρ 27 c) ∗ holds c (srcM 33 c) (V m ρ 33 c))
      ⊢ wp frame (wpE (defs₀ (F := F)) 𝒱₀ (c : Thread nD τ) none) Set.univ (k0_part58 xM (Memref.isWhole_whole _) wM (Memref.isWhole_whole _) oM (Memref.isWhole_whole _) comM (Memref.isWhole_whole _) xbM (Memref.isWhole_whole _) wbM (Memref.isWhole_whole _) cc0_scratch3 c v7 v1283) Q := by
  rw [k0_part58_eq_skeleton]; unfold k0_part58_skel
  simp only [Prog.lift, Prog.bind_op, Prog.bind_ret, Prog.pure_eq_ret]
  iintro ⟨HN, HX, HW, HXb, HWb, H24, H25, H26, H27, H33⟩
  iapply (step_start m ρ c (A := 33) (B := 32) (R := 30) (by decide) (by decide) (by decide) (by decide) (by decide) (e₁ := (out_src c 33 (by decide) ((show k0_off13 c 0#32 = ![512 * ((c.val + 0) % 8), 1024] from k0_off13_eq c 0).trans (leftN_at c 0 33 rfl (by decide) rfl)))) (e₂ := (out_dst c 33 (by decide) ((show k0_off13 c 0#32 = ![512 * ((c.val + 0) % 8), 1024] from k0_off13_eq c 0).trans (leftN_at c 0 33 rfl (by decide) rfl))))
      (show (⟨k0_dev36 c, k0_dev36_lt c⟩ : Dev nD) = dst 33 c from Fin.ext (k0_dev36_eq c)) (rfl : _ = sendS 33) (rfl : _ = recvS 33)) $$ [HN H33]
  · isplitl [HN]; · iexact HN
    iexact H33
  iintro HN
  iapply (step_waitP m ρ c (A := 34) (B := 32) (R := 30) (by decide) (by decide) (by decide) (by decide) (rfl : _ = recvS 30)) $$ HN; iintro ⟨HN, H34⟩
  iapply (step_waitS m ρ c (A := 34) (B := 32) (R := 31) (by decide) (by decide) (by decide) (rfl : _ = sendS 32)) $$ HN; iintro HN
  iapply (step_start m ρ c (A := 34) (B := 33) (R := 31) (by decide) (by decide) (by decide) (by decide) (by decide) (e₁ := (out_src c 34 (by decide) ((show k0_off14 c 0#32 = ![512 * ((c.val + 16 - 0) % 8), 512] from k0_off14_eq c 0).trans (rightN_at c 0 34 rfl (by decide) rfl rfl)))) (e₂ := (out_dst c 34 (by decide) ((show k0_off14 c 0#32 = ![512 * ((c.val + 16 - 0) % 8), 512] from k0_off14_eq c 0).trans (rightN_at c 0 34 rfl (by decide) rfl rfl))))
      (show (⟨k0_dev37 c, k0_dev37_lt c⟩ : Dev nD) = dst 34 c from Fin.ext (k0_dev37_eq c)) (rfl : _ = sendS 34) (rfl : _ = recvS 34)) $$ [HN H34]
  · isplitl [HN]; · iexact HN
    iexact H34
  iintro HN
  rw [wp_ret]; imodintro; iapply (hQ)
  isplitl [HN]; · iexact HN
  isplitl [HX]; · iexact HX
  isplitl [HW]; · iexact HW
  isplitl [HXb]; · iexact HXb
  isplitl [HWb]; · iexact HWb
  isplitl [H24]; · iexact H24
  isplitl [H25]; · iexact H25
  isplitl [H26]; · iexact H26
  iexact H27

theorem part59 (c : Dev nD) (v2 : BitVec 32) (v5 : BitVec 32) (v1285 : BitVec 32) {Q : (Σ' (v1364 : BitVec 32), BitVec 32) → sProp 𝕄}
    (hQ : ∀ w0 w1 : BitVec 32, iprop(Net m ρ c 36 34 32 ∗ whole c cc0_stg0_0 (xv m ρ c) ∗ whole c cc0_stg1_0 (wv m ρ c) ∗ whole c cc0_scratch1 (xbv m ρ c) ∗ whole c cc0_scratch2 (wbv m ρ c) ∗ holds c (dstM 24 c) (Y m ρ 24 c) ∗ holds c (dstM 25 c) (Y m ρ 25 c) ∗ holds c (dstM 26 c) (Y m ρ 26 c) ∗ holds c (dstM 27 c) (Y m ρ 27 c)) ⊢ Q ⟨w0, w1⟩) :
    iprop(Net m ρ c 35 33 31 ∗ whole c cc0_stg0_0 (xv m ρ c) ∗ whole c cc0_stg1_0 (wv m ρ c) ∗ whole c cc0_scratch1 (xbv m ρ c) ∗ whole c cc0_scratch2 (wbv m ρ c) ∗ holds c (dstM 24 c) (Y m ρ 24 c) ∗ holds c (dstM 25 c) (Y m ρ 25 c) ∗ holds c (dstM 26 c) (Y m ρ 26 c) ∗ holds c (dstM 27 c) (Y m ρ 27 c))
      ⊢ wp frame (wpE (defs₀ (F := F)) 𝒱₀ (c : Thread nD τ) none) Set.univ (k0_part59 xM (Memref.isWhole_whole _) wM (Memref.isWhole_whole _) oM (Memref.isWhole_whole _) comM (Memref.isWhole_whole _) xbM (Memref.isWhole_whole _) wbM (Memref.isWhole_whole _) cc0_scratch3 c v2 v5 v1285) Q := by
  rw [k0_part59_eq_skeleton]; unfold k0_part59_skel
  simp only [Prog.lift, Prog.bind_op, Prog.bind_ret, Prog.pure_eq_ret]
  iintro ⟨HN, HX, HW, HXb, HWb, H24, H25, H26, H27⟩
  iapply (step_waitP m ρ c (A := 35) (B := 33) (R := 31) (by decide) (by decide) (by decide) (by decide) (rfl : _ = recvS 31)) $$ HN; iintro ⟨HN, H35⟩
  iapply (step_waitS m ρ c (A := 35) (B := 33) (R := 32) (by decide) (by decide) (by decide) (rfl : _ = sendS 33)) $$ HN; iintro HN
  iapply (step_start m ρ c (A := 35) (B := 34) (R := 32) (by decide) (by decide) (by decide) (by decide) (by decide) (e₁ := (out_src c 35 (by decide) ((show k0_off15 c 0#32 = ![512 * ((c.val + 0) % 8), 1536] from k0_off15_eq c 0).trans (leftN_at c 0 35 rfl (by decide) rfl)))) (e₂ := (out_dst c 35 (by decide) ((show k0_off15 c 0#32 = ![512 * ((c.val + 0) % 8), 1536] from k0_off15_eq c 0).trans (leftN_at c 0 35 rfl (by decide) rfl))))
      (show (⟨k0_dev38 c, k0_dev38_lt c⟩ : Dev nD) = dst 35 c from Fin.ext (k0_dev38_eq c)) (rfl : _ = sendS 35) (rfl : _ = recvS 35)) $$ [HN H35]
  · isplitl [HN]; · iexact HN
    iexact H35
  iintro HN
  rw [wp_ret]; imodintro; iapply (hQ _ _)
  isplitl [HN]; · iexact HN
  isplitl [HX]; · iexact HX
  isplitl [HW]; · iexact HW
  isplitl [HXb]; · iexact HXb
  isplitl [HWb]; · iexact HWb
  isplitl [H24]; · iexact H24
  isplitl [H25]; · iexact H25
  isplitl [H26]; · iexact H26
  iexact H27

theorem part60 (c : Dev nD) (v5 : BitVec 32) (v7 : BitVec 32) (v1364 : BitVec 32) {Q : (BitVec 32) → sProp 𝕄}
    (hQ : ∀ w0 : BitVec 32, iprop(Net m ρ c 37 35 33 ∗ whole c cc0_stg0_0 (xv m ρ c) ∗ whole c cc0_stg1_0 (wv m ρ c) ∗ whole c cc0_scratch1 (xbv m ρ c) ∗ whole c cc0_scratch2 (wbv m ρ c) ∗ holds c (dstM 24 c) (Y m ρ 24 c) ∗ holds c (dstM 25 c) (Y m ρ 25 c) ∗ holds c (dstM 26 c) (Y m ρ 26 c) ∗ holds c (dstM 27 c) (Y m ρ 27 c)) ⊢ Q w0) :
    iprop(Net m ρ c 36 34 32 ∗ whole c cc0_stg0_0 (xv m ρ c) ∗ whole c cc0_stg1_0 (wv m ρ c) ∗ whole c cc0_scratch1 (xbv m ρ c) ∗ whole c cc0_scratch2 (wbv m ρ c) ∗ holds c (dstM 24 c) (Y m ρ 24 c) ∗ holds c (dstM 25 c) (Y m ρ 25 c) ∗ holds c (dstM 26 c) (Y m ρ 26 c) ∗ holds c (dstM 27 c) (Y m ρ 27 c))
      ⊢ wp frame (wpE (defs₀ (F := F)) 𝒱₀ (c : Thread nD τ) none) Set.univ (k0_part60 xM (Memref.isWhole_whole _) wM (Memref.isWhole_whole _) oM (Memref.isWhole_whole _) comM (Memref.isWhole_whole _) xbM (Memref.isWhole_whole _) wbM (Memref.isWhole_whole _) cc0_scratch3 c v5 v7 v1364) Q := by
  rw [k0_part60_eq_skeleton]; unfold k0_part60_skel
  simp only [Prog.lift, Prog.bind_op, Prog.bind_ret, Prog.pure_eq_ret]
  iintro ⟨HN, HX, HW, HXb, HWb, H24, H25, H26, H27⟩
  iapply (step_waitP m ρ c (A := 36) (B := 34) (R := 32) (by decide) (by decide) (by decide) (by decide) (rfl : _ = recvS 32)) $$ HN; iintro ⟨HN, H36⟩
  iapply (step_waitS m ρ c (A := 36) (B := 34) (R := 33) (by decide) (by decide) (by decide) (rfl : _ = sendS 34)) $$ HN; iintro HN
  iapply (step_start m ρ c (A := 36) (B := 35) (R := 33) (by decide) (by decide) (by decide) (by decide) (by decide) (e₁ := (out_src c 36 (by decide) ((show k0_off12 c 1#32 = ![512 * ((c.val + 16 - 1) % 8), 0] from k0_off12_eq c 1).trans (rightN_at c 1 36 rfl (by decide) rfl rfl)))) (e₂ := (out_dst c 36 (by decide) ((show k0_off12 c 1#32 = ![512 * ((c.val + 16 - 1) % 8), 0] from k0_off12_eq c 1).trans (rightN_at c 1 36 rfl (by decide) rfl rfl))))
      (show (⟨k0_dev39 c, k0_dev39_lt c⟩ : Dev nD) = dst 36 c from Fin.ext (k0_dev39_eq c)) (rfl : _ = sendS 36) (rfl : _ = recvS 36)) $$ [HN H36]
  · isplitl [HN]; · iexact HN
    iexact H36
  iintro HN
  rw [wp_ret]; imodintro; iapply (hQ _)
  isplitl [HN]; · iexact HN
  isplitl [HX]; · iexact HX
  isplitl [HW]; · iexact HW
  isplitl [HXb]; · iexact HXb
  isplitl [HWb]; · iexact HWb
  isplitl [H24]; · iexact H24
  isplitl [H25]; · iexact H25
  isplitl [H26]; · iexact H26
  iexact H27

theorem part61 (c : Dev nD) (v5 : BitVec 32) (v7 : BitVec 32) (v1366 : BitVec 32) (v1386 : BitVec 32) {Q : (PUnit) → sProp 𝕄}
    (hQ : iprop(Net m ρ c 38 36 34 ∗ whole c cc0_stg0_0 (xv m ρ c) ∗ whole c cc0_stg1_0 (wv m ρ c) ∗ whole c cc0_scratch1 (xbv m ρ c) ∗ whole c cc0_scratch2 (wbv m ρ c) ∗ holds c (dstM 24 c) (Y m ρ 24 c) ∗ holds c (dstM 25 c) (Y m ρ 25 c) ∗ holds c (dstM 26 c) (Y m ρ 26 c) ∗ holds c (dstM 27 c) (Y m ρ 27 c)) ⊢ Q ⟨⟩) :
    iprop(Net m ρ c 37 35 33 ∗ whole c cc0_stg0_0 (xv m ρ c) ∗ whole c cc0_stg1_0 (wv m ρ c) ∗ whole c cc0_scratch1 (xbv m ρ c) ∗ whole c cc0_scratch2 (wbv m ρ c) ∗ holds c (dstM 24 c) (Y m ρ 24 c) ∗ holds c (dstM 25 c) (Y m ρ 25 c) ∗ holds c (dstM 26 c) (Y m ρ 26 c) ∗ holds c (dstM 27 c) (Y m ρ 27 c))
      ⊢ wp frame (wpE (defs₀ (F := F)) 𝒱₀ (c : Thread nD τ) none) Set.univ (k0_part61 xM (Memref.isWhole_whole _) wM (Memref.isWhole_whole _) oM (Memref.isWhole_whole _) comM (Memref.isWhole_whole _) xbM (Memref.isWhole_whole _) wbM (Memref.isWhole_whole _) cc0_scratch3 c v5 v7 v1366 v1386) Q := by
  rw [k0_part61_eq_skeleton]; unfold k0_part61_skel
  simp only [Prog.lift, Prog.bind_op, Prog.bind_ret, Prog.pure_eq_ret]
  iintro ⟨HN, HX, HW, HXb, HWb, H24, H25, H26, H27⟩
  iapply (step_waitP m ρ c (A := 37) (B := 35) (R := 33) (by decide) (by decide) (by decide) (by decide) (rfl : _ = recvS 33)) $$ HN; iintro ⟨HN, H37⟩
  iapply (step_waitS m ρ c (A := 37) (B := 35) (R := 34) (by decide) (by decide) (by decide) (rfl : _ = sendS 35)) $$ HN; iintro HN
  iapply (step_start m ρ c (A := 37) (B := 36) (R := 34) (by decide) (by decide) (by decide) (by decide) (by decide) (e₁ := (out_src c 37 (by decide) ((show k0_off13 c 1#32 = ![512 * ((c.val + 1) % 8), 1024] from k0_off13_eq c 1).trans (leftN_at c 1 37 rfl (by decide) rfl)))) (e₂ := (out_dst c 37 (by decide) ((show k0_off13 c 1#32 = ![512 * ((c.val + 1) % 8), 1024] from k0_off13_eq c 1).trans (leftN_at c 1 37 rfl (by decide) rfl))))
      (show (⟨k0_dev40 c, k0_dev40_lt c⟩ : Dev nD) = dst 37 c from Fin.ext (k0_dev40_eq c)) (rfl : _ = sendS 37) (rfl : _ = recvS 37)) $$ [HN H37]
  · isplitl [HN]; · iexact HN
    iexact H37
  iintro HN
  rw [wp_ret]; imodintro; iapply (hQ)
  isplitl [HN]; · iexact HN
  isplitl [HX]; · iexact HX
  isplitl [HW]; · iexact HW
  isplitl [HXb]; · iexact HXb
  isplitl [HWb]; · iexact HWb
  isplitl [H24]; · iexact H24
  isplitl [H25]; · iexact H25
  isplitl [H26]; · iexact H26
  iexact H27

theorem part62 (c : Dev nD) (v5 : BitVec 32) (v7 : BitVec 32) (v1364 : BitVec 32) (v1366 : BitVec 32) {Q : (PUnit) → sProp 𝕄}
    (hQ : iprop(Net m ρ c 39 37 36 ∗ whole c cc0_stg0_0 (xv m ρ c) ∗ whole c cc0_stg1_0 (wv m ρ c) ∗ whole c cc0_scratch1 (xbv m ρ c) ∗ whole c cc0_scratch2 (wbv m ρ c) ∗ holds c (dstM 24 c) (Y m ρ 24 c) ∗ holds c (dstM 25 c) (Y m ρ 25 c) ∗ holds c (dstM 26 c) (Y m ρ 26 c) ∗ holds c (dstM 27 c) (Y m ρ 27 c) ∗ holds c (srcM 39 c) (V m ρ 39 c)) ⊢ Q ⟨⟩) :
    iprop(Net m ρ c 38 36 34 ∗ whole c cc0_stg0_0 (xv m ρ c) ∗ whole c cc0_stg1_0 (wv m ρ c) ∗ whole c cc0_scratch1 (xbv m ρ c) ∗ whole c cc0_scratch2 (wbv m ρ c) ∗ holds c (dstM 24 c) (Y m ρ 24 c) ∗ holds c (dstM 25 c) (Y m ρ 25 c) ∗ holds c (dstM 26 c) (Y m ρ 26 c) ∗ holds c (dstM 27 c) (Y m ρ 27 c))
      ⊢ wp frame (wpE (defs₀ (F := F)) 𝒱₀ (c : Thread nD τ) none) Set.univ (k0_part62 xM (Memref.isWhole_whole _) wM (Memref.isWhole_whole _) oM (Memref.isWhole_whole _) comM (Memref.isWhole_whole _) xbM (Memref.isWhole_whole _) wbM (Memref.isWhole_whole _) cc0_scratch3 c v5 v7 v1364 v1366) Q := by
  rw [k0_part62_eq_skeleton]; unfold k0_part62_skel
  simp only [Prog.lift, Prog.bind_op, Prog.bind_ret, Prog.pure_eq_ret]
  iintro ⟨HN, HX, HW, HXb, HWb, H24, H25, H26, H27⟩
  iapply (step_waitP m ρ c (A := 38) (B := 36) (R := 34) (by decide) (by decide) (by decide) (by decide) (rfl : _ = recvS 34)) $$ HN; iintro ⟨HN, H38⟩
  iapply (step_waitS m ρ c (A := 38) (B := 36) (R := 35) (by decide) (by decide) (by decide) (rfl : _ = sendS 36)) $$ HN; iintro HN
  iapply (step_start m ρ c (A := 38) (B := 37) (R := 35) (by decide) (by decide) (by decide) (by decide) (by decide) (e₁ := (out_src c 38 (by decide) ((show k0_off14 c 1#32 = ![512 * ((c.val + 16 - 1) % 8), 512] from k0_off14_eq c 1).trans (rightN_at c 1 38 rfl (by decide) rfl rfl)))) (e₂ := (out_dst c 38 (by decide) ((show k0_off14 c 1#32 = ![512 * ((c.val + 16 - 1) % 8), 512] from k0_off14_eq c 1).trans (rightN_at c 1 38 rfl (by decide) rfl rfl))))
      (show (⟨k0_dev41 c, k0_dev41_lt c⟩ : Dev nD) = dst 38 c from Fin.ext (k0_dev41_eq c)) (rfl : _ = sendS 38) (rfl : _ = recvS 38)) $$ [HN H38]
  · isplitl [HN]; · iexact HN
    iexact H38
  iintro HN
  iapply (step_waitP m ρ c (A := 39) (B := 37) (R := 35) (by decide) (by decide) (by decide) (by decide) (rfl : _ = recvS 35)) $$ HN; iintro ⟨HN, H39⟩
  rw [wp_ret]; imodintro; iapply (hQ)
  isplitl [HN]; · iexact HN
  isplitl [HX]; · iexact HX
  isplitl [HW]; · iexact HW
  isplitl [HXb]; · iexact HXb
  isplitl [HWb]; · iexact HWb
  isplitl [H24]; · iexact H24
  isplitl [H25]; · iexact H25
  isplitl [H26]; · iexact H26
  isplitl [H27]; · iexact H27
  iexact H39

theorem part63 (c : Dev nD) (v2 : BitVec 32) (v5 : BitVec 32) (v7 : BitVec 32) {Q : (Σ' (v1445 : BitVec 32), BitVec 32) → sProp 𝕄}
    (hQ : ∀ w0 w1 : BitVec 32, iprop(Net m ρ c 40 38 37 ∗ whole c cc0_stg0_0 (xv m ρ c) ∗ whole c cc0_stg1_0 (wv m ρ c) ∗ whole c cc0_scratch1 (xbv m ρ c) ∗ whole c cc0_scratch2 (wbv m ρ c) ∗ holds c (dstM 24 c) (Y m ρ 24 c) ∗ holds c (dstM 25 c) (Y m ρ 25 c) ∗ holds c (dstM 26 c) (Y m ρ 26 c) ∗ holds c (dstM 27 c) (Y m ρ 27 c) ∗ holds c (srcM 40 c) (V m ρ 40 c)) ⊢ Q ⟨w0, w1⟩) :
    iprop(Net m ρ c 39 37 36 ∗ whole c cc0_stg0_0 (xv m ρ c) ∗ whole c cc0_stg1_0 (wv m ρ c) ∗ whole c cc0_scratch1 (xbv m ρ c) ∗ whole c cc0_scratch2 (wbv m ρ c) ∗ holds c (dstM 24 c) (Y m ρ 24 c) ∗ holds c (dstM 25 c) (Y m ρ 25 c) ∗ holds c (dstM 26 c) (Y m ρ 26 c) ∗ holds c (dstM 27 c) (Y m ρ 27 c) ∗ holds c (srcM 39 c) (V m ρ 39 c))
      ⊢ wp frame (wpE (defs₀ (F := F)) 𝒱₀ (c : Thread nD τ) none) Set.univ (k0_part63 xM (Memref.isWhole_whole _) wM (Memref.isWhole_whole _) oM (Memref.isWhole_whole _) comM (Memref.isWhole_whole _) xbM (Memref.isWhole_whole _) wbM (Memref.isWhole_whole _) cc0_scratch3 c v2 v5 v7) Q := by
  rw [k0_part63_eq_skeleton]; unfold k0_part63_skel
  simp only [Prog.lift, Prog.bind_op, Prog.bind_ret, Prog.pure_eq_ret]
  iintro ⟨HN, HX, HW, HXb, HWb, H24, H25, H26, H27, H39⟩
  iapply (step_waitS m ρ c (A := 39) (B := 37) (R := 36) (by decide) (by decide) (by decide) (rfl : _ = sendS 37)) $$ HN; iintro HN
  iapply (step_start m ρ c (A := 39) (B := 38) (R := 36) (by decide) (by decide) (by decide) (by decide) (by decide) (e₁ := (out_src c 39 (by decide) ((show k0_off15 c 1#32 = ![512 * ((c.val + 1) % 8), 1536] from k0_off15_eq c 1).trans (leftN_at c 1 39 rfl (by decide) rfl)))) (e₂ := (out_dst c 39 (by decide) ((show k0_off15 c 1#32 = ![512 * ((c.val + 1) % 8), 1536] from k0_off15_eq c 1).trans (leftN_at c 1 39 rfl (by decide) rfl))))
      (show (⟨k0_dev42 c, k0_dev42_lt c⟩ : Dev nD) = dst 39 c from Fin.ext (k0_dev42_eq c)) (rfl : _ = sendS 39) (rfl : _ = recvS 39)) $$ [HN H39]
  · isplitl [HN]; · iexact HN
    iexact H39
  iintro HN
  iapply (step_waitP m ρ c (A := 40) (B := 38) (R := 36) (by decide) (by decide) (by decide) (by decide) (rfl : _ = recvS 36)) $$ HN; iintro ⟨HN, H40⟩
  rw [wp_ret]; imodintro; iapply (hQ _ _)
  isplitl [HN]; · iexact HN
  isplitl [HX]; · iexact HX
  isplitl [HW]; · iexact HW
  isplitl [HXb]; · iexact HXb
  isplitl [HWb]; · iexact HWb
  isplitl [H24]; · iexact H24
  isplitl [H25]; · iexact H25
  isplitl [H26]; · iexact H26
  isplitl [H27]; · iexact H27
  iexact H40

theorem part64 (c : Dev nD) (v5 : BitVec 32) (v7 : BitVec 32) (v1447 : BitVec 32) {Q : (PUnit) → sProp 𝕄}
    (hQ : iprop(Net m ρ c 41 39 38 ∗ whole c cc0_stg0_0 (xv m ρ c) ∗ whole c cc0_stg1_0 (wv m ρ c) ∗ whole c cc0_scratch1 (xbv m ρ c) ∗ whole c cc0_scratch2 (wbv m ρ c) ∗ holds c (dstM 24 c) (Y m ρ 24 c) ∗ holds c (dstM 25 c) (Y m ρ 25 c) ∗ holds c (dstM 26 c) (Y m ρ 26 c) ∗ holds c (dstM 27 c) (Y m ρ 27 c) ∗ holds c (srcM 41 c) (V m ρ 41 c)) ⊢ Q ⟨⟩) :
    iprop(Net m ρ c 40 38 37 ∗ whole c cc0_stg0_0 (xv m ρ c) ∗ whole c cc0_stg1_0 (wv m ρ c) ∗ whole c cc0_scratch1 (xbv m ρ c) ∗ whole c cc0_scratch2 (wbv m ρ c) ∗ holds c (dstM 24 c) (Y m ρ 24 c) ∗ holds c (dstM 25 c) (Y m ρ 25 c) ∗ holds c (dstM 26 c) (Y m ρ 26 c) ∗ holds c (dstM 27 c) (Y m ρ 27 c) ∗ holds c (srcM 40 c) (V m ρ 40 c))
      ⊢ wp frame (wpE (defs₀ (F := F)) 𝒱₀ (c : Thread nD τ) none) Set.univ (k0_part64 xM (Memref.isWhole_whole _) wM (Memref.isWhole_whole _) oM (Memref.isWhole_whole _) comM (Memref.isWhole_whole _) xbM (Memref.isWhole_whole _) wbM (Memref.isWhole_whole _) cc0_scratch3 c v5 v7 v1447) Q := by
  rw [k0_part64_eq_skeleton]; unfold k0_part64_skel
  simp only [Prog.lift, Prog.bind_op, Prog.bind_ret, Prog.pure_eq_ret]
  iintro ⟨HN, HX, HW, HXb, HWb, H24, H25, H26, H27, H40⟩
  iapply (step_waitS m ρ c (A := 40) (B := 38) (R := 37) (by decide) (by decide) (by decide) (rfl : _ = sendS 38)) $$ HN; iintro HN
  iapply (step_start m ρ c (A := 40) (B := 39) (R := 37) (by decide) (by decide) (by decide) (by decide) (by decide) (e₁ := (out_src c 40 (by decide) ((show k0_off12 c 2#32 = ![512 * ((c.val + 16 - 2) % 8), 0] from k0_off12_eq c 2).trans (rightN_at c 2 40 rfl (by decide) rfl rfl)))) (e₂ := (out_dst c 40 (by decide) ((show k0_off12 c 2#32 = ![512 * ((c.val + 16 - 2) % 8), 0] from k0_off12_eq c 2).trans (rightN_at c 2 40 rfl (by decide) rfl rfl))))
      (show (⟨k0_dev43 c, k0_dev43_lt c⟩ : Dev nD) = dst 40 c from Fin.ext (k0_dev43_eq c)) (rfl : _ = sendS 40) (rfl : _ = recvS 40)) $$ [HN H40]
  · isplitl [HN]; · iexact HN
    iexact H40
  iintro HN
  iapply (step_waitP m ρ c (A := 41) (B := 39) (R := 37) (by decide) (by decide) (by decide) (by decide) (rfl : _ = recvS 37)) $$ HN; iintro ⟨HN, H41⟩
  rw [wp_ret]; imodintro; iapply (hQ)
  isplitl [HN]; · iexact HN
  isplitl [HX]; · iexact HX
  isplitl [HW]; · iexact HW
  isplitl [HXb]; · iexact HXb
  isplitl [HWb]; · iexact HWb
  isplitl [H24]; · iexact H24
  isplitl [H25]; · iexact H25
  isplitl [H26]; · iexact H26
  isplitl [H27]; · iexact H27
  iexact H41

theorem part65 (c : Dev nD) (v5 : BitVec 32) (v7 : BitVec 32) (v1445 : BitVec 32) {Q : (PUnit) → sProp 𝕄}
    (hQ : iprop(Net m ρ c 42 41 39 ∗ whole c cc0_stg0_0 (xv m ρ c) ∗ whole c cc0_stg1_0 (wv m ρ c) ∗ whole c cc0_scratch1 (xbv m ρ c) ∗ whole c cc0_scratch2 (wbv m ρ c) ∗ holds c (dstM 24 c) (Y m ρ 24 c) ∗ holds c (dstM 25 c) (Y m ρ 25 c) ∗ holds c (dstM 26 c) (Y m ρ 26 c) ∗ holds c (dstM 27 c) (Y m ρ 27 c) ∗ holds c (srcM 42 c) (V m ρ 42 c)) ⊢ Q ⟨⟩) :
    iprop(Net m ρ c 41 39 38 ∗ whole c cc0_stg0_0 (xv m ρ c) ∗ whole c cc0_stg1_0 (wv m ρ c) ∗ whole c cc0_scratch1 (xbv m ρ c) ∗ whole c cc0_scratch2 (wbv m ρ c) ∗ holds c (dstM 24 c) (Y m ρ 24 c) ∗ holds c (dstM 25 c) (Y m ρ 25 c) ∗ holds c (dstM 26 c) (Y m ρ 26 c) ∗ holds c (dstM 27 c) (Y m ρ 27 c) ∗ holds c (srcM 41 c) (V m ρ 41 c))
      ⊢ wp frame (wpE (defs₀ (F := F)) 𝒱₀ (c : Thread nD τ) none) Set.univ (k0_part65 xM (Memref.isWhole_whole _) wM (Memref.isWhole_whole _) oM (Memref.isWhole_whole _) comM (Memref.isWhole_whole _) xbM (Memref.isWhole_whole _) wbM (Memref.isWhole_whole _) cc0_scratch3 c v5 v7 v1445) Q := by
  rw [k0_part65_eq_skeleton]; unfold k0_part65_skel
  simp only [Prog.lift, Prog.bind_op, Prog.bind_ret, Prog.pure_eq_ret]
  iintro ⟨HN, HX, HW, HXb, HWb, H24, H25, H26, H27, H41⟩
  iapply (step_waitS m ρ c (A := 41) (B := 39) (R := 38) (by decide) (by decide) (by decide) (rfl : _ = sendS 39)) $$ HN; iintro HN
  iapply (step_start m ρ c (A := 41) (B := 40) (R := 38) (by decide) (by decide) (by decide) (by decide) (by decide) (e₁ := (out_src c 41 (by decide) ((show k0_off13 c 2#32 = ![512 * ((c.val + 2) % 8), 1024] from k0_off13_eq c 2).trans (leftN_at c 2 41 rfl (by decide) rfl)))) (e₂ := (out_dst c 41 (by decide) ((show k0_off13 c 2#32 = ![512 * ((c.val + 2) % 8), 1024] from k0_off13_eq c 2).trans (leftN_at c 2 41 rfl (by decide) rfl))))
      (show (⟨k0_dev44 c, k0_dev44_lt c⟩ : Dev nD) = dst 41 c from Fin.ext (k0_dev44_eq c)) (rfl : _ = sendS 41) (rfl : _ = recvS 41)) $$ [HN H41]
  · isplitl [HN]; · iexact HN
    iexact H41
  iintro HN
  iapply (step_waitP m ρ c (A := 42) (B := 40) (R := 38) (by decide) (by decide) (by decide) (by decide) (rfl : _ = recvS 38)) $$ HN; iintro ⟨HN, H42⟩
  iapply (step_waitS m ρ c (A := 42) (B := 40) (R := 39) (by decide) (by decide) (by decide) (rfl : _ = sendS 40)) $$ HN; iintro HN
  rw [wp_ret]; imodintro; iapply (hQ)
  isplitl [HN]; · iexact HN
  isplitl [HX]; · iexact HX
  isplitl [HW]; · iexact HW
  isplitl [HXb]; · iexact HXb
  isplitl [HWb]; · iexact HWb
  isplitl [H24]; · iexact H24
  isplitl [H25]; · iexact H25
  isplitl [H26]; · iexact H26
  isplitl [H27]; · iexact H27
  iexact H42

theorem part66 (c : Dev nD) (v5 : BitVec 32) (v7 : BitVec 32) (v1447 : BitVec 32) {Q : (PUnit) → sProp 𝕄}
    (hQ : iprop(Net m ρ c 43 42 40 ∗ whole c cc0_stg0_0 (xv m ρ c) ∗ whole c cc0_stg1_0 (wv m ρ c) ∗ whole c cc0_scratch1 (xbv m ρ c) ∗ whole c cc0_scratch2 (wbv m ρ c) ∗ holds c (dstM 24 c) (Y m ρ 24 c) ∗ holds c (dstM 25 c) (Y m ρ 25 c) ∗ holds c (dstM 26 c) (Y m ρ 26 c) ∗ holds c (dstM 27 c) (Y m ρ 27 c) ∗ holds c (srcM 43 c) (V m ρ 43 c)) ⊢ Q ⟨⟩) :
    iprop(Net m ρ c 42 41 39 ∗ whole c cc0_stg0_0 (xv m ρ c) ∗ whole c cc0_stg1_0 (wv m ρ c) ∗ whole c cc0_scratch1 (xbv m ρ c) ∗ whole c cc0_scratch2 (wbv m ρ c) ∗ holds c (dstM 24 c) (Y m ρ 24 c) ∗ holds c (dstM 25 c) (Y m ρ 25 c) ∗ holds c (dstM 26 c) (Y m ρ 26 c) ∗ holds c (dstM 27 c) (Y m ρ 27 c) ∗ holds c (srcM 42 c) (V m ρ 42 c))
      ⊢ wp frame (wpE (defs₀ (F := F)) 𝒱₀ (c : Thread nD τ) none) Set.univ (k0_part66 xM (Memref.isWhole_whole _) wM (Memref.isWhole_whole _) oM (Memref.isWhole_whole _) comM (Memref.isWhole_whole _) xbM (Memref.isWhole_whole _) wbM (Memref.isWhole_whole _) cc0_scratch3 c v5 v7 v1447) Q := by
  rw [k0_part66_eq_skeleton]; unfold k0_part66_skel
  simp only [Prog.lift, Prog.bind_op, Prog.bind_ret, Prog.pure_eq_ret]
  iintro ⟨HN, HX, HW, HXb, HWb, H24, H25, H26, H27, H42⟩
  iapply (step_start m ρ c (A := 42) (B := 41) (R := 39) (by decide) (by decide) (by decide) (by decide) (by decide) (e₁ := (out_src c 42 (by decide) ((show k0_off14 c 2#32 = ![512 * ((c.val + 16 - 2) % 8), 512] from k0_off14_eq c 2).trans (rightN_at c 2 42 rfl (by decide) rfl rfl)))) (e₂ := (out_dst c 42 (by decide) ((show k0_off14 c 2#32 = ![512 * ((c.val + 16 - 2) % 8), 512] from k0_off14_eq c 2).trans (rightN_at c 2 42 rfl (by decide) rfl rfl))))
      (show (⟨k0_dev45 c, k0_dev45_lt c⟩ : Dev nD) = dst 42 c from Fin.ext (k0_dev45_eq c)) (rfl : _ = sendS 42) (rfl : _ = recvS 42)) $$ [HN H42]
  · isplitl [HN]; · iexact HN
    iexact H42
  iintro HN
  iapply (step_waitP m ρ c (A := 43) (B := 41) (R := 39) (by decide) (by decide) (by decide) (by decide) (rfl : _ = recvS 39)) $$ HN; iintro ⟨HN, H43⟩
  iapply (step_waitS m ρ c (A := 43) (B := 41) (R := 40) (by decide) (by decide) (by decide) (rfl : _ = sendS 41)) $$ HN; iintro HN
  rw [wp_ret]; imodintro; iapply (hQ)
  isplitl [HN]; · iexact HN
  isplitl [HX]; · iexact HX
  isplitl [HW]; · iexact HW
  isplitl [HXb]; · iexact HXb
  isplitl [HWb]; · iexact HWb
  isplitl [H24]; · iexact H24
  isplitl [H25]; · iexact H25
  isplitl [H26]; · iexact H26
  isplitl [H27]; · iexact H27
  iexact H43

theorem part67 (c : Dev nD) (v2 : BitVec 32) (v7 : BitVec 32) {Q : (Σ' (v1526 : BitVec 32), BitVec 32) → sProp 𝕄}
    (hQ : ∀ w0 w1 : BitVec 32, iprop(Net m ρ c 44 43 41 ∗ whole c cc0_stg0_0 (xv m ρ c) ∗ whole c cc0_stg1_0 (wv m ρ c) ∗ whole c cc0_scratch1 (xbv m ρ c) ∗ whole c cc0_scratch2 (wbv m ρ c) ∗ holds c (dstM 24 c) (Y m ρ 24 c) ∗ holds c (dstM 25 c) (Y m ρ 25 c) ∗ holds c (dstM 26 c) (Y m ρ 26 c) ∗ holds c (dstM 27 c) (Y m ρ 27 c) ∗ holds c (srcM 44 c) (V m ρ 44 c)) ⊢ Q ⟨w0, w1⟩) :
    iprop(Net m ρ c 43 42 40 ∗ whole c cc0_stg0_0 (xv m ρ c) ∗ whole c cc0_stg1_0 (wv m ρ c) ∗ whole c cc0_scratch1 (xbv m ρ c) ∗ whole c cc0_scratch2 (wbv m ρ c) ∗ holds c (dstM 24 c) (Y m ρ 24 c) ∗ holds c (dstM 25 c) (Y m ρ 25 c) ∗ holds c (dstM 26 c) (Y m ρ 26 c) ∗ holds c (dstM 27 c) (Y m ρ 27 c) ∗ holds c (srcM 43 c) (V m ρ 43 c))
      ⊢ wp frame (wpE (defs₀ (F := F)) 𝒱₀ (c : Thread nD τ) none) Set.univ (k0_part67 xM (Memref.isWhole_whole _) wM (Memref.isWhole_whole _) oM (Memref.isWhole_whole _) comM (Memref.isWhole_whole _) xbM (Memref.isWhole_whole _) wbM (Memref.isWhole_whole _) cc0_scratch3 c v2 v7) Q := by
  rw [k0_part67_eq_skeleton]; unfold k0_part67_skel
  simp only [Prog.lift, Prog.bind_op, Prog.bind_ret, Prog.pure_eq_ret]
  iintro ⟨HN, HX, HW, HXb, HWb, H24, H25, H26, H27, H43⟩
  iapply (step_start m ρ c (A := 43) (B := 42) (R := 40) (by decide) (by decide) (by decide) (by decide) (by decide) (e₁ := (out_src c 43 (by decide) ((show k0_off15 c 2#32 = ![512 * ((c.val + 2) % 8), 1536] from k0_off15_eq c 2).trans (leftN_at c 2 43 rfl (by decide) rfl)))) (e₂ := (out_dst c 43 (by decide) ((show k0_off15 c 2#32 = ![512 * ((c.val + 2) % 8), 1536] from k0_off15_eq c 2).trans (leftN_at c 2 43 rfl (by decide) rfl))))
      (show (⟨k0_dev46 c, k0_dev46_lt c⟩ : Dev nD) = dst 43 c from Fin.ext (k0_dev46_eq c)) (rfl : _ = sendS 43) (rfl : _ = recvS 43)) $$ [HN H43]
  · isplitl [HN]; · iexact HN
    iexact H43
  iintro HN
  iapply (step_waitP m ρ c (A := 44) (B := 42) (R := 40) (by decide) (by decide) (by decide) (by decide) (rfl : _ = recvS 40)) $$ HN; iintro ⟨HN, H44⟩
  iapply (step_waitS m ρ c (A := 44) (B := 42) (R := 41) (by decide) (by decide) (by decide) (rfl : _ = sendS 42)) $$ HN; iintro HN
  rw [wp_ret]; imodintro; iapply (hQ _ _)
  isplitl [HN]; · iexact HN
  isplitl [HX]; · iexact HX
  isplitl [HW]; · iexact HW
  isplitl [HXb]; · iexact HXb
  isplitl [HWb]; · iexact HWb
  isplitl [H24]; · iexact H24
  isplitl [H25]; · iexact H25
  isplitl [H26]; · iexact H26
  isplitl [H27]; · iexact H27
  iexact H44

theorem part68 (c : Dev nD) (v5 : BitVec 32) (v1528 : BitVec 32) {Q : (PUnit) → sProp 𝕄}
    (hQ : iprop(Net m ρ c 46 44 42 ∗ whole c cc0_stg0_0 (xv m ρ c) ∗ whole c cc0_stg1_0 (wv m ρ c) ∗ whole c cc0_scratch1 (xbv m ρ c) ∗ whole c cc0_scratch2 (wbv m ρ c) ∗ holds c (dstM 24 c) (Y m ρ 24 c) ∗ holds c (dstM 25 c) (Y m ρ 25 c) ∗ holds c (dstM 26 c) (Y m ρ 26 c) ∗ holds c (dstM 27 c) (Y m ρ 27 c)) ⊢ Q ⟨⟩) :
    iprop(Net m ρ c 44 43 41 ∗ whole c cc0_stg0_0 (xv m ρ c) ∗ whole c cc0_stg1_0 (wv m ρ c) ∗ whole c cc0_scratch1 (xbv m ρ c) ∗ whole c cc0_scratch2 (wbv m ρ c) ∗ holds c (dstM 24 c) (Y m ρ 24 c) ∗ holds c (dstM 25 c) (Y m ρ 25 c) ∗ holds c (dstM 26 c) (Y m ρ 26 c) ∗ holds c (dstM 27 c) (Y m ρ 27 c) ∗ holds c (srcM 44 c) (V m ρ 44 c))
      ⊢ wp frame (wpE (defs₀ (F := F)) 𝒱₀ (c : Thread nD τ) none) Set.univ (k0_part68 xM (Memref.isWhole_whole _) wM (Memref.isWhole_whole _) oM (Memref.isWhole_whole _) comM (Memref.isWhole_whole _) xbM (Memref.isWhole_whole _) wbM (Memref.isWhole_whole _) cc0_scratch3 c v5 v1528) Q := by
  rw [k0_part68_eq_skeleton]; unfold k0_part68_skel
  simp only [Prog.lift, Prog.bind_op, Prog.bind_ret, Prog.pure_eq_ret]
  iintro ⟨HN, HX, HW, HXb, HWb, H24, H25, H26, H27, H44⟩
  iapply (step_start m ρ c (A := 44) (B := 43) (R := 41) (by decide) (by decide) (by decide) (by decide) (by decide) (e₁ := (out_src c 44 (by decide) ((show k0_off12 c 3#32 = ![512 * ((c.val + 16 - 3) % 8), 0] from k0_off12_eq c 3).trans (rightN_at c 3 44 rfl (by decide) rfl rfl)))) (e₂ := (out_dst c 44 (by decide) ((show k0_off12 c 3#32 = ![512 * ((c.val + 16 - 3) % 8), 0] from k0_off12_eq c 3).trans (rightN_at c 3 44 rfl (by decide) rfl rfl))))
      (show (⟨k0_dev47 c, k0_dev47_lt c⟩ : Dev nD) = dst 44 c from Fin.ext (k0_dev47_eq c)) (rfl : _ = sendS 44) (rfl : _ = recvS 44)) $$ [HN H44]
  · isplitl [HN]; · iexact HN
    iexact H44
  iintro HN
  iapply (step_waitP m ρ c (A := 45) (B := 43) (R := 41) (by decide) (by decide) (by decide) (by decide) (rfl : _ = recvS 41)) $$ HN; iintro ⟨HN, H45⟩
  iapply (step_waitS m ρ c (A := 45) (B := 43) (R := 42) (by decide) (by decide) (by decide) (rfl : _ = sendS 43)) $$ HN; iintro HN
  iapply (step_start m ρ c (A := 45) (B := 44) (R := 42) (by decide) (by decide) (by decide) (by decide) (by decide) (e₁ := (out_src c 45 (by decide) ((show k0_off13 c 3#32 = ![512 * ((c.val + 3) % 8), 1024] from k0_off13_eq c 3).trans (leftN_at c 3 45 rfl (by decide) rfl)))) (e₂ := (out_dst c 45 (by decide) ((show k0_off13 c 3#32 = ![512 * ((c.val + 3) % 8), 1024] from k0_off13_eq c 3).trans (leftN_at c 3 45 rfl (by decide) rfl))))
      (show (⟨k0_dev48 c, k0_dev48_lt c⟩ : Dev nD) = dst 45 c from Fin.ext (k0_dev48_eq c)) (rfl : _ = sendS 45) (rfl : _ = recvS 45)) $$ [HN H45]
  · isplitl [HN]; · iexact HN
    iexact H45
  iintro HN
  rw [wp_ret]; imodintro; iapply (hQ)
  isplitl [HN]; · iexact HN
  isplitl [HX]; · iexact HX
  isplitl [HW]; · iexact HW
  isplitl [HXb]; · iexact HXb
  isplitl [HWb]; · iexact HWb
  isplitl [H24]; · iexact H24
  isplitl [H25]; · iexact H25
  isplitl [H26]; · iexact H26
  iexact H27

theorem part69 (c : Dev nD) (v5 : BitVec 32) (v7 : BitVec 32) (v1526 : BitVec 32) {Q : (BitVec 32) → sProp 𝕄}
    (hQ : ∀ w0 : BitVec 32, iprop(Net m ρ c 47 45 43 ∗ whole c cc0_stg0_0 (xv m ρ c) ∗ whole c cc0_stg1_0 (wv m ρ c) ∗ whole c cc0_scratch1 (xbv m ρ c) ∗ whole c cc0_scratch2 (wbv m ρ c) ∗ holds c (dstM 24 c) (Y m ρ 24 c) ∗ holds c (dstM 25 c) (Y m ρ 25 c) ∗ holds c (dstM 26 c) (Y m ρ 26 c) ∗ holds c (dstM 27 c) (Y m ρ 27 c)) ⊢ Q w0) :
    iprop(Net m ρ c 46 44 42 ∗ whole c cc0_stg0_0 (xv m ρ c) ∗ whole c cc0_stg1_0 (wv m ρ c) ∗ whole c cc0_scratch1 (xbv m ρ c) ∗ whole c cc0_scratch2 (wbv m ρ c) ∗ holds c (dstM 24 c) (Y m ρ 24 c) ∗ holds c (dstM 25 c) (Y m ρ 25 c) ∗ holds c (dstM 26 c) (Y m ρ 26 c) ∗ holds c (dstM 27 c) (Y m ρ 27 c))
      ⊢ wp frame (wpE (defs₀ (F := F)) 𝒱₀ (c : Thread nD τ) none) Set.univ (k0_part69 xM (Memref.isWhole_whole _) wM (Memref.isWhole_whole _) oM (Memref.isWhole_whole _) comM (Memref.isWhole_whole _) xbM (Memref.isWhole_whole _) wbM (Memref.isWhole_whole _) cc0_scratch3 c v5 v7 v1526) Q := by
  rw [k0_part69_eq_skeleton]; unfold k0_part69_skel
  simp only [Prog.lift, Prog.bind_op, Prog.bind_ret, Prog.pure_eq_ret]
  iintro ⟨HN, HX, HW, HXb, HWb, H24, H25, H26, H27⟩
  iapply (step_waitP m ρ c (A := 46) (B := 44) (R := 42) (by decide) (by decide) (by decide) (by decide) (rfl : _ = recvS 42)) $$ HN; iintro ⟨HN, H46⟩
  iapply (step_waitS m ρ c (A := 46) (B := 44) (R := 43) (by decide) (by decide) (by decide) (rfl : _ = sendS 44)) $$ HN; iintro HN
  iapply (step_start m ρ c (A := 46) (B := 45) (R := 43) (by decide) (by decide) (by decide) (by decide) (by decide) (e₁ := (out_src c 46 (by decide) ((show k0_off14 c 3#32 = ![512 * ((c.val + 16 - 3) % 8), 512] from k0_off14_eq c 3).trans (rightN_at c 3 46 rfl (by decide) rfl rfl)))) (e₂ := (out_dst c 46 (by decide) ((show k0_off14 c 3#32 = ![512 * ((c.val + 16 - 3) % 8), 512] from k0_off14_eq c 3).trans (rightN_at c 3 46 rfl (by decide) rfl rfl))))
      (show (⟨k0_dev49 c, k0_dev49_lt c⟩ : Dev nD) = dst 46 c from Fin.ext (k0_dev49_eq c)) (rfl : _ = sendS 46) (rfl : _ = recvS 46)) $$ [HN H46]
  · isplitl [HN]; · iexact HN
    iexact H46
  iintro HN
  rw [wp_ret]; imodintro; iapply (hQ _)
  isplitl [HN]; · iexact HN
  isplitl [HX]; · iexact HX
  isplitl [HW]; · iexact HW
  isplitl [HXb]; · iexact HXb
  isplitl [HWb]; · iexact HWb
  isplitl [H24]; · iexact H24
  isplitl [H25]; · iexact H25
  isplitl [H26]; · iexact H26
  iexact H27

theorem part70 (c : Dev nD) (v2 : BitVec 32) (v5 : BitVec 32) (v1528 : BitVec 32) (v1586 : BitVec 32) {Q : (Σ' (v1607 : BitVec 32), BitVec 32) → sProp 𝕄}
    (hQ : ∀ w0 w1 : BitVec 32, iprop(Net m ρ c 48 46 44 ∗ whole c cc0_stg0_0 (xv m ρ c) ∗ whole c cc0_stg1_0 (wv m ρ c) ∗ whole c cc0_scratch1 (xbv m ρ c) ∗ whole c cc0_scratch2 (wbv m ρ c) ∗ holds c (dstM 24 c) (Y m ρ 24 c) ∗ holds c (dstM 25 c) (Y m ρ 25 c) ∗ holds c (dstM 26 c) (Y m ρ 26 c) ∗ holds c (dstM 27 c) (Y m ρ 27 c)) ⊢ Q ⟨w0, w1⟩) :
    iprop(Net m ρ c 47 45 43 ∗ whole c cc0_stg0_0 (xv m ρ c) ∗ whole c cc0_stg1_0 (wv m ρ c) ∗ whole c cc0_scratch1 (xbv m ρ c) ∗ whole c cc0_scratch2 (wbv m ρ c) ∗ holds c (dstM 24 c) (Y m ρ 24 c) ∗ holds c (dstM 25 c) (Y m ρ 25 c) ∗ holds c (dstM 26 c) (Y m ρ 26 c) ∗ holds c (dstM 27 c) (Y m ρ 27 c))
      ⊢ wp frame (wpE (defs₀ (F := F)) 𝒱₀ (c : Thread nD τ) none) Set.univ (k0_part70 xM (Memref.isWhole_whole _) wM (Memref.isWhole_whole _) oM (Memref.isWhole_whole _) comM (Memref.isWhole_whole _) xbM (Memref.isWhole_whole _) wbM (Memref.isWhole_whole _) cc0_scratch3 c v2 v5 v1528 v1586) Q := by
  rw [k0_part70_eq_skeleton]; unfold k0_part70_skel
  simp only [Prog.lift, Prog.bind_op, Prog.bind_ret, Prog.pure_eq_ret]
  iintro ⟨HN, HX, HW, HXb, HWb, H24, H25, H26, H27⟩
  iapply (step_waitP m ρ c (A := 47) (B := 45) (R := 43) (by decide) (by decide) (by decide) (by decide) (rfl : _ = recvS 43)) $$ HN; iintro ⟨HN, H47⟩
  iapply (step_waitS m ρ c (A := 47) (B := 45) (R := 44) (by decide) (by decide) (by decide) (rfl : _ = sendS 45)) $$ HN; iintro HN
  iapply (step_start m ρ c (A := 47) (B := 46) (R := 44) (by decide) (by decide) (by decide) (by decide) (by decide) (e₁ := (out_src c 47 (by decide) ((show k0_off15 c 3#32 = ![512 * ((c.val + 3) % 8), 1536] from k0_off15_eq c 3).trans (leftN_at c 3 47 rfl (by decide) rfl)))) (e₂ := (out_dst c 47 (by decide) ((show k0_off15 c 3#32 = ![512 * ((c.val + 3) % 8), 1536] from k0_off15_eq c 3).trans (leftN_at c 3 47 rfl (by decide) rfl))))
      (show (⟨k0_dev50 c, k0_dev50_lt c⟩ : Dev nD) = dst 47 c from Fin.ext (k0_dev50_eq c)) (rfl : _ = sendS 47) (rfl : _ = recvS 47)) $$ [HN H47]
  · isplitl [HN]; · iexact HN
    iexact H47
  iintro HN
  rw [wp_ret]; imodintro; iapply (hQ _ _)
  isplitl [HN]; · iexact HN
  isplitl [HX]; · iexact HX
  isplitl [HW]; · iexact HW
  isplitl [HXb]; · iexact HXb
  isplitl [HWb]; · iexact HWb
  isplitl [H24]; · iexact H24
  isplitl [H25]; · iexact H25
  isplitl [H26]; · iexact H26
  iexact H27

theorem part71 (c : Dev nD) (v5 : BitVec 32) (v7 : BitVec 32) (v1607 : BitVec 32) {Q : (PUnit) → sProp 𝕄}
    (hQ : iprop(Net m ρ c 49 47 45 ∗ whole c cc0_stg0_0 (xv m ρ c) ∗ whole c cc0_stg1_0 (wv m ρ c) ∗ whole c cc0_scratch1 (xbv m ρ c) ∗ whole c cc0_scratch2 (wbv m ρ c) ∗ holds c (dstM 24 c) (Y m ρ 24 c) ∗ holds c (dstM 25 c) (Y m ρ 25 c) ∗ holds c (dstM 26 c) (Y m ρ 26 c) ∗ holds c (dstM 27 c) (Y m ρ 27 c)) ⊢ Q ⟨⟩) :
    iprop(Net m ρ c 48 46 44 ∗ whole c cc0_stg0_0 (xv m ρ c) ∗ whole c cc0_stg1_0 (wv m ρ c) ∗ whole c cc0_scratch1 (xbv m ρ c) ∗ whole c cc0_scratch2 (wbv m ρ c) ∗ holds c (dstM 24 c) (Y m ρ 24 c) ∗ holds c (dstM 25 c) (Y m ρ 25 c) ∗ holds c (dstM 26 c) (Y m ρ 26 c) ∗ holds c (dstM 27 c) (Y m ρ 27 c))
      ⊢ wp frame (wpE (defs₀ (F := F)) 𝒱₀ (c : Thread nD τ) none) Set.univ (k0_part71 xM (Memref.isWhole_whole _) wM (Memref.isWhole_whole _) oM (Memref.isWhole_whole _) comM (Memref.isWhole_whole _) xbM (Memref.isWhole_whole _) wbM (Memref.isWhole_whole _) cc0_scratch3 c v5 v7 v1607) Q := by
  rw [k0_part71_eq_skeleton]; unfold k0_part71_skel
  simp only [Prog.lift, Prog.bind_op, Prog.bind_ret, Prog.pure_eq_ret]
  iintro ⟨HN, HX, HW, HXb, HWb, H24, H25, H26, H27⟩
  iapply (step_waitP m ρ c (A := 48) (B := 46) (R := 44) (by decide) (by decide) (by decide) (by decide) (rfl : _ = recvS 44)) $$ HN; iintro ⟨HN, H48⟩
  iapply (step_waitS m ρ c (A := 48) (B := 46) (R := 45) (by decide) (by decide) (by decide) (rfl : _ = sendS 46)) $$ HN; iintro HN
  iapply (step_start m ρ c (A := 48) (B := 47) (R := 45) (by decide) (by decide) (by decide) (by decide) (by decide) (e₁ := (out_src c 48 (by decide) ((show k0_off12 c 4#32 = ![512 * ((c.val + 16 - 4) % 8), 0] from k0_off12_eq c 4).trans (rightN_at c 4 48 rfl (by decide) rfl rfl)))) (e₂ := (out_dst c 48 (by decide) ((show k0_off12 c 4#32 = ![512 * ((c.val + 16 - 4) % 8), 0] from k0_off12_eq c 4).trans (rightN_at c 4 48 rfl (by decide) rfl rfl))))
      (show (⟨k0_dev51 c, k0_dev51_lt c⟩ : Dev nD) = dst 48 c from Fin.ext (k0_dev51_eq c)) (rfl : _ = sendS 48) (rfl : _ = recvS 48)) $$ [HN H48]
  · isplitl [HN]; · iexact HN
    iexact H48
  iintro HN
  rw [wp_ret]; imodintro; iapply (hQ)
  isplitl [HN]; · iexact HN
  isplitl [HX]; · iexact HX
  isplitl [HW]; · iexact HW
  isplitl [HXb]; · iexact HXb
  isplitl [HWb]; · iexact HWb
  isplitl [H24]; · iexact H24
  isplitl [H25]; · iexact H25
  isplitl [H26]; · iexact H26
  iexact H27

theorem part72 (c : Dev nD) (v5 : BitVec 32) (v7 : BitVec 32) (v1607 : BitVec 32) (v1609 : BitVec 32) {Q : (PUnit) → sProp 𝕄}
    (hQ : iprop(Net m ρ c 50 48 47 ∗ whole c cc0_stg0_0 (xv m ρ c) ∗ whole c cc0_stg1_0 (wv m ρ c) ∗ whole c cc0_scratch1 (xbv m ρ c) ∗ whole c cc0_scratch2 (wbv m ρ c) ∗ holds c (dstM 24 c) (Y m ρ 24 c) ∗ holds c (dstM 25 c) (Y m ρ 25 c) ∗ holds c (dstM 26 c) (Y m ρ 26 c) ∗ holds c (dstM 27 c) (Y m ρ 27 c) ∗ holds c (srcM 50 c) (V m ρ 50 c)) ⊢ Q ⟨⟩) :
    iprop(Net m ρ c 49 47 45 ∗ whole c cc0_stg0_0 (xv m ρ c) ∗ whole c cc0_stg1_0 (wv m ρ c) ∗ whole c cc0_scratch1 (xbv m ρ c) ∗ whole c cc0_scratch2 (wbv m ρ c) ∗ holds c (dstM 24 c) (Y m ρ 24 c) ∗ holds c (dstM 25 c) (Y m ρ 25 c) ∗ holds c (dstM 26 c) (Y m ρ 26 c) ∗ holds c (dstM 27 c) (Y m ρ 27 c))
      ⊢ wp frame (wpE (defs₀ (F := F)) 𝒱₀ (c : Thread nD τ) none) Set.univ (k0_part72 xM (Memref.isWhole_whole _) wM (Memref.isWhole_whole _) oM (Memref.isWhole_whole _) comM (Memref.isWhole_whole _) xbM (Memref.isWhole_whole _) wbM (Memref.isWhole_whole _) cc0_scratch3 c v5 v7 v1607 v1609) Q := by
  rw [k0_part72_eq_skeleton]; unfold k0_part72_skel
  simp only [Prog.lift, Prog.bind_op, Prog.bind_ret, Prog.pure_eq_ret]
  iintro ⟨HN, HX, HW, HXb, HWb, H24, H25, H26, H27⟩
  iapply (step_waitP m ρ c (A := 49) (B := 47) (R := 45) (by decide) (by decide) (by decide) (by decide) (rfl : _ = recvS 45)) $$ HN; iintro ⟨HN, H49⟩
  iapply (step_waitS m ρ c (A := 49) (B := 47) (R := 46) (by decide) (by decide) (by decide) (rfl : _ = sendS 47)) $$ HN; iintro HN
  iapply (step_start m ρ c (A := 49) (B := 48) (R := 46) (by decide) (by decide) (by decide) (by decide) (by decide) (e₁ := (out_src c 49 (by decide) ((show k0_off13 c 4#32 = ![512 * ((c.val + 4) % 8), 1024] from k0_off13_eq c 4).trans (leftN_at c 4 49 rfl (by decide) rfl)))) (e₂ := (out_dst c 49 (by decide) ((show k0_off13 c 4#32 = ![512 * ((c.val + 4) % 8), 1024] from k0_off13_eq c 4).trans (leftN_at c 4 49 rfl (by decide) rfl))))
      (show (⟨k0_dev52 c, k0_dev52_lt c⟩ : Dev nD) = dst 49 c from Fin.ext (k0_dev52_eq c)) (rfl : _ = sendS 49) (rfl : _ = recvS 49)) $$ [HN H49]
  · isplitl [HN]; · iexact HN
    iexact H49
  iintro HN
  iapply (step_waitP m ρ c (A := 50) (B := 48) (R := 46) (by decide) (by decide) (by decide) (by decide) (rfl : _ = recvS 46)) $$ HN; iintro ⟨HN, H50⟩
  rw [wp_ret]; imodintro; iapply (hQ)
  isplitl [HN]; · iexact HN
  isplitl [HX]; · iexact HX
  isplitl [HW]; · iexact HW
  isplitl [HXb]; · iexact HXb
  isplitl [HWb]; · iexact HWb
  isplitl [H24]; · iexact H24
  isplitl [H25]; · iexact H25
  isplitl [H26]; · iexact H26
  isplitl [H27]; · iexact H27
  iexact H50

theorem part73 (c : Dev nD) (v5 : BitVec 32) (v7 : BitVec 32) (v1609 : BitVec 32) {Q : (PUnit) → sProp 𝕄}
    (hQ : iprop(Net m ρ c 51 49 48 ∗ whole c cc0_stg0_0 (xv m ρ c) ∗ whole c cc0_stg1_0 (wv m ρ c) ∗ whole c cc0_scratch1 (xbv m ρ c) ∗ whole c cc0_scratch2 (wbv m ρ c) ∗ holds c (dstM 24 c) (Y m ρ 24 c) ∗ holds c (dstM 25 c) (Y m ρ 25 c) ∗ holds c (dstM 26 c) (Y m ρ 26 c) ∗ holds c (dstM 27 c) (Y m ρ 27 c) ∗ holds c (srcM 51 c) (V m ρ 51 c)) ⊢ Q ⟨⟩) :
    iprop(Net m ρ c 50 48 47 ∗ whole c cc0_stg0_0 (xv m ρ c) ∗ whole c cc0_stg1_0 (wv m ρ c) ∗ whole c cc0_scratch1 (xbv m ρ c) ∗ whole c cc0_scratch2 (wbv m ρ c) ∗ holds c (dstM 24 c) (Y m ρ 24 c) ∗ holds c (dstM 25 c) (Y m ρ 25 c) ∗ holds c (dstM 26 c) (Y m ρ 26 c) ∗ holds c (dstM 27 c) (Y m ρ 27 c) ∗ holds c (srcM 50 c) (V m ρ 50 c))
      ⊢ wp frame (wpE (defs₀ (F := F)) 𝒱₀ (c : Thread nD τ) none) Set.univ (k0_part73 xM (Memref.isWhole_whole _) wM (Memref.isWhole_whole _) oM (Memref.isWhole_whole _) comM (Memref.isWhole_whole _) xbM (Memref.isWhole_whole _) wbM (Memref.isWhole_whole _) cc0_scratch3 c v5 v7 v1609) Q := by
  rw [k0_part73_eq_skeleton]; unfold k0_part73_skel
  simp only [Prog.lift, Prog.bind_op, Prog.bind_ret, Prog.pure_eq_ret]
  iintro ⟨HN, HX, HW, HXb, HWb, H24, H25, H26, H27, H50⟩
  iapply (step_waitS m ρ c (A := 50) (B := 48) (R := 47) (by decide) (by decide) (by decide) (rfl : _ = sendS 48)) $$ HN; iintro HN
  iapply (step_start m ρ c (A := 50) (B := 49) (R := 47) (by decide) (by decide) (by decide) (by decide) (by decide) (e₁ := (out_src c 50 (by decide) ((show k0_off14 c 4#32 = ![512 * ((c.val + 16 - 4) % 8), 512] from k0_off14_eq c 4).trans (rightN_at c 4 50 rfl (by decide) rfl rfl)))) (e₂ := (out_dst c 50 (by decide) ((show k0_off14 c 4#32 = ![512 * ((c.val + 16 - 4) % 8), 512] from k0_off14_eq c 4).trans (rightN_at c 4 50 rfl (by decide) rfl rfl))))
      (show (⟨k0_dev53 c, k0_dev53_lt c⟩ : Dev nD) = dst 50 c from Fin.ext (k0_dev53_eq c)) (rfl : _ = sendS 50) (rfl : _ = recvS 50)) $$ [HN H50]
  · isplitl [HN]; · iexact HN
    iexact H50
  iintro HN
  iapply (step_waitP m ρ c (A := 51) (B := 49) (R := 47) (by decide) (by decide) (by decide) (by decide) (rfl : _ = recvS 47)) $$ HN; iintro ⟨HN, H51⟩
  rw [wp_ret]; imodintro; iapply (hQ)
  isplitl [HN]; · iexact HN
  isplitl [HX]; · iexact HX
  isplitl [HW]; · iexact HW
  isplitl [HXb]; · iexact HXb
  isplitl [HWb]; · iexact HWb
  isplitl [H24]; · iexact H24
  isplitl [H25]; · iexact H25
  isplitl [H26]; · iexact H26
  isplitl [H27]; · iexact H27
  iexact H51

theorem part74 (c : Dev nD) (v2 : BitVec 32) (v5 : BitVec 32) (v7 : BitVec 32) {Q : (Σ' (v1688 : BitVec 32), BitVec 32) → sProp 𝕄}
    (hQ : ∀ w0 w1 : BitVec 32, iprop(Net m ρ c 52 50 49 ∗ whole c cc0_stg0_0 (xv m ρ c) ∗ whole c cc0_stg1_0 (wv m ρ c) ∗ whole c cc0_scratch1 (xbv m ρ c) ∗ whole c cc0_scratch2 (wbv m ρ c) ∗ holds c (dstM 24 c) (Y m ρ 24 c) ∗ holds c (dstM 25 c) (Y m ρ 25 c) ∗ holds c (dstM 26 c) (Y m ρ 26 c) ∗ holds c (dstM 27 c) (Y m ρ 27 c) ∗ holds c (srcM 52 c) (V m ρ 52 c)) ⊢ Q ⟨w0, w1⟩) :
    iprop(Net m ρ c 51 49 48 ∗ whole c cc0_stg0_0 (xv m ρ c) ∗ whole c cc0_stg1_0 (wv m ρ c) ∗ whole c cc0_scratch1 (xbv m ρ c) ∗ whole c cc0_scratch2 (wbv m ρ c) ∗ holds c (dstM 24 c) (Y m ρ 24 c) ∗ holds c (dstM 25 c) (Y m ρ 25 c) ∗ holds c (dstM 26 c) (Y m ρ 26 c) ∗ holds c (dstM 27 c) (Y m ρ 27 c) ∗ holds c (srcM 51 c) (V m ρ 51 c))
      ⊢ wp frame (wpE (defs₀ (F := F)) 𝒱₀ (c : Thread nD τ) none) Set.univ (k0_part74 xM (Memref.isWhole_whole _) wM (Memref.isWhole_whole _) oM (Memref.isWhole_whole _) comM (Memref.isWhole_whole _) xbM (Memref.isWhole_whole _) wbM (Memref.isWhole_whole _) cc0_scratch3 c v2 v5 v7) Q := by
  rw [k0_part74_eq_skeleton]; unfold k0_part74_skel
  simp only [Prog.lift, Prog.bind_op, Prog.bind_ret, Prog.pure_eq_ret]
  iintro ⟨HN, HX, HW, HXb, HWb, H24, H25, H26, H27, H51⟩
  iapply (step_waitS m ρ c (A := 51) (B := 49) (R := 48) (by decide) (by decide) (by decide) (rfl : _ = sendS 49)) $$ HN; iintro HN
  iapply (step_start m ρ c (A := 51) (B := 50) (R := 48) (by decide) (by decide) (by decide) (by decide) (by decide) (e₁ := (out_src c 51 (by decide) ((show k0_off15 c 4#32 = ![512 * ((c.val + 4) % 8), 1536] from k0_off15_eq c 4).trans (leftN_at c 4 51 rfl (by decide) rfl)))) (e₂ := (out_dst c 51 (by decide) ((show k0_off15 c 4#32 = ![512 * ((c.val + 4) % 8), 1536] from k0_off15_eq c 4).trans (leftN_at c 4 51 rfl (by decide) rfl))))
      (show (⟨k0_dev54 c, k0_dev54_lt c⟩ : Dev nD) = dst 51 c from Fin.ext (k0_dev54_eq c)) (rfl : _ = sendS 51) (rfl : _ = recvS 51)) $$ [HN H51]
  · isplitl [HN]; · iexact HN
    iexact H51
  iintro HN
  iapply (step_waitP m ρ c (A := 52) (B := 50) (R := 48) (by decide) (by decide) (by decide) (by decide) (rfl : _ = recvS 48)) $$ HN; iintro ⟨HN, H52⟩
  rw [wp_ret]; imodintro; iapply (hQ _ _)
  isplitl [HN]; · iexact HN
  isplitl [HX]; · iexact HX
  isplitl [HW]; · iexact HW
  isplitl [HXb]; · iexact HXb
  isplitl [HWb]; · iexact HWb
  isplitl [H24]; · iexact H24
  isplitl [H25]; · iexact H25
  isplitl [H26]; · iexact H26
  isplitl [H27]; · iexact H27
  iexact H52

theorem part75 (c : Dev nD) (v5 : BitVec 32) (v7 : BitVec 32) (v1690 : BitVec 32) {Q : (PUnit) → sProp 𝕄}
    (hQ : iprop(Net m ρ c 53 52 50 ∗ whole c cc0_stg0_0 (xv m ρ c) ∗ whole c cc0_stg1_0 (wv m ρ c) ∗ whole c cc0_scratch1 (xbv m ρ c) ∗ whole c cc0_scratch2 (wbv m ρ c) ∗ holds c (dstM 24 c) (Y m ρ 24 c) ∗ holds c (dstM 25 c) (Y m ρ 25 c) ∗ holds c (dstM 26 c) (Y m ρ 26 c) ∗ holds c (dstM 27 c) (Y m ρ 27 c) ∗ holds c (srcM 53 c) (V m ρ 53 c)) ⊢ Q ⟨⟩) :
    iprop(Net m ρ c 52 50 49 ∗ whole c cc0_stg0_0 (xv m ρ c) ∗ whole c cc0_stg1_0 (wv m ρ c) ∗ whole c cc0_scratch1 (xbv m ρ c) ∗ whole c cc0_scratch2 (wbv m ρ c) ∗ holds c (dstM 24 c) (Y m ρ 24 c) ∗ holds c (dstM 25 c) (Y m ρ 25 c) ∗ holds c (dstM 26 c) (Y m ρ 26 c) ∗ holds c (dstM 27 c) (Y m ρ 27 c) ∗ holds c (srcM 52 c) (V m ρ 52 c))
      ⊢ wp frame (wpE (defs₀ (F := F)) 𝒱₀ (c : Thread nD τ) none) Set.univ (k0_part75 xM (Memref.isWhole_whole _) wM (Memref.isWhole_whole _) oM (Memref.isWhole_whole _) comM (Memref.isWhole_whole _) xbM (Memref.isWhole_whole _) wbM (Memref.isWhole_whole _) cc0_scratch3 c v5 v7 v1690) Q := by
  rw [k0_part75_eq_skeleton]; unfold k0_part75_skel
  simp only [Prog.lift, Prog.bind_op, Prog.bind_ret, Prog.pure_eq_ret]
  iintro ⟨HN, HX, HW, HXb, HWb, H24, H25, H26, H27, H52⟩
  iapply (step_waitS m ρ c (A := 52) (B := 50) (R := 49) (by decide) (by decide) (by decide) (rfl : _ = sendS 50)) $$ HN; iintro HN
  iapply (step_start m ρ c (A := 52) (B := 51) (R := 49) (by decide) (by decide) (by decide) (by decide) (by decide) (e₁ := (out_src c 52 (by decide) ((show k0_off12 c 5#32 = ![512 * ((c.val + 16 - 5) % 8), 0] from k0_off12_eq c 5).trans (rightN_at c 5 52 rfl (by decide) rfl rfl)))) (e₂ := (out_dst c 52 (by decide) ((show k0_off12 c 5#32 = ![512 * ((c.val + 16 - 5) % 8), 0] from k0_off12_eq c 5).trans (rightN_at c 5 52 rfl (by decide) rfl rfl))))
      (show (⟨k0_dev55 c, k0_dev55_lt c⟩ : Dev nD) = dst 52 c from Fin.ext (k0_dev55_eq c)) (rfl : _ = sendS 52) (rfl : _ = recvS 52)) $$ [HN H52]
  · isplitl [HN]; · iexact HN
    iexact H52
  iintro HN
  iapply (step_waitP m ρ c (A := 53) (B := 51) (R := 49) (by decide) (by decide) (by decide) (by decide) (rfl : _ = recvS 49)) $$ HN; iintro ⟨HN, H53⟩
  iapply (step_waitS m ρ c (A := 53) (B := 51) (R := 50) (by decide) (by decide) (by decide) (rfl : _ = sendS 51)) $$ HN; iintro HN
  rw [wp_ret]; imodintro; iapply (hQ)
  isplitl [HN]; · iexact HN
  isplitl [HX]; · iexact HX
  isplitl [HW]; · iexact HW
  isplitl [HXb]; · iexact HXb
  isplitl [HWb]; · iexact HWb
  isplitl [H24]; · iexact H24
  isplitl [H25]; · iexact H25
  isplitl [H26]; · iexact H26
  isplitl [H27]; · iexact H27
  iexact H53

theorem part76 (c : Dev nD) (v5 : BitVec 32) (v7 : BitVec 32) (v1688 : BitVec 32) {Q : (PUnit) → sProp 𝕄}
    (hQ : iprop(Net m ρ c 54 53 51 ∗ whole c cc0_stg0_0 (xv m ρ c) ∗ whole c cc0_stg1_0 (wv m ρ c) ∗ whole c cc0_scratch1 (xbv m ρ c) ∗ whole c cc0_scratch2 (wbv m ρ c) ∗ holds c (dstM 24 c) (Y m ρ 24 c) ∗ holds c (dstM 25 c) (Y m ρ 25 c) ∗ holds c (dstM 26 c) (Y m ρ 26 c) ∗ holds c (dstM 27 c) (Y m ρ 27 c) ∗ holds c (srcM 54 c) (V m ρ 54 c)) ⊢ Q ⟨⟩) :
    iprop(Net m ρ c 53 52 50 ∗ whole c cc0_stg0_0 (xv m ρ c) ∗ whole c cc0_stg1_0 (wv m ρ c) ∗ whole c cc0_scratch1 (xbv m ρ c) ∗ whole c cc0_scratch2 (wbv m ρ c) ∗ holds c (dstM 24 c) (Y m ρ 24 c) ∗ holds c (dstM 25 c) (Y m ρ 25 c) ∗ holds c (dstM 26 c) (Y m ρ 26 c) ∗ holds c (dstM 27 c) (Y m ρ 27 c) ∗ holds c (srcM 53 c) (V m ρ 53 c))
      ⊢ wp frame (wpE (defs₀ (F := F)) 𝒱₀ (c : Thread nD τ) none) Set.univ (k0_part76 xM (Memref.isWhole_whole _) wM (Memref.isWhole_whole _) oM (Memref.isWhole_whole _) comM (Memref.isWhole_whole _) xbM (Memref.isWhole_whole _) wbM (Memref.isWhole_whole _) cc0_scratch3 c v5 v7 v1688) Q := by
  rw [k0_part76_eq_skeleton]; unfold k0_part76_skel
  simp only [Prog.lift, Prog.bind_op, Prog.bind_ret, Prog.pure_eq_ret]
  iintro ⟨HN, HX, HW, HXb, HWb, H24, H25, H26, H27, H53⟩
  iapply (step_start m ρ c (A := 53) (B := 52) (R := 50) (by decide) (by decide) (by decide) (by decide) (by decide) (e₁ := (out_src c 53 (by decide) ((show k0_off13 c 5#32 = ![512 * ((c.val + 5) % 8), 1024] from k0_off13_eq c 5).trans (leftN_at c 5 53 rfl (by decide) rfl)))) (e₂ := (out_dst c 53 (by decide) ((show k0_off13 c 5#32 = ![512 * ((c.val + 5) % 8), 1024] from k0_off13_eq c 5).trans (leftN_at c 5 53 rfl (by decide) rfl))))
      (show (⟨k0_dev56 c, k0_dev56_lt c⟩ : Dev nD) = dst 53 c from Fin.ext (k0_dev56_eq c)) (rfl : _ = sendS 53) (rfl : _ = recvS 53)) $$ [HN H53]
  · isplitl [HN]; · iexact HN
    iexact H53
  iintro HN
  iapply (step_waitP m ρ c (A := 54) (B := 52) (R := 50) (by decide) (by decide) (by decide) (by decide) (rfl : _ = recvS 50)) $$ HN; iintro ⟨HN, H54⟩
  iapply (step_waitS m ρ c (A := 54) (B := 52) (R := 51) (by decide) (by decide) (by decide) (rfl : _ = sendS 52)) $$ HN; iintro HN
  rw [wp_ret]; imodintro; iapply (hQ)
  isplitl [HN]; · iexact HN
  isplitl [HX]; · iexact HX
  isplitl [HW]; · iexact HW
  isplitl [HXb]; · iexact HXb
  isplitl [HWb]; · iexact HWb
  isplitl [H24]; · iexact H24
  isplitl [H25]; · iexact H25
  isplitl [H26]; · iexact H26
  isplitl [H27]; · iexact H27
  iexact H54

theorem part77 (c : Dev nD) (v5 : BitVec 32) (v1690 : BitVec 32) {Q : (PUnit) → sProp 𝕄}
    (hQ : iprop(Net m ρ c 56 54 52 ∗ whole c cc0_stg0_0 (xv m ρ c) ∗ whole c cc0_stg1_0 (wv m ρ c) ∗ whole c cc0_scratch1 (xbv m ρ c) ∗ whole c cc0_scratch2 (wbv m ρ c) ∗ holds c (dstM 24 c) (Y m ρ 24 c) ∗ holds c (dstM 25 c) (Y m ρ 25 c) ∗ holds c (dstM 26 c) (Y m ρ 26 c) ∗ holds c (dstM 27 c) (Y m ρ 27 c)) ⊢ Q ⟨⟩) :
    iprop(Net m ρ c 54 53 51 ∗ whole c cc0_stg0_0 (xv m ρ c) ∗ whole c cc0_stg1_0 (wv m ρ c) ∗ whole c cc0_scratch1 (xbv m ρ c) ∗ whole c cc0_scratch2 (wbv m ρ c) ∗ holds c (dstM 24 c) (Y m ρ 24 c) ∗ holds c (dstM 25 c) (Y m ρ 25 c) ∗ holds c (dstM 26 c) (Y m ρ 26 c) ∗ holds c (dstM 27 c) (Y m ρ 27 c) ∗ holds c (srcM 54 c) (V m ρ 54 c))
      ⊢ wp frame (wpE (defs₀ (F := F)) 𝒱₀ (c : Thread nD τ) none) Set.univ (k0_part77 xM (Memref.isWhole_whole _) wM (Memref.isWhole_whole _) oM (Memref.isWhole_whole _) comM (Memref.isWhole_whole _) xbM (Memref.isWhole_whole _) wbM (Memref.isWhole_whole _) cc0_scratch3 c v5 v1690) Q := by
  rw [k0_part77_eq_skeleton]; unfold k0_part77_skel
  simp only [Prog.lift, Prog.bind_op, Prog.bind_ret, Prog.pure_eq_ret]
  iintro ⟨HN, HX, HW, HXb, HWb, H24, H25, H26, H27, H54⟩
  iapply (step_start m ρ c (A := 54) (B := 53) (R := 51) (by decide) (by decide) (by decide) (by decide) (by decide) (e₁ := (out_src c 54 (by decide) ((show k0_off14 c 5#32 = ![512 * ((c.val + 16 - 5) % 8), 512] from k0_off14_eq c 5).trans (rightN_at c 5 54 rfl (by decide) rfl rfl)))) (e₂ := (out_dst c 54 (by decide) ((show k0_off14 c 5#32 = ![512 * ((c.val + 16 - 5) % 8), 512] from k0_off14_eq c 5).trans (rightN_at c 5 54 rfl (by decide) rfl rfl))))
      (show (⟨k0_dev57 c, k0_dev57_lt c⟩ : Dev nD) = dst 54 c from Fin.ext (k0_dev57_eq c)) (rfl : _ = sendS 54) (rfl : _ = recvS 54)) $$ [HN H54]
  · isplitl [HN]; · iexact HN
    iexact H54
  iintro HN
  iapply (step_waitP m ρ c (A := 55) (B := 53) (R := 51) (by decide) (by decide) (by decide) (by decide) (rfl : _ = recvS 51)) $$ HN; iintro ⟨HN, H55⟩
  iapply (step_waitS m ρ c (A := 55) (B := 53) (R := 52) (by decide) (by decide) (by decide) (rfl : _ = sendS 53)) $$ HN; iintro HN
  iapply (step_start m ρ c (A := 55) (B := 54) (R := 52) (by decide) (by decide) (by decide) (by decide) (by decide) (e₁ := (out_src c 55 (by decide) ((show k0_off15 c 5#32 = ![512 * ((c.val + 5) % 8), 1536] from k0_off15_eq c 5).trans (leftN_at c 5 55 rfl (by decide) rfl)))) (e₂ := (out_dst c 55 (by decide) ((show k0_off15 c 5#32 = ![512 * ((c.val + 5) % 8), 1536] from k0_off15_eq c 5).trans (leftN_at c 5 55 rfl (by decide) rfl))))
      (show (⟨k0_dev58 c, k0_dev58_lt c⟩ : Dev nD) = dst 55 c from Fin.ext (k0_dev58_eq c)) (rfl : _ = sendS 55) (rfl : _ = recvS 55)) $$ [HN H55]
  · isplitl [HN]; · iexact HN
    iexact H55
  iintro HN
  rw [wp_ret]; imodintro; iapply (hQ)
  isplitl [HN]; · iexact HN
  isplitl [HX]; · iexact HX
  isplitl [HW]; · iexact HW
  isplitl [HXb]; · iexact HXb
  isplitl [HWb]; · iexact HWb
  isplitl [H24]; · iexact H24
  isplitl [H25]; · iexact H25
  isplitl [H26]; · iexact H26
  iexact H27

theorem part78 (c : Dev nD) (v5 : BitVec 32) (v7 : BitVec 32) {Q : (Σ' (v1785 : BitVec 32), BitVec 32) → sProp 𝕄}
    (hQ : ∀ w0 w1 : BitVec 32, iprop(Net m ρ c 56 54 55 ∗ whole c cc0_stg0_0 (xv m ρ c) ∗ whole c cc0_stg1_0 (wv m ρ c) ∗ whole c cc0_scratch1 (xbv m ρ c) ∗ whole c cc0_scratch2 (wbv m ρ c) ∗ holds c (dstM 24 c) (Y m ρ 24 c) ∗ holds c (dstM 25 c) (Y m ρ 25 c) ∗ holds c (dstM 26 c) (Y m ρ 26 c) ∗ holds c (dstM 27 c) (Y m ρ 27 c) ∗ holds c (dstM 52 c) (V m ρ 52 (src 52 c)) ∗ holds c (dstM 53 c) (V m ρ 53 (src 53 c)) ∗ holds c (dstM 54 c) (V m ρ 54 (src 54 c))) ⊢ Q ⟨w0, w1⟩) :
    iprop(Net m ρ c 56 54 52 ∗ whole c cc0_stg0_0 (xv m ρ c) ∗ whole c cc0_stg1_0 (wv m ρ c) ∗ whole c cc0_scratch1 (xbv m ρ c) ∗ whole c cc0_scratch2 (wbv m ρ c) ∗ holds c (dstM 24 c) (Y m ρ 24 c) ∗ holds c (dstM 25 c) (Y m ρ 25 c) ∗ holds c (dstM 26 c) (Y m ρ 26 c) ∗ holds c (dstM 27 c) (Y m ρ 27 c))
      ⊢ wp frame (wpE (defs₀ (F := F)) 𝒱₀ (c : Thread nD τ) none) Set.univ (k0_part78 xM (Memref.isWhole_whole _) wM (Memref.isWhole_whole _) oM (Memref.isWhole_whole _) comM (Memref.isWhole_whole _) xbM (Memref.isWhole_whole _) wbM (Memref.isWhole_whole _) cc0_scratch3 c v5 v7) Q := by
  rw [k0_part78_eq_skeleton]; unfold k0_part78_skel
  simp only [Prog.lift, Prog.bind_op, Prog.bind_ret, Prog.pure_eq_ret]
  iintro ⟨HN, HX, HW, HXb, HWb, H24, H25, H26, H27⟩
  iapply (step_waitR m ρ c (A := 56) (B := 54) (R := 52) (by decide) (by decide) (by decide) (rfl : _ = recvS 52)) $$ HN; iintro ⟨HN, H52⟩
  iapply (step_waitR m ρ c (A := 56) (B := 54) (R := 53) (by decide) (by decide) (by decide) (rfl : _ = recvS 53)) $$ HN; iintro ⟨HN, H53⟩
  iapply (step_waitR m ρ c (A := 56) (B := 54) (R := 54) (by decide) (by decide) (by decide) (rfl : _ = recvS 54)) $$ HN; iintro ⟨HN, H54⟩
  rw [wp_ret]; imodintro; iapply (hQ _ _)
  isplitl [HN]; · iexact HN
  isplitl [HX]; · iexact HX
  isplitl [HW]; · iexact HW
  isplitl [HXb]; · iexact HXb
  isplitl [HWb]; · iexact HWb
  isplitl [H24]; · iexact H24
  isplitl [H25]; · iexact H25
  isplitl [H26]; · iexact H26
  isplitl [H27]; · iexact H27
  isplitl [H52]; · iexact H52
  isplitl [H53]; · iexact H53
  iexact H54

end Cert.RingProof

end
-- ==== Proof.Body.lean ====
/-
# The body of the two-way ring

The parts in a row, from a device's start to the state after its last wait.
-/
module

public import proofs.«01_k».proof.Proof.Enter
public import proofs.«01_k».proof.Proof.Walk1
public import proofs.«01_k».proof.Proof.Walk2
public import proofs.«01_k».proof.Proof.Walk3
public import proofs.«01_k».proof.Proof.Walk4

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ) (ρ : Dev nD → PrngReg)

/-- One step of a sequence; -/
theorem bind_step {c : Dev nD} {α β : Type} {P : sProp 𝕄} {p : Prog (TpuEff nD τ sig (Elt F) Λ₀ .tc) α} {k : α → Prog (TpuEff nD τ sig (Elt F) Λ₀ .tc) β} {Q : β → sProp 𝕄}
    (h : P ⊢ wp frame (wpE (defs₀ (F := F)) 𝒱₀ (c : Thread nD τ) none) Set.univ p (fun a => wp frame (wpE (defs₀ (F := F)) 𝒱₀ (c : Thread nD τ) none) Set.univ (k a) Q)) : P ⊢ wp frame (wpE (defs₀ (F := F)) 𝒱₀ (c : Thread nD τ) none) Set.univ (p >>= k) Q := by
  rw [wp_bind]; exact h

/-- what a run does not touch passes by. -/
theorem carry {c : Dev nD} {α : Type} {P R : sProp 𝕄} {p : Prog (TpuEff nD τ sig (Elt F) Λ₀ .tc) α} {Q : α → sProp 𝕄}
    (h : P ⊢ wp frame (wpE (defs₀ (F := F)) 𝒱₀ (c : Thread nD τ) none) Set.univ p (fun a => iprop(R -∗ Q a))) : iprop(R ∗ P) ⊢ wp frame (wpE (defs₀ (F := F)) 𝒱₀ (c : Thread nD τ) none) Set.univ p Q := by
  refine (sep_mono_right h).trans ((wp_frame_l _ _ _).trans (wp_mono _ _ _ fun a => ?_))
  iintro ⟨HR, H⟩
  iapply H; iexact HR

/-- The state after part 60. -/
def S60 (c : Dev nD) : sProp 𝕄 :=
  iprop(Net m ρ c 37 35 33 ∗ whole c cc0_stg0_0 (xv m ρ c) ∗ whole c cc0_stg1_0 (wv m ρ c) ∗ whole c cc0_scratch1 (xbv m ρ c) ∗ whole c cc0_scratch2 (wbv m ρ c) ∗ holds c (dstM 24 c) (Y m ρ 24 c) ∗ holds c (dstM 25 c) (Y m ρ 25 c) ∗ holds c (dstM 26 c) (Y m ρ 26 c) ∗ holds c (dstM 27 c) (Y m ρ 27 c))

/-- The state at the end. -/
def S79 (c : Dev nD) : sProp 𝕄 :=
  iprop(Net m ρ c 56 56 56 ∗ whole c cc0_stg0_0 (xv m ρ c) ∗ whole c cc0_stg1_0 (wv m ρ c) ∗ whole c cc0_scratch1 (xbv m ρ c) ∗ whole c cc0_scratch2 (wbv m ρ c)
    ∗ holds c (dstM 24 c) (Y m ρ 24 c) ∗ holds c (dstM 25 c) (Y m ρ 25 c) ∗ holds c (dstM 26 c) (Y m ρ 26 c) ∗ holds c (dstM 27 c) (Y m ρ 27 c)
    ∗ holds c (dstM 52 c) (V m ρ 52 (src 52 c)) ∗ holds c (dstM 53 c) (V m ρ 53 (src 53 c)) ∗ holds c (dstM 54 c) (V m ρ 54 (src 54 c)) ∗ holds c (dstM 55 c) (V m ρ 55 (src 55 c)))

set_option maxRecDepth 65536 in
set_option maxHeartbeats 4000000 in
theorem part79 (c : Dev nD) {Q : (Σ' (d0 : Dev nD) (v2 : BitVec 32) (v5 : BitVec 32) (v7 : BitVec 32) (v1364 : BitVec 32) (v1366 : BitVec 32), BitVec 32) → sProp 𝕄}
    (hQ : ∀ v2 v5 v7 a b d : BitVec 32, iprop(semVal (barCell c) 0 ∗ S60 m ρ c) ⊢ Q ⟨c, v2, v5, v7, a, b, d⟩) :
    iprop(Ghost m ρ c ∗ (∃ W, owes (c : Thread nD τ) (O₀ c) W) ∗ Bufs m ρ c)
      ⊢ wp frame (wpE (defs₀ (F := F)) 𝒱₀ (c : Thread nD τ) none) Set.univ (k0_part79 xM (Memref.isWhole_whole _) wM (Memref.isWhole_whole _) oM (Memref.isWhole_whole _) comM (Memref.isWhole_whole _) xbM (Memref.isWhole_whole _) wbM (Memref.isWhole_whole _) cc0_scratch3) Q := by
  rw [k0_part79_eq_skeleton]; unfold k0_part79_skel
  refine bind_step (part1 m ρ c fun v2 v5 v7 => ?_)
  refine carry ?_
  unfold S1
  refine bind_step (part2 m ρ c _ _ (?_))
  refine bind_step (part3 m ρ c _ _ (?_))
  refine bind_step (part4 m ρ c _ (?_))
  refine bind_step (part5 m ρ c _ _ (fun u5_0 => ?_))
  refine bind_step (part6 m ρ c _ _ _ (fun u6_0 => ?_))
  refine bind_step (part7 m ρ c _ _ (fun u7_0 u7_1 => ?_))
  refine bind_step (part8 m ρ c _ _ _ (?_))
  refine bind_step (part9 m ρ c _ _ (?_))
  refine bind_step (part10 m ρ c _ _ (?_))
  refine bind_step (part11 m ρ c _ _ (?_))
  refine bind_step (part12 m ρ c _ _ (fun u12_0 u12_1 => ?_))
  refine bind_step (part13 m ρ c _ _ _ (fun u13_0 => ?_))
  refine bind_step (part14 m ρ c _ _ (?_))
  refine bind_step (part15 m ρ c _ (?_))
  refine bind_step (part16 m ρ c _ _ _ (fun u16_0 => ?_))
  refine bind_step (part17 m ρ c _ _ (?_))
  refine bind_step (part18 m ρ c _ _ (?_))
  refine bind_step (part19 m ρ c _ _ (fun u19_0 u19_1 => ?_))
  refine bind_step (part20 m ρ c _ _ _ (fun u20_0 => ?_))
  refine bind_step (part21 m ρ c _ _ (?_))
  refine bind_step (part22 m ρ c _ (?_))
  refine bind_step (part23 m ρ c _ _ _ (?_))
  refine bind_step (part24 m ρ c _ (?_))
  refine bind_step (part25 m ρ c _ _ (?_))
  refine bind_step (part26 m ρ c _ _ (fun u26_0 u26_1 => ?_))
  refine bind_step (part27 m ρ c _ _ (?_))
  refine bind_step (part28 m ρ c _ _ (?_))
  refine bind_step (part29 m ρ c _ (?_))
  refine bind_step (part30 m ρ c _ _ _ (?_))
  refine bind_step (part31 m ρ c _ (?_))
  refine bind_step (part32 m ρ c _ _ (?_))
  refine bind_step (part33 m ρ c _ _ (fun u33_0 u33_1 => ?_))
  refine bind_step (part34 m ρ c _ _ (?_))
  refine bind_step (part35 m ρ c _ _ (?_))
  refine bind_step (part36 m ρ c _ (?_))
  refine bind_step (part37 m ρ c _ _ _ (?_))
  refine bind_step (part38 m ρ c _ (?_))
  refine bind_step (part39 m ρ c _ _ (?_))
  refine bind_step (part40 m ρ c _ _ (fun u40_0 u40_1 => ?_))
  refine bind_step (part41 m ρ c _ _ (?_))
  refine bind_step (part42 m ρ c _ _ (?_))
  refine bind_step (part43 m ρ c _ (?_))
  refine bind_step (part44 m ρ c _ _ _ (?_))
  refine bind_step (part45 m ρ c _ (?_))
  refine bind_step (part46 m ρ c _ _ (?_))
  refine bind_step (part47 m ρ c _ _ (fun u47_0 u47_1 => ?_))
  refine bind_step (part48 m ρ c _ _ _ (?_))
  refine bind_step (part49 m ρ c _ _ (?_))
  refine bind_step (part50 m ρ c _ _ (?_))
  refine bind_step (part51 m ρ c _ _ (fun u51_0 u51_1 => ?_))
  refine bind_step (part52 m ρ c _ _ (?_))
  refine bind_step (part53 m ρ c _ _ (?_))
  refine bind_step (part54 m ρ c _ _ (?_))
  refine bind_step (part55 m ρ c _ (fun u55_0 => ?_))
  refine bind_step (part56 m ρ c _ _ _ _ (fun u56_0 u56_1 => ?_))
  refine bind_step (part57 m ρ c _ _ _ (?_))
  refine bind_step (part58 m ρ c _ _ (?_))
  refine bind_step (part59 m ρ c _ _ _ (fun u59_0 u59_1 => ?_))
  refine bind_step (part60 m ρ c _ _ _ (fun u60_0 => ?_))
  rw [Prog.pure_eq_ret, wp_ret]
  iintro H
  imodintro
  iintro Hz
  iapply (hQ _ _ _ _ _ _)
  isplitl [Hz]; · iexact Hz
  unfold S60; iexact H

set_option maxRecDepth 65536 in
set_option maxHeartbeats 4000000 in
theorem body_run (c : Dev nD) {Q : PUnit → sProp 𝕄} (hQ : iprop(semVal (barCell c) 0 ∗ S79 m ρ c) ⊢ Q ⟨⟩) :
    iprop(Ghost m ρ c ∗ (∃ W, owes (c : Thread nD τ) (O₀ c) W) ∗ Bufs m ρ c)
      ⊢ wp frame (wpE (defs₀ (F := F)) 𝒱₀ (c : Thread nD τ) none) Set.univ (cc0_body xM (Memref.isWhole_whole _) wM (Memref.isWhole_whole _) oM (Memref.isWhole_whole _) comM (Memref.isWhole_whole _) xbM (Memref.isWhole_whole _) wbM (Memref.isWhole_whole _) cc0_scratch3) Q := by
  rw [cc0_body_eq_skeleton]; unfold cc0_body_skel
  refine bind_step (part79 m ρ c fun v2 v5 v7 a b d => ?_)
  refine carry ?_
  unfold S60
  refine bind_step (part61 m ρ c _ _ _ _ (?_))
  refine bind_step (part62 m ρ c _ _ _ _ (?_))
  refine bind_step (part63 m ρ c _ _ _ (fun u63_0 u63_1 => ?_))
  refine bind_step (part64 m ρ c _ _ _ (?_))
  refine bind_step (part65 m ρ c _ _ _ (?_))
  refine bind_step (part66 m ρ c _ _ _ (?_))
  refine bind_step (part67 m ρ c _ _ (fun u67_0 u67_1 => ?_))
  refine bind_step (part68 m ρ c _ _ (?_))
  refine bind_step (part69 m ρ c _ _ _ (fun u69_0 => ?_))
  refine bind_step (part70 m ρ c _ _ _ _ (fun u70_0 u70_1 => ?_))
  refine bind_step (part71 m ρ c _ _ _ (?_))
  refine bind_step (part72 m ρ c _ _ _ _ (?_))
  refine bind_step (part73 m ρ c _ _ _ (?_))
  refine bind_step (part74 m ρ c _ _ _ (fun u74_0 u74_1 => ?_))
  refine bind_step (part75 m ρ c _ _ _ (?_))
  refine bind_step (part76 m ρ c _ _ _ (?_))
  refine bind_step (part77 m ρ c _ _ (?_))
  refine bind_step (part78 m ρ c _ _ (fun u78_0 u78_1 => ?_))
  simp only [Prog.lift, Prog.bind_op, Prog.bind_ret, Prog.pure_eq_ret]
  iintro ⟨HN, HX, HW, HXb, HWb, H24, H25, H26, H27, H52, H53, H54⟩
  iapply (step_waitR m ρ c (A := 56) (B := 54) (R := 55) (by decide) (by decide) (by decide) (rfl : _ = recvS 55)) $$ HN
  iintro ⟨HN, H55⟩
  iapply (step_waitS m ρ c (A := 56) (B := 54) (R := 56) (by decide) (by decide) (by decide) (rfl : _ = sendS 54)) $$ HN
  iintro HN
  iapply (step_waitS m ρ c (A := 56) (B := 55) (R := 56) (by decide) (by decide) (by decide) (rfl : _ = sendS 55)) $$ HN
  iintro HN
  rw [wp_ret]
  imodintro
  iintro Hz
  iapply hQ
  isplitl [Hz]; · iexact Hz
  unfold S79
  isplitl [HN]; · iexact HN
  isplitl [HX]; · iexact HX
  isplitl [HW]; · iexact HW
  isplitl [HXb]; · iexact HXb
  isplitl [HWb]; · iexact HWb
  isplitl [H24]; · iexact H24
  isplitl [H25]; · iexact H25
  isplitl [H26]; · iexact H26
  isplitl [H27]; · iexact H27
  isplitl [H52]; · iexact H52
  isplitl [H53]; · iexact H53
  isplitl [H54]; · iexact H54
  iexact H55

end Cert.RingProof

end
-- ==== Proof.Regions.lean ====
/-
# The buffers of the two-way ring, whole and region by region

The communication buffer is its twelve slots; the result is its thirty-two blocks, each with the value it ends at.
-/
module

public import proofs.«01_k».proof.Proof.Enter

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ) (ρ : Dev nD → PrngReg)

/-! ## Runs of numbered resources, shifted -/

omit [FloatOps F] in
theorem I_append {a b d : ℕ} (h : a ≤ b) (h' : b ≤ d) (f : ℕ → sProp 𝕄) : I a d f = iprop(I a b f ∗ I b d f) := by
  unfold I
  rw [← Finset.Ico_union_Ico_eq_Ico h h']
  exact bigSep_union (Finset.Ico_disjoint_Ico_consecutive a b d)

omit [FloatOps F] in
theorem I_period (f : ℕ → sProp 𝕄) (hf : ∀ n, f (n + 12) = f n) (a : ℕ) : I a (a + 12) f = I 0 12 f := by
  induction a with
  | zero => rfl
  | succ a ih => rw [← ih, I_front (show a < a + 12 by omega), show a + 1 + 12 = a + 12 + 1 by omega, I_back (show a + 1 ≤ a + 12 by omega), hf]

omit [FloatOps F] in
theorem I_congr {a b : ℕ} {f g : ℕ → sProp 𝕄} (h : ∀ n, a ≤ n → n < b → f n = g n) : I a b f = I a b g := by
  unfold I; exact bigSep_congr fun n hn => h n (Finset.mem_Ico.mp hn).1 (Finset.mem_Ico.mp hn).2

omit [FloatOps F] in
theorem I_mono {a b : ℕ} {f g : ℕ → sProp 𝕄} (h : ∀ n, a ≤ n → n < b → f n ⊢ g n) : I a b f ⊢ I a b g := by
  unfold I; exact bigSep_mono fun n hn => h n (Finset.mem_Ico.mp hn).1 (Finset.mem_Ico.mp hn).2

omit [FloatOps F] in
theorem I_shift (k : ℕ) {a b : ℕ} (f : ℕ → sProp 𝕄) : I (a + k) (b + k) f = I a b (fun n => f (n + k)) := by
  induction b with
  | zero => unfold I; rw [Finset.Ico_eq_empty (by omega), Finset.Ico_eq_empty (by omega), bigSep_empty, bigSep_empty]
  | succ b ih =>
    by_cases h : a ≤ b
    · rw [show b + 1 + k = b + k + 1 by omega, I_back (show a + k ≤ b + k by omega), ih, I_back h]
    · unfold I; rw [Finset.Ico_eq_empty (by omega), Finset.Ico_eq_empty (by omega), bigSep_empty, bigSep_empty]

/-! ## The communication buffer -/

theorem mem_slot (q : Fin 4) (k : Fin 3) (i : (cc0_scratch0 : Ref sig .tc).ty.Idx) :
    i ∈ (show Finset (cc0_scratch0 : Ref sig .tc).ty.Idx from (slotM q k).view.set) ↔ (i 0).val = q.val ∧ (i 1).val = k.val := by
  rw [show (show Finset (cc0_scratch0 : Ref sig .tc).ty.Idx from (slotM q k).view.set) = (slotR q k).set from (slot_set q k).trans Finset.map_refl]
  refine (Rect.mem_set_unit (s := (cc0_scratch0 : Ref sig .tc).ty.shape)).trans ?_
  have h2 : (i 2).val < 512 := (i 2).isLt
  have h3 : (i 3).val < 512 := (i 3).isLt
  constructor
  · intro h
    have a0 := h 0
    have a1 := h 1
    change q.val ≤ (i 0).val ∧ (i 0).val < q.val + 1 at a0
    change k.val ≤ (i 1).val ∧ (i 1).val < k.val + 1 at a1
    omega
  · rintro ⟨h, h'⟩ a
    fin_cases a
    · show q.val ≤ (i 0).val ∧ (i 0).val < q.val + 1; omega
    · show k.val ≤ (i 1).val ∧ (i 1).val < k.val + 1; omega
    · show 0 ≤ (i 2).val ∧ (i 2).val < 0 + 512; omega
    · show 0 ≤ (i 3).val ∧ (i 3).val < 0 + 512; omega

/-- The elements of slot number `n`. -/
def slotSet (n : ℕ) : Finset (cc0_scratch0 : Ref sig .tc).ty.Idx := (slotM (qn n) (kdst n)).view.set

theorem slot_one : ∀ a b : Fin 12, qn a.val = qn b.val → kdst a.val = kdst b.val → a = b := by decide
theorem slot_all : ∀ (q : Fin 4) (k : Fin 3), ∃ n : Fin 12, qn n.val = q ∧ kdst n.val = k := by decide

theorem slot_disjoint : ∀ a ∈ Finset.Ico 0 12, ∀ b ∈ Finset.Ico 0 12, a ≠ b → Disjoint (slotSet a) (slotSet b) := fun a ha b hb hab => by
  rw [Finset.disjoint_left]
  intro i h h'
  have h1 := (mem_slot _ _ i).mp h
  have h2 := (mem_slot _ _ i).mp h'
  have ha' := (Finset.mem_Ico.mp ha).2
  have hb' := (Finset.mem_Ico.mp hb).2
  exact hab (congrArg Fin.val (slot_one ⟨a, ha'⟩ ⟨b, hb'⟩ (Fin.ext (h1.1.symm.trans h2.1)) (Fin.ext (h1.2.symm.trans h2.2))))
theorem slot_cover : (Finset.Ico 0 12).biUnion slotSet = Finset.univ := by
  ext i
  have h0 : (i 0).val < 4 := (i 0).isLt
  have h1 : (i 1).val < 3 := (i 1).isLt
  simp only [Finset.mem_biUnion, Finset.mem_univ, iff_true]
  obtain ⟨n, hn, hn'⟩ := slot_all ⟨(i 0).val, h0⟩ ⟨(i 1).val, h1⟩
  exact ⟨n.val, Finset.mem_Ico.mpr ⟨Nat.zero_le _, n.isLt⟩, (mem_slot _ _ i).mpr ⟨by rw [hn], by rw [hn']⟩⟩

omit [FloatOps F] in
theorem slotDead_eq (c : Dev nD) (n : ℕ) : slotDead (F := F) c n = iprop(∃ f : Buf (Elt F) ((c : Thread nD τ).loc cc0_scratch0), ((c : Thread nD τ).loc cc0_scratch0) ↦[slotSet n]{fullShare} f) := rfl

omit [FloatOps F] in
theorem comm_eq (c : Dev nD) (f : Buf (Elt F) ((c : Thread nD τ).loc cc0_scratch0)) :
    whole (F := F) c cc0_scratch0 f = bigSep (Finset.Ico 0 12) (fun n => (((c : Thread nD τ).loc cc0_scratch0) ↦[slotSet n]{fullShare} f : sProp 𝕄)) :=
  (congrArg (fun S => (((c : Thread nD τ).loc cc0_scratch0) ↦[S]{fullShare} f : sProp 𝕄)) slot_cover.symm).trans
    (pointsTo_biUnion (ℓ := (c : Thread nD τ).loc cc0_scratch0) (Finset.Ico 0 12) slotSet slot_disjoint)

omit [FloatOps F] in
theorem slotDead_intro (c : Dev nD) (n : ℕ) (f : Buf (Elt F) ((c : Thread nD τ).loc cc0_scratch0)) :
    (((c : Thread nD τ).loc cc0_scratch0) ↦[slotSet n]{fullShare} f : sProp 𝕄) ⊢ slotDead c n := by
  rw [slotDead_eq]
  iintro H
  iexists f
  iexact H

omit [FloatOps F] in
/-- The communication buffer at some contents gives its slots; -/
theorem comm_split (c : Dev nD) (f : Buf (Elt F) ((c : Thread nD τ).loc cc0_scratch0)) : whole (F := F) c cc0_scratch0 f ⊢ I 0 12 (slotDead c) := by
  rw [comm_eq]
  unfold I
  exact bigSep_mono fun n _ => slotDead_intro c n f

omit [FloatOps F] in
/-- the slots give it back. -/
theorem comm_join (c : Dev nD) (f₀ : Buf (Elt F) ((c : Thread nD τ).loc cc0_scratch0)) : I 0 12 (slotDead (F := F) c) ⊢ iprop(∃ f, whole (F := F) c cc0_scratch0 f) := by
  have hn : Nonempty (Buf (Elt F) ((c : Thread nD τ).loc cc0_scratch0)) := ⟨f₀⟩
  have e := (show I 0 12 (slotDead (F := F) c) ⊢ _ from
    BI.bigSep_exists_pi (Finset.Ico 0 12) (fun n (f : Buf (Elt F) ((c : Thread nD τ).loc cc0_scratch0)) => (((c : Thread nD τ).loc cc0_scratch0) ↦[slotSet n]{fullShare} f : sProp 𝕄)))
  refine e.trans ?_
  iintro ⟨%fs, H⟩
  ihave H' := (pointsTo_biUnion_join (ℓ := (c : Thread nD τ).loc cc0_scratch0) (Finset.Ico 0 12) slotSet fs f₀ slot_disjoint) $$ H
  icases H' with ⟨%g, -, H⟩
  iexists g
  unfold whole
  iapply (Entails.of_eq (congrArg (fun S => (((c : Thread nD τ).loc cc0_scratch0) ↦[S]{fullShare} g : sProp 𝕄)) slot_cover))
  iexact H

omit [FloatOps F] in
theorem slotDead_period (c : Dev nD) (n : ℕ) : slotDead (F := F) c (n + 12) = slotDead c n := by
  unfold slotDead
  rw [qn_mod (n + 12), kdst_mod (n + 12), Nat.add_mod_right, ← qn_mod, ← kdst_mod]

/-! ## The result -/

theorem mem_out (ch : Fin 8) (q : Fin 4) (i : (cc0_stg2_0 : Ref sig .tc).ty.Idx) :
    i ∈ (show Finset (cc0_stg2_0 : Ref sig .tc).ty.Idx from (outM ch q).view.set) ↔ (i 0).val / 512 = ch.val ∧ (i 1).val / 512 = q.val := by
  rw [show (show Finset (cc0_stg2_0 : Ref sig .tc).ty.Idx from (outM ch q).view.set) = (outR ch q).set from (out_set ch q).trans Finset.map_refl]
  refine (Rect.mem_set_unit (s := (cc0_stg2_0 : Ref sig .tc).ty.shape)).trans ?_
  constructor
  · intro h
    have a0 := h 0
    have a1 := h 1
    change 512 * ch.val ≤ (i 0).val ∧ (i 0).val < 512 * ch.val + 512 at a0
    change 512 * q.val ≤ (i 1).val ∧ (i 1).val < 512 * q.val + 512 at a1
    omega
  · rintro ⟨h, h'⟩ a
    fin_cases a
    · show 512 * ch.val ≤ (i 0).val ∧ (i 0).val < 512 * ch.val + 512; omega
    · show 512 * q.val ≤ (i 1).val ∧ (i 1).val < 512 * q.val + 512; omega

/-- The block of the result transfer `n` of device `c` carries, and its elements. -/
def blkM (c : Dev nD) (n : ℕ) : Memref sig .tc .vmem S512x512 .bf16 := outM (chS n c) (qn n)
def blkSet (c : Dev nD) (n : ℕ) : Finset (cc0_stg2_0 : Ref sig .tc).ty.Idx := (blkM c n).view.set

theorem chS_next (n : ℕ) (hn : n < 56) (c : Dev nD) : chS (n + 4) c = chS n (src n c) := by
  have hc := c.isLt
  have h8 : nD = 8 := rfl
  unfold chS src nxt prv
  have h2 : (n + 4) % 2 = n % 2 := by omega
  by_cases h : n % 2 = 0
  · rw [if_pos h, if_pos h, if_pos (h2.trans h)]
    exact Fin.ext (by show (c.val + 16 - (n + 4) / 4) % 8 = ((c.val + 7) % 8 + 16 - n / 4) % 8; omega)
  · rw [if_neg h, if_neg h, if_neg (by rw [h2]; exact h)]
    exact Fin.ext (by show (c.val + (n + 4) / 4) % 8 = ((c.val + 1) % 8 + n / 4) % 8; omega)

theorem blk_src (c : Dev nD) (n : ℕ) (h : 28 ≤ n) : srcM n c = blkM c n := if_neg (by omega)
theorem blk_dst (c : Dev nD) (n : ℕ) (h : 28 ≤ n) (h' : n < 56) : dstM n c = blkM c (n + 4) := by
  unfold dstM blkM; rw [if_neg (by omega), chS_next n h' c, qn_add4]

theorem blk_one : ∀ (c : Dev nD) (a b : Fin 32), chS (28 + a.val) c = chS (28 + b.val) c → qn (28 + a.val) = qn (28 + b.val) → a = b := by decide +kernel
theorem blk_all : ∀ (c : Dev nD) (ch : Fin 8) (q : Fin 4), ∃ n : Fin 32, chS (28 + n.val) c = ch ∧ qn (28 + n.val) = q := by decide +kernel

theorem blk_disjoint (c : Dev nD) : ∀ a ∈ Finset.Ico 28 60, ∀ b ∈ Finset.Ico 28 60, a ≠ b → Disjoint (blkSet c a) (blkSet c b) := fun a ha b hb hab => by
  rw [Finset.disjoint_left]
  intro i h h'
  have h1 := (mem_out _ _ i).mp h
  have h2 := (mem_out _ _ i).mp h'
  obtain ⟨x, rfl⟩ := Nat.exists_eq_add_of_le (Finset.mem_Ico.mp ha).1
  obtain ⟨y, rfl⟩ := Nat.exists_eq_add_of_le (Finset.mem_Ico.mp hb).1
  have ha' := (Finset.mem_Ico.mp ha).2
  have hb' := (Finset.mem_Ico.mp hb).2
  exact hab (congrArg (28 + ·) (congrArg Fin.val (blk_one c ⟨x, by omega⟩ ⟨y, by omega⟩ (Fin.ext (h1.1.symm.trans h2.1)) (Fin.ext (h1.2.symm.trans h2.2)))))
theorem blk_cover (c : Dev nD) : (Finset.Ico 28 60).biUnion (blkSet c) = Finset.univ := by
  ext i
  have h0 : (i 0).val < 4096 := (i 0).isLt
  have h1 : (i 1).val < 2048 := (i 1).isLt
  simp only [Finset.mem_biUnion, Finset.mem_univ, iff_true]
  obtain ⟨n, hn, hn'⟩ := blk_all c ⟨(i 0).val / 512, by omega⟩ ⟨(i 1).val / 512, by omega⟩
  exact ⟨28 + n.val, Finset.mem_Ico.mpr ⟨by omega, by have := n.isLt; omega⟩, (mem_out _ _ i).mpr ⟨by rw [hn], by rw [hn']⟩⟩

omit [FloatOps F] in
theorem out_whole_eq (c : Dev nD) (f : Buf (Elt F) ((c : Thread nD τ).loc cc0_stg2_0)) :
    whole (F := F) c cc0_stg2_0 f = bigSep (Finset.Ico 28 60) (fun n => (((c : Thread nD τ).loc cc0_stg2_0) ↦[blkSet c n]{fullShare} f : sProp 𝕄)) :=
  (congrArg (fun S => (((c : Thread nD τ).loc cc0_stg2_0) ↦[S]{fullShare} f : sProp 𝕄)) (blk_cover c).symm).trans
    (pointsTo_biUnion (ℓ := (c : Thread nD τ).loc cc0_stg2_0) (Finset.Ico 28 60) (blkSet c) (blk_disjoint c))

omit [FloatOps F] in
theorem blkDead_intro (c : Dev nD) (n : ℕ) (f : Buf (Elt F) ((c : Thread nD τ).loc cc0_stg2_0)) :
    (((c : Thread nD τ).loc cc0_stg2_0) ↦[blkSet c n]{fullShare} f : sProp 𝕄) ⊢ dead c (blkM c n) := by
  rw [show dead (F := F) c (blkM c n) = iprop(∃ f : Buf (Elt F) ((c : Thread nD τ).loc cc0_stg2_0), ((c : Thread nD τ).loc cc0_stg2_0) ↦[blkSet c n]{fullShare} f) from rfl]
  iintro H
  iexists f
  iexact H

omit [FloatOps F] in
/-- The result's buffer at some contents gives its blocks. -/
theorem out_split (c : Dev nD) (f : (cc0_stg2_0 : Ref sig .tc).ty.Contents (Elt F)) : whole (F := F) c cc0_stg2_0 f ⊢ I 28 60 (fun n => dead c (blkM c n)) := by
  rw [out_whole_eq]
  unfold I
  exact bigSep_mono fun n _ => blkDead_intro c n f

/-- The transfer number of ring `q`. -/
def pos (q : Fin 4) : ℕ := match q with | 0 => 0 | 1 => 2 | 2 => 1 | 3 => 3

/-- The block of the result at rows `ch` and columns `q`: the finished sum of the device its ring's first half ends at. -/
def resV (ch : Fin 8) (q : Fin 4) : Vec F S512x512 .bf16 := geluV (Y m ρ (24 + pos q) (src (pos q) ch))

theorem V_res (n : ℕ) (h : 28 ≤ n) (h' : n < 60) (c : Dev nD) : V m ρ n c = resV m ρ (chS n c) (qn n) := by
  induction n using Nat.strong_induction_on generalizing c with
  | _ n ih =>
    by_cases h4 : n < 32
    · have hb : ∀ p : Fin 4, V m ρ (24 + p.val + 4) c = resV m ρ (chS (24 + p.val + 4) c) (qn (24 + p.val + 4)) := fun p => by
        rw [V_gelu m ρ (24 + p.val) (by omega) (by omega)]
        unfold resV
        have e1 : ∀ p : Fin 4, pos (qn (24 + p.val + 4)) = p.val := by decide
        have e2 : ∀ (c : Dev nD) (p : Fin 4), src p.val (chS (24 + p.val + 4) c) = c := by decide
        rw [e1 p, e2 c p]
      obtain ⟨p, rfl⟩ := Nat.exists_eq_add_of_le h
      have := hb ⟨p, by omega⟩
      rwa [show 28 + p = 24 + p + 4 by omega]
    · obtain ⟨k, rfl⟩ := Nat.exists_eq_add_of_le (show 4 ≤ n by omega)
      rw [show 4 + k = k + 4 by omega, V_gather m ρ k (by omega), ih k (by omega) (by omega) (by omega), chS_next k (by omega) c, qn_add4]

/-- The index of a block at row `a` and column `b`. -/
def bix (a b : ℕ) : S512x512.Idx
  | 0 => (⟨a % 512, Nat.mod_lt _ (by decide)⟩ : Fin 512)
  | 1 => (⟨b % 512, Nat.mod_lt _ (by decide)⟩ : Fin 512)

theorem bix_self (j : S512x512.Idx) (a b : ℕ) (h0 : a % 512 = (j 0).val) (h1 : b % 512 = (j 1).val) : bix a b = j := by
  funext d
  match d with
  | 0 => exact Fin.ext h0
  | 1 => exact Fin.ext h1

/-- The result. -/
def outv : (cc0_stg2_0 : Ref sig .tc).ty.Contents (Elt F) := fun i =>
  resV m ρ ⟨(i 0).val / 512, by have : (i 0).val < 4096 := (i 0).isLt; omega⟩ ⟨(i 1).val / 512, by have : (i 1).val < 2048 := (i 1).isLt; omega⟩
    (bix (i 0).val (i 1).val)

theorem outv_emb (ch : Fin 8) (q : Fin 4) (j : S512x512.Idx) (i : (cc0_stg2_0 : Ref sig .tc).ty.Idx)
    (h : (i 0).val = 512 * ch.val + (j 0).val) (h' : (i 1).val = 512 * q.val + (j 1).val) : outv m ρ i = resV m ρ ch q j := by
  have h0 : (j 0).val < 512 := (j 0).isLt
  have h1 : (j 1).val < 512 := (j 1).isLt
  unfold outv
  rw [bix_self j _ _ (by omega) (by omega), show (⟨(i 0).val / 512, _⟩ : Fin 8) = ch from Fin.ext (by show (i 0).val / 512 = ch.val; omega),
    show (⟨(i 1).val / 512, _⟩ : Fin 4) = q from Fin.ext (by show (i 1).val / 512 = q.val; omega)]

theorem out_block (c : Dev nD) (n : ℕ) (h : 28 ≤ n) (h' : n < 60) :
    holds c (blkM c n) (V m ρ n c) ⊢ (((c : Thread nD τ).loc cc0_stg2_0) ↦[blkSet c n]{fullShare} (outv m ρ : Buf (Elt F) ((c : Thread nD τ).loc cc0_stg2_0)) : sProp 𝕄) := by
  unfold blkM blkSet
  rw [holds_out]
  iintro ⟨%f, %hf, H⟩
  iapply (Entails.of_eq (show (((c : Thread nD τ).loc cc0_stg2_0) ↦[(outM (chS n c) (qn n)).view.set]{fullShare} f : sProp 𝕄)
      = ((c : Thread nD τ).loc cc0_stg2_0) ↦[(outM (chS n c) (qn n)).view.set]{fullShare} (outv m ρ : Buf (Elt F) ((c : Thread nD τ).loc cc0_stg2_0)) from
    pointsTo_congr fun i hi => by
      obtain ⟨j, -, rfl⟩ := Finset.mem_map.mp hi
      refine (congrFun hf j).trans ?_
      rw [V_res m ρ n h h']
      refine (outv_emb m ρ _ _ j _ ?_ ?_).symm
      · show 512 * (chS n c).val + 1 * (j 0).val = _; omega
      · show 512 * (qn n).val + 1 * (j 1).val = _; omega)) $$ H

/-- The finished blocks give the result's buffer back, holding the result. -/
theorem out_join (c : Dev nD) : I 28 60 (fun n => holds c (blkM c n) (V m ρ n c)) ⊢ whole c cc0_stg2_0 (outv m ρ) := by
  rw [out_whole_eq]
  unfold I
  exact bigSep_mono fun n hn => out_block m ρ c n (Finset.mem_Ico.mp hn).1 (Finset.mem_Ico.mp hn).2

end Cert.RingProof

end
-- ==== Proof.Finish.lean ====
/-
# Where the body of the two-way ring begins and ends

The buffers a device is handed, cut into what the body starts from; what the body leaves, joined again, its semaphores at
zero and the result's buffer holding the result.
-/
module

public import proofs.«01_k».proof.Proof.Body
public import proofs.«01_k».proof.Proof.Regions

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ) (ρ : Dev nD → PrngReg)

/-! ## The beginning -/

omit [FloatOps F] in
theorem I4 {a b : ℕ} (h : b = a + 4) (f : ℕ → sProp 𝕄) : I a b f = iprop(f a ∗ f (a + 1) ∗ f (a + 2) ∗ f (a + 3)) := by
  subst h
  rw [I_front (show a < a + 4 by omega), I_front (show a + 1 < a + 4 by omega), I_front (show a + 1 + 1 < a + 4 by omega), I_front (show a + 1 + 1 + 1 < a + 4 by omega), I_nil (le_refl _)]
  exact congrArg _ (congrArg _ (congrArg _ (sep_emp_eq _)))

omit [FloatOps F] in
theorem slot_at (c : Dev nD) (n : ℕ) (q : Fin 4) (k : Fin 3) (hq : qn n = q) (hk : kdst n = k) : slotDead (F := F) c n = dead c (slotM q k) := by
  unfold slotDead; rw [hq, hk]

omit [FloatOps F] in
/-- The communication buffer and the result's, cut up. -/
theorem bufs_split (c : Dev nD) (f0 : (cc0_scratch0 : Ref sig .tc).ty.Contents (Elt F)) (f2 : (cc0_stg2_0 : Ref sig .tc).ty.Contents (Elt F)) :
    iprop(whole c cc0_scratch0 f0 ∗ whole c cc0_stg2_0 f2)
      ⊢ iprop(dead c (slotM 0 0) ∗ dead c (slotM 1 0) ∗ dead c (slotM 2 0) ∗ dead c (slotM 3 0)
          ∗ dead c (srcM 28 c) ∗ dead c (srcM 29 c) ∗ dead c (srcM 30 c) ∗ dead c (srcM 31 c)
          ∗ I 0 8 (slotDead c) ∗ I 28 56 (outDead c)) := by
  iintro ⟨H0, H2⟩
  ihave H0 := (comm_split c f0) $$ H0
  ihave H2 := (out_split c f2) $$ H2
  ihave H0 := (Entails.of_eq ((I_append (show 0 ≤ 8 by decide) (show 8 ≤ 12 by decide) (slotDead c)).trans (congrArg (fun X => iprop(I 0 8 (slotDead c) ∗ X)) (I4 rfl (slotDead c))))) $$ H0
  icases H0 with ⟨Hs, D0, D2, D1, D3⟩
  ihave H2 := (Entails.of_eq ((I_append (show 28 ≤ 32 by decide) (show 32 ≤ 60 by decide) (fun n => dead c (blkM c n))).trans (congrArg (fun X => iprop(X ∗ I 32 60 (fun n => dead c (blkM c n)))) (I4 rfl (fun n => dead c (blkM c n)))))) $$ H2
  icases H2 with ⟨⟨O0, O1, O2, O3⟩, Ho⟩
  ihave Ho := (Entails.of_eq ((I_shift 4 (a := 28) (b := 56) (fun n => dead (F := F) c (blkM c n))).trans (I_congr (g := outDead c) fun n h h' => (congrArg (dead (F := F) c) (blk_dst c n h h')).symm))) $$ Ho
  isplitl [D0]; · iapply (Entails.of_eq (slot_at c (8) 0 0 (by decide) (by decide))); iexact D0
  isplitl [D1]; · iapply (Entails.of_eq (slot_at c (8 + 2) 1 0 (by decide) (by decide))); iexact D1
  isplitl [D2]; · iapply (Entails.of_eq (slot_at c (8 + 1) 2 0 (by decide) (by decide))); iexact D2
  isplitl [D3]; · iapply (Entails.of_eq (slot_at c (8 + 3) 3 0 (by decide) (by decide))); iexact D3
  isplitl [O0]; · iexact O0
  isplitl [O1]; · iexact O1
  isplitl [O2]; · iexact O2
  isplitl [O3]; · iexact O3
  isplitl [Hs]; · iexact Hs
  iexact Ho

/-! ## The end -/

omit [FloatOps F] in
theorem bigSep_with_persistent {J : Type} [DecidableEq J] {S : Finset J} {R : sProp 𝕄} [BI.Persistent R] {Φ Ψ : J → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem close_sends (c : Dev nD) : iprop(recs m ρ ∗ I 56 68 (posS c)) ⊢ |={Set.univ}=> I 0 12 (fun n => semVal (sendCell n c) 0) := by
  rw [← I_period (fun n => (semVal (sendCell n c) 0 : sProp 𝕄)) (fun n => by unfold sendCell; rw [sendS_add]) 56]
  unfold I
  refine (bigSep_with_persistent (R := recs m ρ) (Ψ := fun n => iprop(|={Set.univ}=> semVal (sendCell n c) 0)) fun n hn => ?_).trans (bigSep_fupd _ _)
  unfold posS
  iintro ⟨Hr, Ha, -⟩
  ihave Hi := (inv_send m ρ n c) $$ Hr
  unfold inv
  icases Hi with ⟨%κ, Hi⟩
  iapply (Rounds.cell_close ER (ringRd m ρ) (Set.mem_univ κ) (fun h => h) (R := n / 12) (duties_dma_later m ρ c (sendS n) (n / 12) (by rw [numOf_send]; exact (Finset.mem_Ico.mp hn).1)))
  isplitl [Hi]; · iexact Hi
  iexact Ha

theorem close_recvs (c : Dev nD) : iprop(recs m ρ ∗ I 56 68 (posR c)) ⊢ |={Set.univ}=> I 0 12 (fun n => semVal (recvCell n c) 0) := by
  rw [← I_period (fun n => (semVal (recvCell n c) 0 : sProp 𝕄)) (fun n => by unfold recvCell; rw [recvS_add]) 56]
  unfold I
  refine (bigSep_with_persistent (R := recs m ρ) (Ψ := fun n => iprop(|={Set.univ}=> semVal (recvCell n c) 0)) fun n hn => ?_).trans (bigSep_fupd _ _)
  unfold posR
  iintro ⟨Hr, Ha, -⟩
  ihave Hi := (inv_recv m ρ n c) $$ Hr
  unfold inv
  icases Hi with ⟨%κ, Hi⟩
  iapply (Rounds.cell_close ER (ringRd m ρ) (Set.mem_univ κ) (fun h => h) (R := n / 12) (duties_dma_later m ρ c (recvS n) (n / 12) (by rw [numOf_recv]; exact (Finset.mem_Ico.mp hn).1)))
  isplitl [Hi]; · iexact Hi
  iexact Ha

omit [FloatOps F] in
theorem slot_of_dst (c : Dev nD) (n : ℕ) (h : n < 28) (v : Vec F S512x512 .bf16) : holds c (dstM n c) v ⊢ slotDead c n := by
  refine (holds_dead c (dstM n c) v).trans (Entails.of_eq ?_)
  unfold slotDead dstM; rw [if_pos h]

theorem blk_of_dst (c : Dev nD) (n : ℕ) (h : 28 ≤ n) (h' : n < 56) : holds c (dstM n c) (V m ρ n (src n c)) ⊢ holds c (blkM c (n + 4)) (V m ρ (n + 4) c) :=
  Entails.of_eq (by rw [blk_dst c n h h', V_gather m ρ n h])

/-- What the body leaves, besides its barrier cell: it owes nothing more, its cells are at zero, the arguments' copies are
    unchanged and the result's buffer holds the result. -/
def Done (c : Dev nD) : sProp 𝕄 :=
  iprop((∃ W, owes (c : Thread nD τ) (0 : CellTallies nD τ sig ℕ) W)
    ∗ I 0 12 (fun n => semVal (sendCell n c) 0) ∗ I 0 12 (fun n => semVal (recvCell n c) 0)
    ∗ whole c cc0_stg0_0 (xv m ρ c) ∗ whole c cc0_stg1_0 (wv m ρ c) ∗ whole c cc0_stg2_0 (outv m ρ)
    ∗ (∃ f, whole c cc0_scratch0 f) ∗ (∃ f, whole c cc0_scratch1 f) ∗ (∃ f, whole c cc0_scratch2 f))

theorem comm_back (c : Dev nD) :
    iprop(I 28 36 (slotDead c) ∗ holds c (dstM 24 c) (Y m ρ 24 c) ∗ holds c (dstM 25 c) (Y m ρ 25 c) ∗ holds c (dstM 26 c) (Y m ρ 26 c) ∗ holds c (dstM 27 c) (Y m ρ 27 c))
      ⊢ iprop(∃ f, whole (F := F) c cc0_scratch0 f) := by
  refine BIBase.Entails.trans ?_ (comm_join c (m ((c : Thread nD τ).loc cc0_scratch0)))
  rw [← I_period (slotDead (F := F) c) (slotDead_period c) 24, I_append (show 24 ≤ 28 by decide) (show 28 ≤ 24 + 12 by decide) (slotDead (F := F) c), I4 rfl (slotDead (F := F) c)]
  iintro ⟨Hs, H0, H1, H2, H3⟩
  isplitr [Hs]
  · isplitl [H0]; · iapply (slot_of_dst c 24 (by decide) _); iexact H0
    isplitl [H1]; · iapply (slot_of_dst c 25 (by decide) _); iexact H1
    isplitl [H2]; · iapply (slot_of_dst c 26 (by decide) _); iexact H2
    iapply (slot_of_dst c 27 (by decide) _); iexact H3
  iexact Hs

theorem out_back (c : Dev nD) :
    iprop(I 28 56 (fun n => sendPay m ρ n c) ∗ holds c (dstM 52 c) (V m ρ 52 (src 52 c)) ∗ holds c (dstM 53 c) (V m ρ 53 (src 53 c)) ∗ holds c (dstM 54 c) (V m ρ 54 (src 54 c)) ∗ holds c (dstM 55 c) (V m ρ 55 (src 55 c)))
      ⊢ whole c cc0_stg2_0 (outv m ρ) := by
  refine BIBase.Entails.trans ?_ (out_join m ρ c)
  rw [I_append (show 28 ≤ 56 by decide) (show 56 ≤ 60 by decide) (fun n => holds c (blkM c n) (V m ρ n c)), I4 rfl (fun n => holds c (blkM c n) (V m ρ n c)),
    I_congr (f := fun n => sendPay m ρ n c) (g := fun n => holds c (blkM c n) (V m ρ n c)) fun n h h' => by unfold sendPay; rw [blk_src c n h]]
  iintro ⟨Hs, H0, H1, H2, H3⟩
  isplitl [Hs]; · iexact Hs
  isplitl [H0]; · iapply (blk_of_dst m ρ c 52 (by decide) (by decide)); iexact H0
  isplitl [H1]; · iapply (blk_of_dst m ρ c 53 (by decide) (by decide)); iexact H1
  isplitl [H2]; · iapply (blk_of_dst m ρ c 54 (by decide) (by decide)); iexact H2
  iapply (blk_of_dst m ρ c 55 (by decide) (by decide)); iexact H3

theorem finish (c : Dev nD) : S79 m ρ c ⊢ |={Set.univ}=> Done m ρ c := by
  unfold S79 Net
  rw [show min (56 + 5) 28 = 28 from rfl, show min (56 + 8) 36 = 36 from rfl, show max 56 28 = 56 from rfl, Ow_end]
  iintro ⟨⟨#Hrec, -, HO, -, -, -, -, HpS, HpR, Hs, -, Hb⟩, HX, HW, HXb, HWb, H24, H25, H26, H27, H52, H53, H54, H55⟩
  imod (close_sends m ρ c) $$ [HpS] with HzS
  · isplitr; · iexact Hrec
    iexact HpS
  imod (close_recvs m ρ c) $$ [HpR] with HzR
  · isplitr; · iexact Hrec
    iexact HpR
  imodintro
  unfold Done
  isplitl [HO]; · iexact HO
  isplitl [HzS]; · iexact HzS
  isplitl [HzR]; · iexact HzR
  isplitl [HX]; · iexact HX
  isplitl [HW]; · iexact HW
  isplitl [Hb H52 H53 H54 H55]
  · iapply (out_back m ρ c)
    isplitl [Hb]; · iexact Hb
    isplitl [H52]; · iexact H52
    isplitl [H53]; · iexact H53
    isplitl [H54]; · iexact H54
    iexact H55
  isplitl [Hs H24 H25 H26 H27]
  · iapply (comm_back m ρ c)
    isplitl [Hs]; · iexact Hs
    isplitl [H24]; · iexact H24
    isplitl [H25]; · iexact H25
    isplitl [H26]; · iexact H26
    iexact H27
  isplitl [HXb]
  · iexists (xbv m ρ c); iexact HXb
  iexists (wbv m ρ c); iexact HWb

theorem wp_late {α : Type} {c : Dev nD} {p : Prog (TpuEff nD τ sig (Elt F) Λ₀ .tc) α} {Q : α → sProp 𝕄} :
    wp frame (wpE (defs₀ (F := F)) 𝒱₀ (c : Thread nD τ) none) Set.univ p (fun a => iprop(|={Set.univ}=> Q a)) ⊢ wp frame (wpE (defs₀ (F := F)) 𝒱₀ (c : Thread nD τ) none) Set.univ p Q :=
  wp_fupd _ _ _ _ _

set_option maxRecDepth 65536 in
/-- The body, from what a device is handed to what it leaves. -/
theorem body_done (c : Dev nD) {Q : PUnit → sProp 𝕄} (hQ : iprop(semVal (barCell c) 0 ∗ Done m ρ c) ⊢ Q ⟨⟩) :
    iprop(Ghost m ρ c ∗ (∃ W, owes (c : Thread nD τ) (O₀ c) W) ∗ Bufs m ρ c)
      ⊢ wp frame (wpE (defs₀ (F := F)) 𝒱₀ (c : Thread nD τ) none) Set.univ (cc0_body xM (Memref.isWhole_whole _) wM (Memref.isWhole_whole _) oM (Memref.isWhole_whole _) comM (Memref.isWhole_whole _) xbM (Memref.isWhole_whole _) wbM (Memref.isWhole_whole _) cc0_scratch3) Q := by
  refine (body_run m ρ c (Q := fun a => iprop(|={Set.univ}=> Q a)) ?_).trans wp_late
  iintro ⟨Hz, H⟩
  imod (finish m ρ c) $$ H with H
  imodintro
  iapply hQ
  isplitl [Hz]; · iexact Hz
  iexact H

end Cert.RingProof

end
-- ==== Proof.Deal.lean ====
/-
# What the launch of the two-way ring deals each device

The positions, duty tokens and credit of the cells, minted at once and dealt to the devices that use them.
-/
module

public import proofs.«01_k».proof.Proof.Finish

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ) (ρ : Dev nD → PrngReg)

/-! ## The semaphores -/

/-- The kernel's own semaphores: twelve of sends, twelve of arrivals. -/
abbrev osem (k : Fin 24) : SemLoc sig := .dma ⟨k.val + 3, by have := k.isLt; show k.val + 3 < 27; omega⟩

omit [FloatOps F] in
theorem I_fin (n : ℕ) (f : ℕ → sProp 𝕄) : I 0 n f = bigSep Finset.univ fun j : Fin n => f j.val := by
  unfold I
  rw [show Finset.Ico 0 n = (Finset.univ : Finset (Fin n)).map Fin.valEmbedding from by
    ext x
    simp only [Finset.mem_Ico, Finset.mem_map, Finset.mem_univ, true_and, Fin.valEmbedding_apply]
    exact ⟨fun h => ⟨⟨x, h.2⟩, rfl⟩, fun ⟨a, h⟩ => h ▸ ⟨Nat.zero_le _, a.isLt⟩⟩, bigSep_map]
  rfl

def semIx : Fin 12 ⊕ Fin 12 → Fin 24
  | .inl n => ⟨(sendS n.val).val - 3, by revert n; decide⟩
  | .inr n => ⟨(recvS n.val).val - 3, by revert n; decide⟩
theorem semIx_bijective : Function.Bijective semIx := by decide
def semEquiv : Fin 12 ⊕ Fin 12 ≃ Fin 24 := Equiv.ofBijective semIx semIx_bijective
def cellIx : Unit ⊕ Fin 24 → Fin 25
  | .inl _ => 0
  | .inr k => k.succ
theorem cellIx_bijective : Function.Bijective cellIx := by decide
def cellEquiv : Unit ⊕ Fin 24 ≃ Fin 25 := Equiv.ofBijective cellIx cellIx_bijective

omit [FloatOps F] in
theorem own_eq (Ψ : SemLoc sig → sProp 𝕄) :
    bigSep Finset.univ (fun k : Fin 24 => Ψ (osem k)) = iprop(I 0 12 (fun n => Ψ (.dma (sendS n))) ∗ I 0 12 (fun n => Ψ (.dma (recvS n)))) := by
  rw [I_fin, I_fin, BI.bigSep_univ_equiv semEquiv (fun k : Fin 24 => Ψ (osem k)), BI.bigSep_univ_sum (fun a => Ψ (osem (semEquiv a)))]
  refine congrArg₂ (fun A B => iprop(A ∗ B)) (bigSep_congr fun n _ => congrArg Ψ ?_) (bigSep_congr fun n _ => congrArg Ψ ?_)
  · exact congrArg SemLoc.dma (Fin.ext (Nat.sub_add_cancel (table_at n.val).1))
  · exact congrArg SemLoc.dma (Fin.ext (Nat.sub_add_cancel (table_at n.val).2.1))

omit [FloatOps F] in
theorem all_eq (Ψ : SemLoc sig → sProp 𝕄) :
    bigSep Finset.univ (fun k : Fin 25 => Ψ (csem k)) = iprop(Ψ (.reg barS) ∗ I 0 12 (fun n => Ψ (.dma (sendS n))) ∗ I 0 12 (fun n => Ψ (.dma (recvS n)))) := by
  rw [← own_eq, BI.bigSep_univ_equiv cellEquiv (fun k : Fin 25 => Ψ (csem k)), BI.bigSep_univ_sum (fun a => Ψ (csem (cellEquiv a)))]
  refine congrArg₂ (fun A B => iprop(A ∗ B)) (bigSep_univ_eq_bigSepL [()] (by decide) (by decide) _) (bigSep_congr fun k _ => congrArg Ψ ?_)
  show csem k.succ = osem k
  unfold csem osem
  rw [if_neg (show ¬ (k.succ : Fin 25).val = 0 from Nat.succ_ne_zero _)]
  exact congrArg SemLoc.dma (Fin.ext rfl)

omit [FloatOps F] in
theorem ownSems0_eq (c : Dev nD) : (Pipeline.ownSems0 (Ix := ℕ) (Name := ℕ) (U := UU) (Lvl := ℕ) (Val := Elt F) (τ := τ) osem c : sProp 𝕄)
    = iprop(I 0 12 (fun n => semVal (sendCell n c) 0) ∗ I 0 12 (fun n => semVal (recvCell n c) 0)) :=
  own_eq fun sm => semVal ((c : Thread nD τ), sm) 0
omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl

/-! ## What is minted -/

theorem csem_injective : Function.Injective csem := by
  intro a b h
  unfold csem at h
  by_cases ha : a.val = 0
  · by_cases hb : b.val = 0
    · exact Fin.ext (ha.trans hb.symm)
    · rw [if_pos ha, if_neg hb] at h; exact absurd h (fun h => by cases h)
  · by_cases hb : b.val = 0
    · rw [if_neg ha, if_pos hb] at h; exact absurd h (fun h => by cases h)
    · rw [if_neg ha, if_neg hb] at h
      have := congrArg Fin.val (SemLoc.dma.inj h)
      exact Fin.ext (by simp only at this; omega)
theorem kcell_injective : Function.Injective (kcell : Dev nD × Fin 25 → GSem nD τ sig) := by
  rintro ⟨c, k⟩ ⟨c', k'⟩ h
  have h1 : c = c' := congrArg (fun g : GSem nD τ sig => g.1.1) h
  have h2 : k = k' := csem_injective (congrArg Prod.snd h)
  rw [h1, h2]
def ringCells : Finset (GSem nD τ sig) := Finset.univ.map ⟨kcell, kcell_injective⟩

abbrev TokIx : Type := Bool ⊕ (Fin 56 ⊕ Fin 56)
/-- The duty tokens of device `c`'s own cells: its barrier's two, one for every transfer it sends and for every one it
    receives. -/
abbrev tokOf (cj : Dev nD × TokIx) : GSem nD τ sig × ℕ × Bool := match cj.2 with
  | .inl b => (barCell cj.1, 0, b)
  | .inr (.inl n) => (sendCell n.val cj.1, n.val / 12, false)
  | .inr (.inr n) => (recvCell n.val cj.1, n.val / 12, false)
theorem tok_dev (x : Dev nD × TokIx) : (tokOf x).1.1.1 = x.1 := by
  rcases x with ⟨c, b | n | n⟩ <;> rfl
theorem send_one {a b : ℕ} (h : sendS a = sendS b) (h' : a / 12 = b / 12) : a = b := by rw [← numOf_send a, ← numOf_send b, h, h']
theorem recv_one {a b : ℕ} (h : recvS a = recvS b) (h' : a / 12 = b / 12) : a = b := by rw [← numOf_recv a, ← numOf_recv b, h, h']
theorem send_recv (a b : ℕ) : sendS a ≠ recvS b := fun h => by
  have := (table_at a).2.2.1; rw [h, (table_at b).2.2.2.1] at this; exact Bool.noConfusion this
theorem tokOf_injective : Function.Injective (tokOf : Dev nD × TokIx → GSem nD τ sig × ℕ × Bool) := by
  intro x y h
  have h1 : x.1 = y.1 := by rw [← tok_dev x, ← tok_dev y, h]
  have h2 : (tokOf x).1.2 = (tokOf y).1.2 := by rw [h]
  have h3 : (tokOf x).2 = (tokOf y).2 := by rw [h]
  rcases x with ⟨c, b | n | n⟩ <;> rcases y with ⟨c', b' | n' | n'⟩ <;> simp only at h1 h2 h3 <;> subst h1
  · rw [(Prod.mk.inj h3).2]
  · cases h2
  · cases h2
  · cases h2
  · rw [Fin.ext (send_one (SemLoc.dma.inj h2) (Prod.mk.inj h3).1)]
  · exact absurd (SemLoc.dma.inj h2) (send_recv _ _)
  · cases h2
  · exact absurd (SemLoc.dma.inj h2).symm (send_recv _ _)
  · rw [Fin.ext (recv_one (SemLoc.dma.inj h2) (Prod.mk.inj h3).1)]
def ringToks : Finset (GSem nD τ sig × ℕ × Bool) := Finset.univ.map ⟨tokOf, tokOf_injective⟩

def u₀ : UU :=
  (initOf (Pipeline.cells cfgs cellOf_inj) (Pipeline.launchToks cfgs cellOf_inj), initOf ringCells ringToks)

def mint (c : Dev nD) : sProp 𝕄 :=
  iprop((dutyTok ER (barCell c) 0 false ∗ dutyTok ER (barCell c) 0 true)
    ∗ (bigSep Finset.univ fun n : Fin 56 => dutyTok ER (sendCell n.val c) (n.val / 12) false)
    ∗ (bigSep Finset.univ fun n : Fin 56 => dutyTok ER (recvCell n.val c) (n.val / 12) false))

/-- What the launch deals device `c`. -/
def G (c : Dev nD) : sProp 𝕄 :=
  iprop((bigSep Finset.univ fun k : Fin 25 => roundState ER (ringRd m ρ) (kcell (c, k)) 0)
    ∗ (bigSep Finset.univ fun k : Fin 25 => iprop(atPos ER (kcell (c, k)) 0 ∅ 0 ∗ reached ER (kcell (c, k)) 0)) ∗ mint c)

omit [FloatOps F] in
theorem mint_eq (c : Dev nD) : (bigSep Finset.univ fun j : TokIx => (dutyTok ER (tokOf (c, j)).1 (tokOf (c, j)).2.1 (tokOf (c, j)).2.2 : sProp 𝕄)) = mint c := by
  rw [BI.bigSep_univ_sum, BI.bigSep_univ_sum]
  exact congrArg (fun A => iprop(A ∗ _ ∗ _)) (bigSep_univ_eq_bigSepL [false, true] (by decide) (by decide) _)

theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun k : Fin 25 => Φ (kcell (c, k)) := by
    unfold ringCells; rw [bigSep_map, BI.bigSep_univ_prod]; rfl
  have hT : bigSep ringToks (fun x => (dutyTok ER x.1 x.2.1 x.2.2 : sProp 𝕄)) = bigSep Finset.univ fun c : Dev nD => mint c := by
    unfold ringToks; rw [bigSep_map, BI.bigSep_univ_prod]
    exact bigSep_congr fun c _ => mint_eq c
  iintro HX
  imod (Rounds.fund ER (ringRd m ρ) ringCells ringToks) $$ HX with ⟨Hst, Hr, Hat, Htok⟩
  imodintro
  ihave Hst' := (Entails.of_eq (hX fun g => roundState ER (ringRd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## How it is dealt -/

/-- One device's share, its cells' invariants made. -/
def Al (c : Dev nD) : sProp 𝕄 :=
  iprop((bigSep Finset.univ fun k : Fin 25 => inv m ρ (kcell (c, k)))
    ∗ (atPos ER (barCell c) 0 ∅ 0 ∗ reached ER (barCell c) 0) ∗ (I 0 12 (posS c) ∗ I 0 12 (posR c)) ∗ mint c)

omit [FloatOps F] in
theorem pos_eq (c : Dev nD) :
    (bigSep Finset.univ fun k : Fin 25 => iprop(atPos ER (kcell (c, k)) 0 ∅ 0 ∗ reached ER (kcell (c, k)) 0) : sProp 𝕄)
      = iprop((atPos ER (barCell c) 0 ∅ 0 ∗ reached ER (barCell c) 0) ∗ I 0 12 (posS c) ∗ I 0 12 (posR c)) := by
  refine (all_eq fun sm => iprop(atPos ER ((c : Thread nD τ), sm) 0 ∅ 0 ∗ reached ER ((c : Thread nD τ), sm) 0)).trans ?_
  refine congrArg₂ (fun A B => iprop(_ ∗ A ∗ B)) (I_congr fun n _ h => ?_) (I_congr fun n _ h => ?_)
  · unfold posS; rw [Nat.div_eq_of_lt h]
  · unfold posR; rw [Nat.div_eq_of_lt h]

theorem core_alloc (c : Dev nD) :
    iprop(Pipeline.ownSems0 (Ix := ℕ) (Name := ℕ) (U := UU) (Lvl := ℕ) (Val := Elt F) (τ := τ) osem c ∗ unscopedSems0 c ∗ G m ρ c)
      ⊢ |={Set.univ}=> Al m ρ c := by
  unfold G Al
  rw [pos_eq]
  iintro ⟨Hos, Hus, Hst, ⟨Hb, Hp⟩, Htok⟩
  ihave Hos := (Entails.of_eq (ownSems0_eq (F := F) c)) $$ Hos
  ihave Hus := (Entails.of_eq (unscopedSems0_eq (F := F) c)) $$ Hus
  ihave Hv := (Entails.of_eq (show iprop(semVal (barCell c) 0 ∗ I 0 12 (fun n => semVal (sendCell n c) 0) ∗ I 0 12 (fun n => semVal (recvCell n c) 0))
      = (bigSep Finset.univ fun k : Fin 25 => semVal (kcell (c, k)) 0 : sProp 𝕄) from (all_eq fun sm => semVal ((c : Thread nD τ), sm) 0).symm)) $$ [Hos Hus]
  · isplitl [Hus] <;> iassumption
  imod (show iprop((bigSep Finset.univ fun k : Fin 25 => semVal (kcell (c, k)) 0) ∗ bigSep Finset.univ fun k : Fin 25 => roundState ER (ringRd m ρ) (kcell (c, k)) 0)
      ⊢ (|={Set.univ}=> bigSep Finset.univ fun k : Fin 25 => inv m ρ (kcell (c, k)) : sProp 𝕄) from by
        rw [← bigSep_sep']
        unfold inv
        exact (bigSep_mono fun k _ => (Rounds.body_intro ER (ringRd m ρ) (kcell (c, k))).trans inv_alloc).trans (bigSep_fupd _ _)) $$ [Hv Hst] with Hinv
  · isplitl [Hv] <;> iassumption
  imodintro
  isplitl [Hinv]; · iexact Hinv
  isplitl [Hb]; · iexact Hb
  isplitl [Hp]; · iexact Hp
  iexact Htok

/-- What device `c` ends up with. -/
def G' (c : Dev nD) : sProp 𝕄 :=
  iprop(recs m ρ ∗ I 0 56 (toks c)
    ∗ dutyTok ER (barCell (prv c)) 0 true ∗ dutyTok ER (barCell (nxt c)) 0 false
    ∗ reached ER (barCell (prv c)) 0 ∗ reached ER (barCell (nxt c)) 0
    ∗ atPos ER (barCell c) 0 ∅ 0 ∗ I 0 12 (posS c) ∗ I 0 12 (posR c))

def ring : Dev nD ≃ Dev nD := ⟨nxt, prv, prv_nxt, nxt_prv⟩
def along : Dev nD × Fin 56 ≃ Dev nD × Fin 56 :=
  ⟨fun x => (dst x.2.val x.1, x.2), fun x => (src x.2.val x.1, x.2), fun x => Prod.ext (src_dst _ _) rfl, fun x => Prod.ext (dst_src _ _) rfl⟩

omit [FloatOps F] in
theorem recv_around : (bigSep Finset.univ fun c : Dev nD => bigSep Finset.univ fun n : Fin 56 => (dutyTok ER (recvCell n.val c) (n.val / 12) false : sProp 𝕄))
    = bigSep Finset.univ fun c : Dev nD => bigSep Finset.univ fun n : Fin 56 => dutyTok ER (recvCell n.val (dst n.val c)) (n.val / 12) false := by
  rw [← BI.bigSep_univ_prod (fun x : Dev nD × Fin 56 => (dutyTok ER (recvCell x.2.val x.1) (x.2.val / 12) false : sProp 𝕄)),
    ← BI.bigSep_univ_prod (fun x : Dev nD × Fin 56 => (dutyTok ER (recvCell x.2.val (dst x.2.val x.1)) (x.2.val / 12) false : sProp 𝕄)),
    BI.bigSep_univ_equiv along]
  rfl

omit [FloatOps F] in
theorem toks_eq (c : Dev nD) : I 0 56 (toks c) = (iprop((bigSep Finset.univ fun n : Fin 56 => dutyTok ER (sendCell n.val c) (n.val / 12) false)
    ∗ (bigSep Finset.univ fun n : Fin 56 => dutyTok ER (recvCell n.val (dst n.val c)) (n.val / 12) false)) : sProp 𝕄) := by
  rw [I_fin, ← bigSep_sep']; rfl

/-- A device's linear share. -/
def lin (c : Dev nD) : sProp 𝕄 :=
  iprop(atPos ER (barCell c) 0 ∅ 0 ∗ (I 0 12 (posS c) ∗ I 0 12 (posR c))
    ∗ dutyTok ER (barCell (nxt c)) 0 false ∗ dutyTok ER (barCell (prv c)) 0 true
    ∗ (bigSep Finset.univ fun n : Fin 56 => dutyTok ER (sendCell n.val c) (n.val / 12) false)
    ∗ (bigSep Finset.univ fun n : Fin 56 => dutyTok ER (recvCell n.val (dst n.val c)) (n.val / 12) false))

/-- What all share: the invariants, and that every barrier cell is at its round. -/
def shared : sProp 𝕄 := iprop(recs m ρ ∗ bigSep Finset.univ fun c : Dev nD => reached ER (barCell c) 0)
instance shared_persistent : BI.Persistent (shared m ρ) := by unfold shared; infer_instance

theorem deal_one (c : Dev nD) : iprop(shared m ρ ∗ lin c) ⊢ G' m ρ c := by
  unfold shared lin G'
  rw [toks_eq]
  iintro ⟨⟨#HI, #HR⟩, Ha, ⟨HpS, HpR⟩, HtF, HtT, HtS, HtR⟩
  isplitr; · iexact HI
  isplitl [HtS HtR]
  · isplitl [HtS] <;> iassumption
  isplitl [HtT]; · iexact HtT
  isplitl [HtF]; · iexact HtF
  isplitr; · iapply (show (bigSep Finset.univ fun c : Dev nD => (reached ER (barCell c) 0 : sProp 𝕄)) ⊢ reached ER (barCell (prv c)) 0 from bigSep_elim (Finset.mem_univ (prv c))); iexact HR
  isplitr; · iapply (show (bigSep Finset.univ fun c : Dev nD => (reached ER (barCell c) 0 : sProp 𝕄)) ⊢ reached ER (barCell (nxt c)) 0 from bigSep_elim (Finset.mem_univ (nxt c))); iexact HR
  isplitl [Ha]; · iexact Ha
  isplitl [HpS] <;> iassumption

theorem regroup : (bigSep Finset.univ fun c : Dev nD => Al m ρ c) ⊢ bigSep Finset.univ (G' m ρ) := by
  refine BIBase.Entails.trans ?_ (bigSep_with_persistent (R := shared m ρ) (Φ := fun c : Dev nD => lin c) fun c _ => deal_one m ρ c)
  unfold Al mint lin shared recs
  simp only [bigSep_sep']
  rw [← BI.bigSep_univ_prod (fun ck : Dev nD × Fin 25 => inv m ρ (kcell ck)), recv_around,
    BI.bigSep_univ_equiv ring (fun c : Dev nD => (dutyTok ER (barCell c) 0 false : sProp 𝕄)),
    BI.bigSep_univ_equiv ring.symm (fun c : Dev nD => (dutyTok ER (barCell c) 0 true : sProp 𝕄))]
  iintro ⟨HI, ⟨Ha, HR⟩, Hp, ⟨HtF, HtT⟩, HtS, HtR⟩
  isplitl [HI HR]
  · isplitl [HI] <;> iassumption
  isplitl [Ha]; · iexact Ha
  isplitl [Hp]; · iexact Hp
  isplitl [HtF]; · iexact HtF
  isplitl [HtT]; · iexact HtT
  isplitl [HtS] <;> iassumption

theorem glob : (bigSep Finset.univ fun c => iprop(Pipeline.ownSems0 (Ix := ℕ) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The credit -/

omit [FloatOps F] in
theorem creds (c : Dev nD) : (Pipeline.launchCred O₀ c : sProp 𝕄) ⊢ iprop(cred (tallyAt (barCell c) 1 2) ∗ I 0 56 (credR c)) := by
  rw [show (O₀ : Dev nD → CellTallies nD τ sig ℕ) = fun d => (fun d => (fun d => ∑ n ∈ Finset.Ico 0 56, (fun n d => tallyAt (recvCell n (dst n d)) (n + 2) N) n d) d + (fun d => tallyAt (barCell (nxt d)) 1 1) d) d + (fun d => tallyAt (barCell (prv d)) 1 1) d from rfl,
    Pipeline.launchCred_add, Pipeline.launchCred_add, Pipeline.launchCred_sum]
  iintro ⟨⟨HR, HN⟩, HP⟩
  ihave HN := (Pipeline.launchCred_tallyAt (.reg barS) nxt prv nxt_prv prv_nxt 1 1 c) $$ HN
  ihave HP := (Pipeline.launchCred_tallyAt (.reg barS) prv nxt prv_nxt nxt_prv 1 1 c) $$ HP
  isplitl [HN HP]
  · iapply (show iprop(cred (tallyAt (barCell c) 1 1) ∗ cred (tallyAt (barCell c) 1 1)) ⊢ (cred (tallyAt (barCell c) 1 2) : sProp 𝕄) from by
      exact (cred_add _ _).2.trans (Entails.of_eq (congrArg cred (tallyAt_add (barCell c) 1 1 1))))
    isplitl [HN] <;> iassumption
  iapply (show (bigSep (Finset.Ico 0 56) fun n => (Pipeline.launchCred (fun d => tallyAt (recvCell n (dst n d)) (n + 2) N) c : sProp 𝕄)) ⊢ I 0 56 (credR c) from
    bigSep_mono fun n _ => Pipeline.launchCred_tallyAt (.dma (recvS n)) (dst n) (src n) (dst_src n) (src_dst n) (n + 2) N c)
  iexact HR

end Cert.RingProof

end
-- ==== Proof.Launch.lean ====
/-
# The run of the two-way ring

The call's windows, the body's obligation and the launch: every device's result array ends at the result.
-/
module

public import proofs.«01_k».proof.Proof.Deal
public import Idealize.ShloMosaic.Lib.Pipeline.CollectiveSegs

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)

/-! ## The call's windows -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- What the body starts from, its staging buffers apart. -/
def Φ₀ (c : Dev nD) : sProp 𝕄 :=
  iprop(Ghost m ρ c ∗ (∃ f, whole (F := F) c cc0_scratch0 f) ∗ (∃ f, whole (F := F) c cc0_scratch1 f) ∗ (∃ f, whole (F := F) c cc0_scratch2 f))
/-- What it leaves. -/
def Φ₁ (c : Dev nD) : sProp 𝕄 :=
  iprop(semVal (barCell c) 0 ∗ (I 0 12 (fun n => semVal (sendCell n c) 0) ∗ I 0 12 (fun n => semVal (recvCell n c) 0))
    ∗ (∃ f, whole (F := F) c cc0_scratch0 f) ∗ (∃ f, whole (F := F) c cc0_scratch1 f) ∗ (∃ f, whole (F := F) c cc0_scratch2 f))

def dats (_ : Fin 1) (c : Dev nD) : Dat τ (Elt F) ℕ ℕ UU ℕ cfg0 c where
  A w := (s₀ m ρ).mem ((cfg0.win w).arr.view.loc (c : Thread nD τ))
  after w _ := match w with
    | ⟨0, _⟩ => xv m ρ c
    | ⟨1, _⟩ => wv m ρ c
    | ⟨2, _⟩ => outv m ρ
  Φ t := match t with
    | ⟨0, _⟩ => Φ₀ m ρ c
    | ⟨_ + 1, _⟩ => Φ₁ c
  q _ := fullShare
  owed t := match t with
    | ⟨0, _⟩ => O₀ c
    | ⟨_ + 1, _⟩ => 0

omit [FloatOps F] in
theorem bigSep_W (Φ : Fin cfg0.W → sProp 𝕄) : bigSep Finset.univ Φ = iprop(Φ (0 : Fin 3) ∗ Φ (1 : Fin 3) ∗ Φ (2 : Fin 3)) := bigSep_W0 Φ

theorem fetch_0 (t : Fin cfg0.N) : (cfg0.win (0 : Fin 3)).fetch t = true := by rw [fin_N t]; rfl
theorem fetch_1 (t : Fin cfg0.N) : (cfg0.win (1 : Fin 3)).fetch t = true := by rw [fin_N t]; rfl

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

omit [FloatOps F] in
theorem owns_whole_eq (c : Dev nD) (b : Ref sig .tc) (X : b.ty.Contents (Elt F)) :
    (owns (Ix := ℕ) (Name := ℕ) (U := UU) (Lvl := ℕ) (c : Thread nD τ) (Memref.whole b) fullShare X : sProp 𝕄) = stg c b X := by
  unfold owns stg; simp only [Memref.view_whole, View.read_whole, View.set_whole]

def bodyPre (c : Dev nD) : sProp 𝕄 :=
  iprop(Φ₀ m ρ c ∗ (dats m ρ 0 c).owesAt 0 t₀.castSucc
    ∗ (∃ d, stg c cc0_stg0_0 ((dats m ρ 0 c).before (0 : Fin 3) t₀ d))
    ∗ (∃ d, stg c cc0_stg1_0 ((dats m ρ 0 c).before (1 : Fin 3) t₀ d))
    ∗ (∃ d, stg c cc0_stg2_0 ((dats m ρ 0 c).before (2 : Fin 3) t₀ d)))
def bodyPost (c : Dev nD) : sProp 𝕄 :=
  iprop(Φ₁ (F := F) c ∗ (dats m ρ 0 c).owesAt 0 t₀.succ
    ∗ stg c cc0_stg0_0 (xv m ρ c) ∗ stg c cc0_stg1_0 (wv m ρ c) ∗ stg c cc0_stg2_0 (outv m ρ))

theorem body_post (c : Dev nD) : iprop(semVal (barCell c) 0 ∗ Done m ρ c) ⊢ bodyPost m ρ c := by
  unfold Done bodyPost Φ₁ Dat.owesAt Pipeline.owesWithin whole
  rw [show (dats m ρ 0 c).owed t₀.succ = 0 from rfl]
  iintro ⟨Hz, ⟨%W, HO⟩, HzS, HzR, HX, HW, HR, H0, H1, H2⟩
  isplitl [Hz HzS HzR H0 H1 H2]
  · isplitl [Hz]; · iexact Hz
    isplitl [HzS HzR]
    · isplitl [HzS] <;> iassumption
    isplitl [H0]; · iexact H0
    isplitl [H1] <;> iassumption
  isplitl [HO]
  · iexists W
    isplitr; · ipureintro; exact fun _ _ => Or.inl trivial
    iexact HO
  isplitl [HX]
  · iexists _; isplitr; · (ipureintro; rfl)
    iexact HX
  isplitl [HW]
  · iexists _; isplitr; · (ipureintro; rfl)
    iexact HW
  iexists _; isplitr; · (ipureintro; rfl)
  iexact HR

theorem body_pre (c : Dev nD) : bodyPre m ρ c ⊢ iprop(Ghost m ρ c ∗ (∃ W, owes (c : Thread nD τ) (O₀ c) W) ∗ Bufs m ρ c) := by
  unfold bodyPre Φ₀ Dat.owesAt Pipeline.owesWithin
  rw [show (dats m ρ 0 c).owed t₀.castSucc = O₀ c from rfl]
  iintro ⟨⟨Hg, ⟨%f0, H0⟩, H1, H2⟩, ⟨%W, %hW, HO⟩, ⟨%d0, %g0, %hg0, HX⟩, ⟨%d1, %g1, %hg1, HW⟩, ⟨%d2, %g2, %hg2, HR⟩⟩
  have hx : g0 = xv m ρ c := by rw [hg0]; unfold Dat.before; rw [if_pos (fetch_0 t₀)]; rfl
  have hw : g1 = wv m ρ c := by rw [hg1]; unfold Dat.before; rw [if_pos (fetch_1 t₀)]; rfl
  subst hx hw
  ihave Hb := (bufs_split c f0 g2) $$ [H0 HR]
  · isplitl [H0]; · iexact H0
    unfold whole; iexact HR
  isplitl [Hg]; · iexact Hg
  isplitl [HO]; · iexists W; iexact HO
  unfold Bufs
  isplitl [HX]; · unfold whole; iexact HX
  isplitl [HW]; · unfold whole; iexact HW
  isplitl [H1]; · iexact H1
  isplitl [H2]; · iexact H2
  iexact Hb

set_option maxRecDepth 65536 in
theorem body_obligation (c : Dev nD) : BodyObligation (dats (F := F) m ρ 0 c) (defs₀ (F := F)) 𝒱₀ 0 Set.univ := fun t => by
  rw [fin_N t]
  rw [bigSep_W, bigSep_W]
  simp only [owns_whole_eq]
  show bodyPre m ρ c ⊢ wp frame (wpE (defs₀ (F := F)) 𝒱₀ c none) Set.univ
    (cc0_body xM (Memref.isWhole_whole _) wM (Memref.isWhole_whole _) oM (Memref.isWhole_whole _) comM (Memref.isWhole_whole _) xbM (Memref.isWhole_whole _) wbM (Memref.isWhole_whole _) cc0_scratch3) (fun _ => bodyPost m ρ c)
  exact (body_pre m ρ c).trans (body_done m ρ c (body_post m ρ c))

/-! ## The launch -/

theorem ownSemFacts : Pipeline.OwnSemFacts cfg0.spec osem := by decide

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(Ghost m ρ c ∗ emp) := by
  unfold G' Ghost
  iintro ⟨-, Hlev, Hcr, -, Hr, Htk, HtT, HtF, HrP, HrN, Ha, HpS, HpR⟩
  ihave Hc := (creds (F := F) c) $$ Hcr
  icases Hc with ⟨Hb, HcR⟩
  imodintro
  isplitl
  · isplitl [Hr]; · iexact Hr
    isplitl [Hlev]; · iexact Hlev
    isplitl [Htk]; · iexact Htk
    isplitl [HtT]; · iexact HtT
    isplitl [HtF]; · iexact HtF
    isplitl [HrP]; · iexact HrP
    isplitl [HrN]; · iexact HrN
    isplitl [Ha]; · iexact Ha
    isplitl [Hb]; · iexact Hb
    isplitl [HcR]; · iexact HcR
    isplitl [HpS]; · iexact HpS
    iexact HpR
  iempintro

theorem phi0_intro (c : Dev nD) :
    iprop(Ghost m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ whole
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁ whole
  iintro ⟨Hb, Hz, Hr⟩
  isplitl [Hb]; · iexact Hb
  isplitl [Hz]; · iexact Hz
  iexact Hr

theorem waits (c : Dev nD) : (levAts L lv : sProp 𝕄) ⊢ Pipeline.cellsWaits cfgs (dats m ρ) 0 0 c :=
  Pipeline.cellsWaits_intro cfgs (dats m ρ) 0 0 c fun w s t => by
    rcases t with ⟨_ | _, ht⟩
    · exact mayWait_O₀ c _
    · show (levAts L lv : sProp 𝕄) ⊢ MayWait (c : Thread nD τ) _ 0 0
      rw [MayWait_zero]; iintro -; iempintro

/-! ## The run -/

/-- What the arrays hold at the end. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 65536 in
/-- From any memory with zero counters every weakly fair execution terminates, with every array at its final contents and
    every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) 0 cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := Ghost m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The arguments' arrays hold what they held. -/
theorem finalA_x (c : Dev nD) : finalA m ρ c (0 : Fin 3) = (s₀ m ρ).mem (win0_0.arr.view.loc (c : Thread nD τ)) :=
  (dats (F := F) m ρ 0 c).arrAt_in (0 : Fin 3) rfl _
theorem finalA_w (c : Dev nD) : finalA m ρ c (1 : Fin 3) = (s₀ m ρ).mem (win0_1.arr.view.loc (c : Thread nD τ)) :=
  (dats (F := F) m ρ 0 c).arrAt_in (1 : Fin 3) rfl _

end Cert.RingProof

end
-- ==== Proof.Value.lean ====
/-
# What the ring computes over the reals

Over the extended reals a change of format is the identity, so a finished sum is the sum over the eight devices of the
products of their blocks, in the order of the ring; any order gives the whole product.
-/
module

public import proofs.«01_k».proof.Proof.Launch
public import Idealize.ShloMosaic.PureOps.Ideal.Laws
public import Idealize.ShloMosaic.Lib.Pointwise
public import Idealize.ShloMosaic.Lib.Layout

@[expose] public section

noncomputable section

namespace Cert.RingProof

open Cert.KernelIdeal Cert.KernelIdeal.Gen

open Idealize.ShloMosaic
open Idealize.ShloMosaic.TcCoe
open Idealize.SL.Sem

/-! ## The result's array -/

section Any
variable {F : FTy → Type} [FloatOps F]
variable (m : (ℓ : Loc nD τ sig) → Buf (Elt F) ℓ) (ρ : Dev nD → PrngReg)

theorem win0_0_zero : (fun a => win0_0.index (0 : Fin 1) a * main_arg0.ty.shape.size a) = fun _ => 0 :=
  funext fun a => by fin_cases a <;> decide
theorem win0_1_zero : (fun a => win0_1.index (0 : Fin 1) a * main_arg1.ty.shape.size a) = fun _ => 0 :=
  funext fun a => by fin_cases a <;> decide
theorem win0_2_zero : (fun a => win0_2.index (0 : Fin 1) a * main_v1.ty.shape.size a) = fun _ => 0 :=
  funext fun a => by fin_cases a <;> decide

/-- A device's staged block of the first operand is its argument; -/
theorem xv_eq (c : Dev nD) : xv m ρ c = m ((c : Thread nD τ).loc main_arg0) :=
  Memref.read_access_unit_zero (Elt F) main_arg0 win0_0_zero (fun a => by fin_cases a <;> decide) _
/-- of the second likewise. -/
theorem wv_eq (c : Dev nD) : wv m ρ c = m ((c : Thread nD τ).loc main_arg1) :=
  Memref.read_access_unit_zero (Elt F) main_arg1 win0_1_zero (fun a => by fin_cases a <;> decide) _

/-- The result's array is one block: it ends as the body left the staging buffer. -/
theorem finalA_out (c : Dev nD) : finalA m ρ c (2 : Fin 3) = outv m ρ := by
  have h : (win0_2.blk (0 : Fin 1)).view.read (Elt F) (finalA m ρ c (2 : Fin 3)) = outv m ρ := by
    unfold finalA
    rw [show cfg0.N = ((0 : Fin 1) : Fin cfg0.N).val + 1 from rfl, (dats m ρ 0 c).arrAt_succ (2 : Fin 3) (0 : Fin 1)]
    rw [show (cfg0.win (2 : Fin 3)).flush (0 : Fin 1) = true from by decide, if_pos rfl]
    exact View.read_write_univ _ _
  exact (Memref.read_access_unit_zero (Elt F) main_v1 win0_2_zero (fun a => by fin_cases a <;> decide) _).symm.trans h

/-- Rows `ch` of a device's first operand, by coordinates. -/
theorem xrow_apply (c : Dev nD) (ch : Fin 8) (a k : Fin 512) :
    xrow m ρ c ch (ix2 a k) = m ((c : Thread nD τ).loc main_arg0) (ix2 ⟨512 * ch.val + a.val, by omega⟩ k) := by
  have e : xbv m ρ c = m ((c : Thread nD τ).loc main_arg0) :=
    (shapeCast_self _ _).trans ((shapeCast_self _ _).trans (xv_eq m ρ c))
  unfold xrow
  rw [e]
  refine congrArg (m ((c : Thread nD τ).loc main_arg0)) ?_
  funext d
  match d with
  | 0 => exact Fin.ext (by show 512 * ch.val + 1 * a.val = 512 * ch.val + a.val; omega)
  | 1 => exact Fin.ext (by show 0 + 1 * k.val = k.val; omega)
/-- Columns `q` of its second. -/
theorem wcol_apply (c : Dev nD) (q : Fin 4) (k b : Fin 512) :
    wcol m ρ c q (ix2 k b) = m ((c : Thread nD τ).loc main_arg1) (ix2 k ⟨512 * q.val + b.val, by omega⟩) := by
  have e : wbv m ρ c = m ((c : Thread nD τ).loc main_arg1) :=
    (shapeCast_self _ _).trans ((shapeCast_self _ _).trans (wv_eq m ρ c))
  unfold wcol
  rw [e]
  refine congrArg (m ((c : Thread nD τ).loc main_arg1)) ?_
  funext d
  match d with
  | 0 => exact Fin.ext (by show 0 + 1 * k.val = k.val; omega)
  | 1 => exact Fin.ext (by show 512 * q.val + 1 * b.val = 512 * q.val + b.val; omega)

end Any

/-! ## Over the extended reals -/

variable (m : (ℓ : Loc nD τ sig) → Buf (Elt Ideal) ℓ) (ρ : Dev nD → PrngReg)

/-- A product of a block of rows by a block of columns, by coordinates. -/
def dot (x w : Vec Ideal S512x512 .bf16) (a b : Fin 512) : EReal := ∑ k : Fin 512, x (ix2 a k) * w (ix2 k b)

theorem matmul_ix (x w : Vec Ideal S512x512 .bf16) (a b : Fin 512) :
    matmul (F := Ideal) (φ₁ := .bf16) (φ₂ := .bf16) dot_S512x512_S512x512_S512x512_1_0_0_1_n_n none x w (constant S512x512 .f32 0x00000000#32) (ix2 a b) = dot x w a b := by
  refine (Ideal.matmul_apply₁_of dot_S512x512_S512x512_S512x512_1_0_0_1_n_n (a := 1) rfl (K := 512) rfl x w _ (ix2 a b)
    (fun k => ix2 a k) (fun k => ix2 k b) (fun k => ?_) (fun k => ?_)).trans ?_
  · rw [Shape.Idx.norm2]; rfl
  · rw [Shape.Idx.norm2]; rfl
  · exact (congrArg (· + dot x w a b) Ideal.ofBits_zero_f32).trans (zero_add _)

theorem initV_ix (x w : Vec Ideal S512x512 .bf16) (a b : Fin 512) : initV x w (ix2 a b) = dot x w a b := by
  refine (congrFun (castD_castU _) (ix2 a b)).trans ?_
  exact matmul_ix x w a b
theorem accV_ix (p x w : Vec Ideal S512x512 .bf16) (a b : Fin 512) : accV p x w (ix2 a b) = p (ix2 a b) + dot x w a b := by
  refine (congrFun (castD_castU _) (ix2 a b)).trans ?_
  show castD (castU p) (ix2 a b) + _ = _
  rw [castD_castU]
  exact congrArg (p (ix2 a b) + ·) (matmul_ix x w a b)

/-- The gelu of an extended real, in the order in which the kernel multiplies. -/
def gelu (y : EReal) : EReal :=
  Ideal.ofBits .f32 0x3F000000#32 * y * (Ideal.ofBits .f32 0x3F800000#32
    + Ideal.tanh (Ideal.ofBits .f32 0x3F4C422A#32 * (y + Ideal.ofBits .f32 0x3D372713#32 * (y * y * y))))

theorem geluV_ix (p : Vec Ideal S512x512 .bf16) (j : S512x512.Idx) : geluV p j = gelu (p j) := by
  have h : ∀ v : Vec Ideal S512x512 .bf16, castD (castU p) = v → geluV p j
      = Ideal.ofBits .f32 0x3F000000#32 * v j * (Ideal.ofBits .f32 0x3F800000#32
        + Ideal.tanh (Ideal.ofBits .f32 0x3F4C422A#32 * (v j + Ideal.ofBits .f32 0x3D372713#32 * v j * v j * v j))) := by
    rintro v rfl; rfl
  rw [h p (castD_castU p), gelu, mul_assoc (Ideal.ofBits .f32 0x3D372713#32) (p j) (p j), mul_assoc (Ideal.ofBits .f32 0x3D372713#32)]

/-! ## The sum around a ring -/

/-- The device `t` hops back along ring `n` from `c`. -/
def back (n : ℕ) (c : Dev nD) : ℕ → Dev nD
  | 0 => c
  | t + 1 => src n (back n c t)

/-- What device `d` adds to the element of the product at row `i`, column `j`. -/
def part (d : Dev nD) (ch : Fin 8) (q : Fin 4) (a b : Fin 512) : EReal := dot (xrow m ρ d ch) (wcol m ρ d q) a b

theorem back_src (n : ℕ) (c : Dev nD) (t : ℕ) : back n (src n c) t = back n c (t + 1) := by
  induction t with
  | zero => rfl
  | succ t ih => rw [back, ih]; rfl

theorem src_ring (s p : ℕ) (c : Dev nD) : src (4 * s + p) c = src p c := by
  induction s with
  | zero => rw [show 4 * 0 + p = p by omega]
  | succ s ih => rw [show 4 * (s + 1) + p = 4 * s + p + 4 by omega, src_add4, ih]
theorem qn_ring (s p : ℕ) : qn (4 * s + p) = qn p := by
  induction s with
  | zero => rw [show 4 * 0 + p = p by omega]
  | succ s ih => rw [show 4 * (s + 1) + p = 4 * s + p + 4 by omega, qn_add4, ih]

/-- After `s` hops a block is the sum of the parts of the last `s + 1` devices. -/
theorem V_sum (p : ℕ) (hp : p < 4) (a b : Fin 512) : ∀ (s : ℕ) (hs : s < 7) (c : Dev nD),
    V m ρ (4 * s + p) c (ix2 a b) = ∑ t ∈ Finset.range (s + 1), part m ρ (back p c t) (chS (4 * s + p) c) (qn p) a b
  | 0, _, c => by
    rw [show 4 * 0 + p = p by omega, V_init m ρ p hp, initV_ix, Finset.sum_range_one]; rfl
  | s + 1, hs, c => by
    have ih := V_sum p hp a b s (by omega) (src p c)
    rw [show 4 * (s + 1) + p = 4 * s + p + 4 by omega, V_acc m ρ _ (by omega), Y, accV_ix, src_ring, ih, Finset.sum_range_succ' _ (s + 1), qn_ring,
      chS_next _ (by omega), src_ring]
    exact congrArg₂ (· + ·) (Finset.sum_congr rfl fun t _ => by rw [back_src]) rfl

/-- A finished sum: the parts of all the devices the ring has come through. -/
theorem Y_sum (p : ℕ) (hp : p < 4) (a b : Fin 512) (c : Dev nD) :
    Y m ρ (24 + p) c (ix2 a b) = ∑ t ∈ Finset.range 8, part m ρ (back p c t) (chS (28 + p) c) (qn p) a b := by
  have h := V_sum m ρ p hp a b 6 (by omega) (src p c)
  have hs := src_ring 6 p c
  have hq := qn_ring 6 p
  have hc := chS_next (4 * 6 + p) (by omega) c
  rw [hs] at hc
  rw [show 24 + p = 4 * 6 + p by omega, show 28 + p = 4 * 6 + p + 4 by omega, Y, accV_ix, hs, h, Finset.sum_range_succ' _ 7, hq, hc]
  exact congrArg₂ (· + ·) (Finset.sum_congr rfl fun t _ => by rw [back_src]) rfl

theorem back_bij : ∀ (q : Fin 4) (c : Dev nD), Function.Bijective fun t : Fin 8 => back (pos q) c t.val := by
  have h : ∀ (q : Fin 4) (c : Dev nD) (s t : Fin 8), back (pos q) c s.val = back (pos q) c t.val → s = t := by decide +kernel
  exact fun q c => (Fintype.bijective_iff_injective_and_card _).mpr ⟨fun s t e => h q c s t e, rfl⟩

theorem res_place : ∀ (ch : Fin 8) (q : Fin 4), chS (28 + pos q) (src (pos q) ch) = ch ∧ qn (pos q) = q := by decide

/-- The finished sum that a block of the result is the gelu of: all devices' parts. -/
theorem Y_all (ch : Fin 8) (q : Fin 4) (a b : Fin 512) :
    Y m ρ (24 + pos q) (src (pos q) ch) (ix2 a b) = ∑ d : Dev nD, part m ρ d ch q a b := by
  have hp : pos q < 4 := by revert q; decide
  rw [Y_sum m ρ _ hp, (res_place ch q).1, (res_place ch q).2, Finset.sum_range]
  exact (back_bij q (src (pos q) ch)).sum_comp (fun d => part m ρ d ch q a b)

/-! ## Against the whole arrays -/

/-- A sum over eight blocks of 512 is the sum over all 4096. -/
theorem sum_blocks (f : Fin 4096 → EReal) : ∑ d : Fin 8, ∑ k : Fin 512, f ((finProdFinEquiv (d, k) : Fin (8 * 512))) = ∑ K : Fin 4096, f K := by
  rw [← Fintype.sum_prod_type' (fun (d : Fin 8) (k : Fin 512) => f ((finProdFinEquiv (d, k) : Fin (8 * 512))))]
  exact Equiv.sum_comp (finProdFinEquiv (m := 8) (n := 512)) f

/-- With every device's operands its blocks of two whole arrays, the parts add up to the whole product. -/
theorem parts_whole (X : (⟨2, ![4096, 4096]⟩ : Shape).Idx → EReal) (W : (⟨2, ![4096, 2048]⟩ : Shape).Idx → EReal)
    (hX : ∀ c : Dev nD, m ((c : Thread nD τ).loc main_arg0) = Layout.block ⟨2, ![4096, 512]⟩ ⟨2, ![4096, 4096]⟩ 1 8 c X)
    (hW : ∀ c : Dev nD, m ((c : Thread nD τ).loc main_arg1) = Layout.block ⟨2, ![512, 2048]⟩ ⟨2, ![4096, 2048]⟩ 0 8 c W)
    (ch : Fin 8) (q : Fin 4) (a b : Fin 512) :
    ∑ d : Dev nD, part m ρ d ch q a b
      = ∑ K : Fin 4096, X (ix2 ⟨512 * ch.val + a.val, by omega⟩ K) * W (ix2 K ⟨512 * q.val + b.val, by omega⟩) := by
  have e : ∀ d : Dev nD, part m ρ d ch q a b = ∑ k : Fin 512, (fun K : Fin 4096 =>
      X (ix2 ⟨512 * ch.val + a.val, by omega⟩ K) * W (ix2 K ⟨512 * q.val + b.val, by omega⟩)) ((finProdFinEquiv (d, k) : Fin (8 * 512))) := fun d => by
    unfold part dot
    refine Finset.sum_congr rfl fun k _ => ?_
    rw [xrow_apply, wcol_apply, hX d, hW d, Layout.block_apply, Layout.block_apply]
    refine congrArg₂ (· * ·) (congrArg X ?_) (congrArg W ?_)
    · funext i
      match i with
      | 0 => rfl
      | 1 => exact Fin.ext (by show d.val * 512 + k.val = k.val + 512 * d.val; omega)
    · funext i
      match i with
      | 0 => exact Fin.ext (by show d.val * 512 + k.val = k.val + 512 * d.val; omega)
      | 1 => rfl
  exact (Finset.sum_congr rfl fun d _ => e d).trans (sum_blocks fun K =>
    X (ix2 ⟨512 * ch.val + a.val, by omega⟩ K) * W (ix2 K ⟨512 * q.val + b.val, by omega⟩))

/-- Every element of the result: the gelu of the whole product's. -/
theorem outv_whole (X : (⟨2, ![4096, 4096]⟩ : Shape).Idx → EReal) (W : (⟨2, ![4096, 2048]⟩ : Shape).Idx → EReal)
    (hX : ∀ c : Dev nD, m ((c : Thread nD τ).loc main_arg0) = Layout.block ⟨2, ![4096, 512]⟩ ⟨2, ![4096, 4096]⟩ 1 8 c X)
    (hW : ∀ c : Dev nD, m ((c : Thread nD τ).loc main_arg1) = Layout.block ⟨2, ![512, 2048]⟩ ⟨2, ![4096, 2048]⟩ 0 8 c W)
    (i : Fin 4096) (j : Fin 2048) :
    outv m ρ (ix2 i j) = gelu (∑ K : Fin 4096, X (ix2 i K) * W (ix2 K j)) := by
  obtain ⟨ch, a, rfl⟩ : ∃ (ch : Fin 8) (a : Fin 512), i = ⟨512 * ch.val + a.val, by omega⟩ :=
    ⟨⟨i.val / 512, by omega⟩, ⟨i.val % 512, by omega⟩, Fin.ext (by show i.val = 512 * (i.val / 512) + i.val % 512; omega)⟩
  obtain ⟨q, b, rfl⟩ : ∃ (q : Fin 4) (b : Fin 512), j = ⟨512 * q.val + b.val, by omega⟩ :=
    ⟨⟨j.val / 512, by omega⟩, ⟨j.val % 512, by omega⟩, Fin.ext (by show j.val = 512 * (j.val / 512) + j.val % 512; omega)⟩
  rw [outv_emb m ρ ch q (ix2 a b) _ rfl rfl, resV, geluV_ix, Y_all, parts_whole m ρ X W hX hW]

end Cert.RingProof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Value
public import Idealize.ShloMosaic.Adequacy
public import Idealize.ShloMosaic.Init

@[expose] public section

noncomputable section

namespace Cert.Proof

open Idealize.ShloMosaic Idealize.SL.Sem Cert.Kernel

/-- The kernel's run at any values of the floats, read at its arguments and counters. -/
theorem frame_any {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) :=
  (θ_run Cert.KernelIdeal.defs _ _).mono
    (fun _ h => ⟨fun c => ⟨(h.1 c (0 : Fin 3)).trans (RingProof.finalA_x m ρ c),
      (h.1 c (1 : Fin 3)).trans (RingProof.finalA_w m ρ c)⟩, h.2⟩)
    (RingProof.run_main m ρ)

/-- The kernel over the reals. -/
theorem frame_kernelIdeal : Cert.quiescent_KernelIdeal := fun m ρ _ => frame_any (F := Ideal) m ρ

/-- The two programs' tables of bodies are one. -/
theorem bodies_eq : Cert.Kernel.defs₀ (F := Bits) = Cert.KernelIdeal.defs₀ (F := Bits) := by
  unfold Cert.Kernel.defs₀ Cert.KernelIdeal.defs₀
  refine congrArg Defs.onTc ?_
  funext l a
  match l, a with
  | 0, (t, s) => rfl
theorem defs_eq : Cert.Kernel.defs (F := Bits) = Cert.KernelIdeal.defs (F := Bits) := by
  unfold Cert.Kernel.defs Cert.KernelIdeal.defs
  exact congrArg (Pipeline.defs Cert.KernelIdeal.pcfgs) bodies_eq

/-- The kernel on bit patterns: the same run. -/
theorem frame_kernel : Cert.quiescent_Kernel := fun m ρ _ => by
  have h := frame_any (F := Bits) m ρ
  rw [← defs_eq] at h
  exact h

/-- The reference declares no semaphore. -/
theorem frame_referenceIdeal : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The reference's product, element by element. -/
theorem reference_ix (x : FVec Ideal Cert.ReferenceIdeal.S4096x4096 .bf16) (w : FVec Ideal Cert.ReferenceIdeal.S4096x2048 .bf16)
    (v : FVec Ideal Cert.ReferenceIdeal.S4096x2048 .f32)
    (hv : v = Host.dotGeneral Cert.ReferenceIdeal.dot_S4096x4096_S4096x2048_S4096x2048_1_0_0_1_n_n none x w)
    (i : Fin 4096) (j : Fin 2048) :
    v (ix2 i j) = ∑ K : Fin 4096, x (ix2 i K) * w (ix2 K j) := by
  subst hv
  refine (Ideal.dotGeneral_apply _ none _ x w (ix2 i j)).trans ?_
  refine (DotDims.sum_contr₁ Cert.ReferenceIdeal.dot_S4096x4096_S4096x2048_S4096x2048_1_0_0_1_n_n (a := 1) rfl (K := 4096) rfl _).trans ?_
  refine Finset.sum_congr rfl fun K _ => congrArg₂ (· * ·) (congrArg x ?_) (congrArg w ?_)
  · exact (Shape.Idx.norm2 _).trans rfl
  · exact (Shape.Idx.norm2 _).trans rfl

/-- The kernel and the reference compute one array over the extended reals. -/
theorem value : Cert.algebraic_KernelIdeal_ReferenceIdeal := by
  intro m ρ m' ρ' _ hag
  refine ⟨RingProof.outv (F := Ideal) m ρ, ?_, ?_⟩
  · exact (θ_run Cert.KernelIdeal.defs _ _).mono
      (fun _ h c => ⟨(h.1 c (2 : Fin 3)).trans (RingProof.finalA_out (F := Ideal) m ρ c),
        (h.1 c (0 : Fin 3)).trans (RingProof.finalA_x (F := Ideal) m ρ c),
        (h.1 c (1 : Fin 3)).trans (RingProof.finalA_w (F := Ideal) m ρ c)⟩)
      (RingProof.run_main (F := Ideal) m ρ)
  · refine (θ_run Cert.ReferenceIdeal.defs _ _).mono (fun _ h => ⟨(h 0).1.trans ?_, (h 0).2⟩)
      (Cert.ReferenceIdeal.Value.run (F := Ideal) m' ρ')
    generalize hv : Host.dotGeneral (F := Ideal) Cert.ReferenceIdeal.dot_S4096x4096_S4096x2048_S4096x2048_1_0_0_1_n_n none
      (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)) = v
    funext k
    obtain ⟨i, j, rfl⟩ : ∃ (i : Fin 4096) (j : Fin 2048), k = ix2 i j := ⟨k 0, k 1, eq_ix2 k⟩
    refine Eq.trans ?_ (RingProof.outv_whole m ρ _ _ (fun c => (hag c).1) (fun c => (hag c).2) i j).symm
    rw [← reference_ix _ _ v hv.symm i j]
    rfl

theorem claim : Cert.Claim := ⟨Cert.Kernel.Gen.facts, Cert.KernelIdeal.Gen.facts, Cert.ReferenceIdeal.Gen.facts,
  frame_kernel, frame_kernelIdeal, frame_referenceIdeal, trivial, value⟩

end Cert.Proof

end
